-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Pre_PreIdeal : Prop :=
  True

def algebraic_PreIdeal_PreReferenceIdeal [hPreIdeal : Cert.PreIdeal.Facts] [hPreReferenceIdeal : Cert.PreReferenceIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreIdeal m →
    (∀ c : Dev Cert.PreIdeal.nD,
      m' ((c.tc : Thread Cert.PreReferenceIdeal.nD Cert.PreReferenceIdeal.τ).loc Cert.PreReferenceIdeal.main_arg0) = m ((c.tc : Thread Cert.PreIdeal.nD Cert.PreIdeal.τ).loc Cert.PreIdeal.main_arg0)
      ∧ m' ((c.tc : Thread Cert.PreReferenceIdeal.nD Cert.PreReferenceIdeal.τ).loc Cert.PreReferenceIdeal.main_arg1) = m ((c.tc : Thread Cert.PreIdeal.nD Cert.PreIdeal.τ).loc Cert.PreIdeal.main_arg1)
      ∧ m' ((c.tc : Thread Cert.PreReferenceIdeal.nD Cert.PreReferenceIdeal.τ).loc Cert.PreReferenceIdeal.main_arg2) = m ((c.tc : Thread Cert.PreIdeal.nD Cert.PreIdeal.τ).loc Cert.PreIdeal.main_arg2)
      ∧ m' ((c.tc : Thread Cert.PreReferenceIdeal.nD Cert.PreReferenceIdeal.τ).loc Cert.PreReferenceIdeal.main_arg3) = m ((c.tc : Thread Cert.PreIdeal.nD Cert.PreIdeal.τ).loc Cert.PreIdeal.main_arg3)
      ∧ m' ((c.tc : Thread Cert.PreReferenceIdeal.nD Cert.PreReferenceIdeal.τ).loc Cert.PreReferenceIdeal.main_arg4) = m ((c.tc : Thread Cert.PreIdeal.nD Cert.PreIdeal.τ).loc Cert.PreIdeal.main_arg4)
      ∧ m' ((c.tc : Thread Cert.PreReferenceIdeal.nD Cert.PreReferenceIdeal.τ).loc Cert.PreReferenceIdeal.main_arg5) = m ((c.tc : Thread Cert.PreIdeal.nD Cert.PreIdeal.τ).loc Cert.PreIdeal.main_arg5)
      ∧ m' ((c.tc : Thread Cert.PreReferenceIdeal.nD Cert.PreReferenceIdeal.τ).loc Cert.PreReferenceIdeal.main_arg6) = m ((c.tc : Thread Cert.PreIdeal.nD Cert.PreIdeal.τ).loc Cert.PreIdeal.main_arg6)
      ∧ m' ((c.tc : Thread Cert.PreReferenceIdeal.nD Cert.PreReferenceIdeal.τ).loc Cert.PreReferenceIdeal.main_arg7) = m ((c.tc : Thread Cert.PreIdeal.nD Cert.PreIdeal.τ).loc Cert.PreIdeal.main_arg7)) →
    ∃ (v0 : (c : Dev Cert.PreIdeal.nD) → Buf (Elt Ideal) ((c.tc : Thread Cert.PreIdeal.nD Cert.PreIdeal.τ).loc Cert.PreIdeal.main_v19_0)) (v1 : (c : Dev Cert.PreIdeal.nD) → Buf (Elt Ideal) ((c.tc : Thread Cert.PreIdeal.nD Cert.PreIdeal.τ).loc Cert.PreIdeal.main_v19_1)) (v2 : (c : Dev Cert.PreIdeal.nD) → Buf (Elt Ideal) ((c.tc : Thread Cert.PreIdeal.nD Cert.PreIdeal.τ).loc Cert.PreIdeal.main_v19_2)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v19_0) = v0 c
          ∧ r.2.mem ((c.tc : Thread Cert.PreIdeal.nD Cert.PreIdeal.τ).loc Cert.PreIdeal.main_v19_1) = v1 c
          ∧ r.2.mem ((c.tc : Thread Cert.PreIdeal.nD Cert.PreIdeal.τ).loc Cert.PreIdeal.main_v19_2) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v81) = v0 c
          ∧ r.2.mem ((c.tc : Thread Cert.PreReferenceIdeal.nD Cert.PreReferenceIdeal.τ).loc Cert.PreReferenceIdeal.main_v83) = v1 c
          ∧ r.2.mem ((c.tc : Thread Cert.PreReferenceIdeal.nD Cert.PreReferenceIdeal.τ).loc Cert.PreReferenceIdeal.main_v84) = v2 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v49) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def Claim : Prop :=
  ∃ (hKernel : Cert.Kernel.Facts) (hKernelIdeal : Cert.KernelIdeal.Facts) (hReferenceIdeal : Cert.ReferenceIdeal.Facts) (hPre : Cert.Pre.Facts) (hPreIdeal : Cert.PreIdeal.Facts) (hPreReferenceIdeal : Cert.PreReferenceIdeal.Facts) (hPost : Cert.Post.Facts) (hPostIdeal : Cert.PostIdeal.Facts) (hPostReferenceIdeal : Cert.PostReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Pre (hPre := hPre)
    ∧ quiescent_PreIdeal (hPreIdeal := hPreIdeal)
    ∧ quiescent_PreReferenceIdeal (hPreReferenceIdeal := hPreReferenceIdeal)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal (hKernelIdeal := hKernelIdeal) (hReferenceIdeal := hReferenceIdeal)
    ∧ preserves_Pre_PreIdeal
    ∧ algebraic_PreIdeal_PreReferenceIdeal (hPreIdeal := hPreIdeal) (hPreReferenceIdeal := hPreReferenceIdeal)
    ∧ preserves_Post_PostIdeal
    ∧ algebraic_PostIdeal_PostReferenceIdeal (hPostIdeal := hPostIdeal) (hPostReferenceIdeal := hPostReferenceIdeal)
-- ==== Kernel.lean ====
abbrev S1x64x64x64 : Shape := ⟨4, ![1, 64, 64, 64]⟩
abbrev S256x64 : Shape := ⟨2, ![256, 64]⟩
abbrev S128x1x3x3 : Shape := ⟨4, ![128, 1, 3, 3]⟩
abbrev S128 : Shape := ⟨1, ![128]⟩
abbrev S4x36x128 : Shape := ⟨3, ![4, 36, 128]⟩
abbrev S4x128x4 : Shape := ⟨3, ![4, 128, 4]⟩
abbrev S4x128 : Shape := ⟨2, ![4, 128]⟩
abbrev S512x16 : Shape := ⟨2, ![512, 16]⟩
abbrev S512 : Shape := ⟨1, ![512]⟩
abbrev S64x128 : Shape := ⟨2, ![64, 128]⟩
abbrev S64x64x64 : Shape := ⟨3, ![64, 64, 64]⟩
abbrev S2x64x64x64 : Shape := ⟨4, ![2, 64, 64, 64]⟩
abbrev S1x256x64 : Shape := ⟨3, ![1, 256, 64]⟩
abbrev S2x256x64 : Shape := ⟨3, ![2, 256, 64]⟩
abbrev S128x9 : Shape := ⟨2, ![128, 9]⟩
abbrev S9x128 : Shape := ⟨2, ![9, 128]⟩
abbrev S1x9x128 : Shape := ⟨3, ![1, 9, 128]⟩
abbrev S2x9x128 : Shape := ⟨3, ![2, 9, 128]⟩
abbrev S1x128 : Shape := ⟨2, ![1, 128]⟩
abbrev S2x128 : Shape := ⟨2, ![2, 128]⟩
abbrev S2x1x128 : Shape := ⟨3, ![2, 1, 128]⟩
abbrev S2x4096x128 : Shape := ⟨3, ![2, 4096, 128]⟩
abbrev S1x1x128 : Shape := ⟨3, ![1, 1, 128]⟩
abbrev S1x4096x128 : Shape := ⟨3, ![1, 4096, 128]⟩
abbrev S4096x64 : Shape := ⟨2, ![4096, 64]⟩
abbrev S4096x256 : Shape := ⟨2, ![4096, 256]⟩
abbrev S4096x128 : Shape := ⟨2, ![4096, 128]⟩
abbrev S64x64x128 : Shape := ⟨3, ![64, 64, 128]⟩
abbrev S64x1x128 : Shape := ⟨3, ![64, 1, 128]⟩
abbrev S1x64x128 : Shape := ⟨3, ![1, 64, 128]⟩
abbrev S64x63x128 : Shape := ⟨3, ![64, 63, 128]⟩
abbrev S63x64x128 : Shape := ⟨3, ![63, 64, 128]⟩
abbrev S4x1x128 : Shape := ⟨3, ![4, 1, 128]⟩
abbrev S4x128x16 : Shape := ⟨3, ![4, 128, 16]⟩
abbrev S4x16x128 : Shape := ⟨3, ![4, 16, 128]⟩
abbrev S2x2x4096x128 : Shape := ⟨4, ![2, 2, 4096, 128]⟩
abbrev S2x256x128 : Shape := ⟨3, ![2, 256, 128]⟩
abbrev S2x36x128 : Shape := ⟨3, ![2, 36, 128]⟩
abbrev S2x128x4 : Shape := ⟨3, ![2, 128, 4]⟩
abbrev S2x16x128 : Shape := ⟨3, ![2, 16, 128]⟩
abbrev S2x1x256x128 : Shape := ⟨4, ![2, 1, 256, 128]⟩
abbrev S256x16x256 : Shape := ⟨3, ![256, 16, 256]⟩
abbrev S16x256 : Shape := ⟨2, ![16, 256]⟩
abbrev S1x256x128 : Shape := ⟨3, ![1, 256, 128]⟩
abbrev S256x128 : Shape := ⟨2, ![256, 128]⟩
abbrev S1x36x128 : Shape := ⟨3, ![1, 36, 128]⟩
abbrev S36x128 : Shape := ⟨2, ![36, 128]⟩
abbrev S256x36 : Shape := ⟨2, ![256, 36]⟩
abbrev S256x4 : Shape := ⟨2, ![256, 4]⟩
abbrev S1x128x4 : Shape := ⟨3, ![1, 128, 4]⟩
abbrev S128x4 : Shape := ⟨2, ![128, 4]⟩
abbrev S1x16x128 : Shape := ⟨3, ![1, 16, 128]⟩
abbrev S16x128 : Shape := ⟨2, ![16, 128]⟩
abbrev S256x1x36 : Shape := ⟨3, ![256, 1, 36]⟩
abbrev S256x16x36 : Shape := ⟨3, ![256, 16, 36]⟩
abbrev S4096x36 : Shape := ⟨2, ![4096, 36]⟩
abbrev S4096x72 : Shape := ⟨2, ![4096, 72]⟩
abbrev S72x256 : Shape := ⟨2, ![72, 256]⟩
abbrev S256x16x128 : Shape := ⟨3, ![256, 16, 128]⟩
abbrev S256x1x128 : Shape := ⟨3, ![256, 1, 128]⟩
abbrev S1x16x256 : Shape := ⟨3, ![1, 16, 256]⟩
abbrev S1x1x256x128 : Shape := ⟨4, ![1, 1, 256, 128]⟩
abbrev S2x2x64x64x128 : Shape := ⟨5, ![2, 2, 64, 64, 128]⟩
abbrev S2x64x128 : Shape := ⟨3, ![2, 64, 128]⟩
abbrev S2x4096x64 : Shape := ⟨3, ![2, 4096, 64]⟩
abbrev S1x2x1024x128 : Shape := ⟨4, ![1, 2, 1024, 128]⟩
abbrev S1x2x64x16x128 : Shape := ⟨5, ![1, 2, 64, 16, 128]⟩
abbrev S1x1024x128 : Shape := ⟨3, ![1, 1024, 128]⟩
abbrev S1x1024x64 : Shape := ⟨3, ![1, 1024, 64]⟩
abbrev S2x1024x128 : Shape := ⟨3, ![2, 1024, 128]⟩
abbrev S1024x128 : Shape := ⟨2, ![1024, 128]⟩
abbrev S2x64x16x128 : Shape := ⟨4, ![2, 64, 16, 128]⟩
abbrev S64x16x128 : Shape := ⟨3, ![64, 16, 128]⟩
abbrev S16x64x128 : Shape := ⟨3, ![16, 64, 128]⟩
abbrev S1024 : Shape := ⟨1, ![1024]⟩
abbrev S1024x1 : Shape := ⟨2, ![1024, 1]⟩
abbrev S1024x64 : Shape := ⟨2, ![1024, 64]⟩
abbrev S1x4096x64 : Shape := ⟨3, ![1, 4096, 64]⟩

abbrev nBuf : Space → Nat
  | .hbm => 75
  | .vmem => 62
  | .smem => 0
  | _ => 0

abbrev bufTy : (tb : Table) → Fin (tcTables nBuf tb) → BufTy
  | .hbm, ⟨0, _⟩ => ⟨S1x64x64x64, .f32⟩
  | .hbm, ⟨1, _⟩ => ⟨S1x64x64x64, .f32⟩
  | .hbm, ⟨2, _⟩ => ⟨S256x64, .f32⟩
  | .hbm, ⟨3, _⟩ => ⟨S256x64, .f32⟩
  | .hbm, ⟨4, _⟩ => ⟨S128x1x3x3, .f32⟩
  | .hbm, ⟨5, _⟩ => ⟨S128, .f32⟩
  | .hbm, ⟨6, _⟩ => ⟨S128x1x3x3, .f32⟩
  | .hbm, ⟨7, _⟩ => ⟨S128, .f32⟩
  | .hbm, ⟨8, _⟩ => ⟨S4x36x128, .f32⟩
  | .hbm, ⟨9, _⟩ => ⟨S4x36x128, .f32⟩
  | .hbm, ⟨10, _⟩ => ⟨S4x128x4, .f32⟩
  | .hbm, ⟨11, _⟩ => ⟨S4x128x4, .f32⟩
  | .hbm, ⟨12, _⟩ => ⟨S4x128, .f32⟩
  | .hbm, ⟨13, _⟩ => ⟨S4x128, .f32⟩
  | .hbm, ⟨14, _⟩ => ⟨S512x16, .f32⟩
  | .hbm, ⟨15, _⟩ => ⟨S512x16, .f32⟩
  | .hbm, ⟨16, _⟩ => ⟨S512, .f32⟩
  | .hbm, ⟨17, _⟩ => ⟨S512, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S64x128, .f32⟩
  | .hbm, ⟨23, _⟩ => ⟨S64x128, .f32⟩
  | .hbm, ⟨24, _⟩ => ⟨S64x64x64, .f32⟩
  | .hbm, ⟨25, _⟩ => ⟨S64x64x64, .f32⟩
  | .hbm, ⟨26, _⟩ => ⟨S1x64x64x64, .f32⟩
  | .hbm, ⟨27, _⟩ => ⟨S1x64x64x64, .f32⟩
  | .hbm, ⟨28, _⟩ => ⟨S2x64x64x64, .f32⟩
  | .hbm, ⟨29, _⟩ => ⟨S1x256x64, .f32⟩
  | .hbm, ⟨30, _⟩ => ⟨S1x256x64, .f32⟩
  | .hbm, ⟨31, _⟩ => ⟨S2x256x64, .f32⟩
  | .hbm, ⟨32, _⟩ => ⟨S128x9, .f32⟩
  | .hbm, ⟨33, _⟩ => ⟨S9x128, .f32⟩
  | .hbm, ⟨34, _⟩ => ⟨S128x9, .f32⟩
  | .hbm, ⟨35, _⟩ => ⟨S9x128, .f32⟩
  | .hbm, ⟨36, _⟩ => ⟨S1x9x128, .f32⟩
  | .hbm, ⟨37, _⟩ => ⟨S1x9x128, .f32⟩
  | .hbm, ⟨38, _⟩ => ⟨S2x9x128, .f32⟩
  | .hbm, ⟨39, _⟩ => ⟨S1x128, .f32⟩
  | .hbm, ⟨40, _⟩ => ⟨S1x128, .f32⟩
  | .hbm, ⟨41, _⟩ => ⟨S2x128, .f32⟩
  | .hbm, ⟨42, _⟩ => ⟨S2x1x128, .f32⟩
  | .hbm, ⟨43, _⟩ => ⟨S2x4096x128, .f32⟩
  | .hbm, ⟨44, _⟩ => ⟨S2x4096x128, .f32⟩
  | .hbm, ⟨45, _⟩ => ⟨S2x4096x128, .f32⟩
  | .hbm, ⟨46, _⟩ => ⟨S4x1x128, .f32⟩
  | .hbm, ⟨47, _⟩ => ⟨S4x1x128, .f32⟩
  | .hbm, ⟨48, _⟩ => ⟨S4x1x128, .f32⟩
  | .hbm, ⟨49, _⟩ => ⟨S4x1x128, .f32⟩
  | .hbm, ⟨50, _⟩ => ⟨S4x128x16, .f32⟩
  | .hbm, ⟨51, _⟩ => ⟨S4x16x128, .f32⟩
  | .hbm, ⟨52, _⟩ => ⟨S4x128x16, .f32⟩
  | .hbm, ⟨53, _⟩ => ⟨S4x16x128, .f32⟩
  | .hbm, ⟨54, _⟩ => ⟨S2x2x4096x128, .f32⟩
  | .hbm, ⟨55, _⟩ => ⟨S2x2x4096x128, .f32⟩
  | .hbm, ⟨56, _⟩ => ⟨S2x2x64x64x128, .f32⟩
  | .hbm, ⟨57, _⟩ => ⟨S1x128, .f32⟩
  | .hbm, ⟨58, _⟩ => ⟨S1x128, .f32⟩
  | .hbm, ⟨59, _⟩ => ⟨S2x128, .f32⟩
  | .hbm, ⟨60, _⟩ => ⟨S2x1x128, .f32⟩
  | .hbm, ⟨61, _⟩ => ⟨S1x128, .f32⟩
  | .hbm, ⟨62, _⟩ => ⟨S1x128, .f32⟩
  | .hbm, ⟨63, _⟩ => ⟨S2x128, .f32⟩
  | .hbm, ⟨64, _⟩ => ⟨S2x1x128, .f32⟩
  | .hbm, ⟨65, _⟩ => ⟨S1x64x128, .f32⟩
  | .hbm, ⟨66, _⟩ => ⟨S1x64x128, .f32⟩
  | .hbm, ⟨67, _⟩ => ⟨S2x64x128, .f32⟩
  | .hbm, ⟨68, _⟩ => ⟨S2x4096x64, .f32⟩
  | .hbm, ⟨69, _⟩ => ⟨S1x4096x64, .f32⟩
  | .hbm, ⟨70, _⟩ => ⟨S4096x64, .f32⟩
  | .hbm, ⟨71, _⟩ => ⟨S1x64x64x64, .f32⟩
  | .hbm, ⟨72, _⟩ => ⟨S1x4096x64, .f32⟩
  | .hbm, ⟨73, _⟩ => ⟨S4096x64, .f32⟩
  | .hbm, ⟨74, _⟩ => ⟨S1x64x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S1x256x64, .f32⟩
  | .local _ .vmem, ⟨3, _⟩ => ⟨S1x256x64, .f32⟩
  | .local _ .vmem, ⟨4, _⟩ => ⟨S1x9x128, .f32⟩
  | .local _ .vmem, ⟨5, _⟩ => ⟨S1x9x128, .f32⟩
  | .local _ .vmem, ⟨6, _⟩ => ⟨S1x1x128, .f32⟩
  | .local _ .vmem, ⟨7, _⟩ => ⟨S1x1x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S2x256x128, .f32⟩
  | .local _ .vmem, ⟨15, _⟩ => ⟨S2x256x128, .f32⟩
  | .local _ .vmem, ⟨16, _⟩ => ⟨S2x256x128, .f32⟩
  | .local _ .vmem, ⟨17, _⟩ => ⟨S2x256x128, .f32⟩
  | .local _ .vmem, ⟨18, _⟩ => ⟨S2x36x128, .f32⟩
  | .local _ .vmem, ⟨19, _⟩ => ⟨S2x36x128, .f32⟩
  | .local _ .vmem, ⟨20, _⟩ => ⟨S2x128x4, .f32⟩
  | .local _ .vmem, ⟨21, _⟩ => ⟨S2x128x4, .f32⟩
  | .local _ .vmem, ⟨22, _⟩ => ⟨S2x128x4, .f32⟩
  | .local _ .vmem, ⟨23, _⟩ => ⟨S2x128x4, .f32⟩
  | .local _ .vmem, ⟨24, _⟩ => ⟨S2x1x128, .f32⟩
  | .local _ .vmem, ⟨25, _⟩ => ⟨S2x1x128, .f32⟩
  | .local _ .vmem, ⟨26, _⟩ => ⟨S2x1x128, .f32⟩
  | .local _ .vmem, ⟨27, _⟩ => ⟨S2x1x128, .f32⟩
  | .local _ .vmem, ⟨28, _⟩ => ⟨S2x16x128, .f32⟩
  | .local _ .vmem, ⟨29, _⟩ => ⟨S2x16x128, .f32⟩
  | .local _ .vmem, ⟨30, _⟩ => ⟨S2x16x128, .f32⟩
  | .local _ .vmem, ⟨31, _⟩ => ⟨S2x16x128, .f32⟩
  | .local _ .vmem, ⟨32, _⟩ => ⟨S2x1x128, .f32⟩
  | .local _ .vmem, ⟨33, _⟩ => ⟨S2x1x128, .f32⟩
  | .local _ .vmem, ⟨34, _⟩ => ⟨S2x1x128, .f32⟩
  | .local _ .vmem, ⟨35, _⟩ => ⟨S2x1x128, .f32⟩
  | .local _ .vmem, ⟨36, _⟩ => ⟨S2x1x256x128, .f32⟩
  | .local _ .vmem, ⟨37, _⟩ => ⟨S2x1x256x128, .f32⟩
  | .local _ .vmem, ⟨38, _⟩ => ⟨S2x1x256x128, .f32⟩
  | .local _ .vmem, ⟨39, _⟩ => ⟨S2x1x256x128, .f32⟩
  | .local _ .vmem, ⟨40, _⟩ => ⟨S256x16x256, .f32⟩
  | .local _ .vmem, ⟨41, _⟩ => ⟨S256x16x256, .f32⟩
  | .local _ .vmem, ⟨42, _⟩ => ⟨S256x16x256, .f32⟩
  | .local _ .vmem, ⟨43, _⟩ => ⟨S256x16x256, .f32⟩
  | .local _ .vmem, ⟨44, _⟩ => ⟨S256x16x256, .f32⟩
  | .local _ .vmem, ⟨45, _⟩ => ⟨S256x16x256, .f32⟩
  | .local _ .vmem, ⟨46, _⟩ => ⟨S16x256, .f32⟩
  | .local _ .vmem, ⟨47, _⟩ => ⟨S16x256, .f32⟩
  | .local _ .vmem, ⟨48, _⟩ => ⟨S1x2x1024x128, .f32⟩
  | .local _ .vmem, ⟨49, _⟩ => ⟨S1x2x1024x128, .f32⟩
  | .local _ .vmem, ⟨50, _⟩ => ⟨S1x2x64x16x128, .f32⟩
  | .local _ .vmem, ⟨51, _⟩ => ⟨S1x2x64x16x128, .f32⟩
  | .local _ .vmem, ⟨52, _⟩ => ⟨S1x1024x128, .f32⟩
  | .local _ .vmem, ⟨53, _⟩ => ⟨S1x1024x128, .f32⟩
  | .local _ .vmem, ⟨54, _⟩ => ⟨S1x1x128, .f32⟩
  | .local _ .vmem, ⟨55, _⟩ => ⟨S1x1x128, .f32⟩
  | .local _ .vmem, ⟨56, _⟩ => ⟨S1x1x128, .f32⟩
  | .local _ .vmem, ⟨57, _⟩ => ⟨S1x1x128, .f32⟩
  | .local _ .vmem, ⟨58, _⟩ => ⟨S1x64x128, .f32⟩
  | .local _ .vmem, ⟨59, _⟩ => ⟨S1x64x128, .f32⟩
  | .local _ .vmem, ⟨60, _⟩ => ⟨S1x1024x64, .f32⟩
  | .local _ .vmem, ⟨61, _⟩ => ⟨S1x1024x64, .f32⟩
  | _, _ => ⟨S1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_v19_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_scratch0 : Ref sig .tc := ⟨.vmem, 40, rfl⟩
abbrev cc1_scratch1 : Ref sig .tc := ⟨.vmem, 41, rfl⟩
abbrev cc1_scratch2 : Ref sig .tc := ⟨.vmem, 42, rfl⟩
abbrev cc1_scratch3 : Ref sig .tc := ⟨.vmem, 43, rfl⟩
abbrev cc1_scratch4 : Ref sig .tc := ⟨.vmem, 44, rfl⟩
abbrev cc1_scratch5 : Ref sig .tc := ⟨.vmem, 45, rfl⟩
abbrev cc1_scratch6 : Ref sig .tc := ⟨.vmem, 46, rfl⟩
abbrev cc1_scratch7 : Ref sig .tc := ⟨.vmem, 47, rfl⟩
abbrev cc2_stg0_0 : Ref sig .tc := ⟨.vmem, 48, rfl⟩
abbrev cc2_stg0_1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc2_stg3_0 : Ref sig .tc := ⟨.vmem, 54, rfl⟩
abbrev cc2_stg3_1 : Ref sig .tc := ⟨.vmem, 55, rfl⟩
abbrev cc2_stg4_0 : Ref sig .tc := ⟨.vmem, 56, rfl⟩
abbrev cc2_stg4_1 : Ref sig .tc := ⟨.vmem, 57, rfl⟩
abbrev cc2_stg5_0 : Ref sig .tc := ⟨.vmem, 58, rfl⟩
abbrev cc2_stg5_1 : Ref sig .tc := ⟨.vmem, 59, rfl⟩
abbrev cc2_stg6_0 : Ref sig .tc := ⟨.vmem, 60, rfl⟩
abbrev cc2_stg6_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem5_1 : DmaSem sig := 51
abbrev cc2_sem6_0 : DmaSem sig := 52
abbrev cc2_sem6_1 : DmaSem sig := 53

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32_123 : BitVec 32 := 0#32
  let c256_i32 : BitVec 32 := 256#32
  let v251 : BitVec 32 := Scalar.addi c0_i32_123 c256_i32
  let c1_i32_124 : BitVec 32 := 1#32
  ⟨c0_i32_123, v251, c1_i32_124⟩
def k1_off1 (i : grid1.Coords) (k1_t1 : Fin k1_t1_loop.trips) : Fin 3 → Nat :=
  let arg0 : BitVec 32 := BitVec.ofNat 32 (i 0).val
  let c0_i32_116 : BitVec 32 := 0#32
  let v245 : BitVec 1 := Scalar.cmpi .eq arg0 c0_i32_116
  let c0_i32_117 : BitVec 32 := 0#32
  let c255_i32 : BitVec 32 := 255#32
  let v246 : BitVec 32 := Scalar.select v245 c0_i32_117 c255_i32
  let c0_i32_118 : BitVec 32 := 0#32
  let v247 : BitVec 1 := Scalar.cmpi .eq arg0 c0_i32_118
  let c1_i32 : BitVec 32 := 1#32
  let c_m1_i32 : BitVec 32 := 4294967295#32
  let v248 : BitVec 32 := Scalar.select v247 c1_i32 c_m1_i32
  let c0_i32_123 : BitVec 32 := 0#32
  let c1_i32_124 : BitVec 32 := 1#32
  let arg23 : BitVec 32 := Scf.iv c0_i32_123 c1_i32_124 k1_t1
  let v303 : BitVec 32 := Scalar.muli v248 arg23
  let v304 : BitVec 32 := Scalar.addi v246 v303
  let v305 : Index := Scalar.indexCast v304
  let c0_174 : Index := 0#32
  let c0_175 : Index := 0#32
  ![v305.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.subi c15_i32 arg1
  let v2 : BitVec 32 := Scalar.select v0 arg1 v1
  let c0_i32_0 : BitVec 32 := 0#32
  let c0_i32_1 : BitVec 32 := 0#32
  let c0_i32_2 : BitVec 32 := 0#32
  ![c0_i32_0.toNat, v2.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.subi c15_i32 arg1
  let v2 : BitVec 32 := Scalar.select v0 arg1 v1
  let c0_i32_0 : BitVec 32 := 0#32
  let c0_i32_1 : BitVec 32 := 0#32
  let c0_i32_2 : BitVec 32 := 0#32
  ![c0_i32_0.toNat, v2.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.subi c15_i32 arg1
  let v2 : BitVec 32 := Scalar.select v0 arg1 v1
  let c0_i32_0 : BitVec 32 := 0#32
  let c0_i32_1 : BitVec 32 := 0#32
  let c0_i32_2 : BitVec 32 := 0#32
  ![c0_i32_0.toNat, arg0.toNat, v2.toNat, c0_i32_1.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.subi c15_i32 arg1
  let v2 : BitVec 32 := Scalar.select v0 arg1 v1
  let c0_i32_0 : BitVec 32 := 0#32
  let c0_i32_1 : BitVec 32 := 0#32
  let c0_i32_2 : BitVec 32 := 0#32
  ![c0_i32_0.toNat, arg0.toNat, v2.toNat, c0_i32_1.toNat]

abbrev stage1_0 : Fin 2 → Memref sig .tc .vmem S2x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x36x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x128x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x128x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2x16x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x16x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S2x1x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x1x256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2x64x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S1x64x64x64 : Shape := ⟨4, ![1, 64, 64, 64]⟩
abbrev S256x64 : Shape := ⟨2, ![256, 64]⟩
abbrev S128x1x3x3 : Shape := ⟨4, ![128, 1, 3, 3]⟩
abbrev S128 : Shape := ⟨1, ![128]⟩
abbrev S4x36x128 : Shape := ⟨3, ![4, 36, 128]⟩
abbrev S4x128x4 : Shape := ⟨3, ![4, 128, 4]⟩
abbrev S4x128 : Shape := ⟨2, ![4, 128]⟩
abbrev S512x16 : Shape := ⟨2, ![512, 16]⟩
abbrev S512 : Shape := ⟨1, ![512]⟩
abbrev S64x128 : Shape := ⟨2, ![64, 128]⟩
abbrev S2x64x64x64 : Shape := ⟨4, ![2, 64, 64, 64]⟩
abbrev S1x256x64 : Shape := ⟨3, ![1, 256, 64]⟩
abbrev S2x256x64 : Shape := ⟨3, ![2, 256, 64]⟩
abbrev S2x64x64x256 : Shape := ⟨4, ![2, 64, 64, 256]⟩
abbrev S2x64x64x128 : Shape := ⟨4, ![2, 64, 64, 128]⟩
abbrev S1x128x1x3x3 : Shape := ⟨5, ![1, 128, 1, 3, 3]⟩
abbrev S2x128x1x3x3 : Shape := ⟨5, ![2, 128, 1, 3, 3]⟩
abbrev S2x128x3x3 : Shape := ⟨4, ![2, 128, 3, 3]⟩
abbrev S1x128 : Shape := ⟨2, ![1, 128]⟩
abbrev S2x128 : Shape := ⟨2, ![2, 128]⟩
abbrev S_ : Shape := ⟨0, ![]⟩
abbrev S2x66x66x128 : Shape := ⟨4, ![2, 66, 66, 128]⟩
abbrev S2x1x1x128 : Shape := ⟨4, ![2, 1, 1, 128]⟩
abbrev S2x128x1x1 : Shape := ⟨4, ![2, 128, 1, 1]⟩
abbrev S2x4096x128 : Shape := ⟨3, ![2, 4096, 128]⟩
abbrev S2x1x4096x128 : Shape := ⟨4, ![2, 1, 4096, 128]⟩
abbrev S2x4x4096x128 : Shape := ⟨4, ![2, 4, 4096, 128]⟩
abbrev S1x4x4096x128 : Shape := ⟨4, ![1, 4, 4096, 128]⟩
abbrev S4x4096x128 : Shape := ⟨3, ![4, 4096, 128]⟩
abbrev S4x4096x36 : Shape := ⟨3, ![4, 4096, 36]⟩
abbrev S4x4096x4 : Shape := ⟨3, ![4, 4096, 4]⟩
abbrev S4x4096x16 : Shape := ⟨3, ![4, 4096, 16]⟩
abbrev S1x4x128x4 : Shape := ⟨4, ![1, 4, 128, 4]⟩
abbrev S2x4x128x4 : Shape := ⟨4, ![2, 4, 128, 4]⟩
abbrev S4x2x128x4096 : Shape := ⟨4, ![4, 2, 128, 4096]⟩
abbrev S1x512x16 : Shape := ⟨3, ![1, 512, 16]⟩
abbrev S2x512x16 : Shape := ⟨3, ![2, 512, 16]⟩
abbrev S2x4x128x16 : Shape := ⟨4, ![2, 4, 128, 16]⟩
abbrev S1x512 : Shape := ⟨2, ![1, 512]⟩
abbrev S2x512 : Shape := ⟨2, ![2, 512]⟩
abbrev S2x4x128 : Shape := ⟨3, ![2, 4, 128]⟩
abbrev S1x4x128 : Shape := ⟨3, ![1, 4, 128]⟩
abbrev S2x4x1x128 : Shape := ⟨4, ![2, 4, 1, 128]⟩
abbrev S2x4x4096x128x1 : Shape := ⟨5, ![2, 4, 4096, 128, 1]⟩
abbrev S2x4x1x128x16 : Shape := ⟨5, ![2, 4, 1, 128, 16]⟩
abbrev S2x4x4096x128x16 : Shape := ⟨5, ![2, 4, 4096, 128, 16]⟩
abbrev S4096x2x4x128x16 : Shape := ⟨5, ![4096, 2, 4, 128, 16]⟩
abbrev S4x4096x1x16 : Shape := ⟨4, ![4, 4096, 1, 16]⟩
abbrev S1x4x4096x1x16 : Shape := ⟨5, ![1, 4, 4096, 1, 16]⟩
abbrev S1x2x4x128x16 : Shape := ⟨5, ![1, 2, 4, 128, 16]⟩
abbrev S4x4096x2x128 : Shape := ⟨4, ![4, 4096, 2, 128]⟩
abbrev S2x2x4096x128 : Shape := ⟨4, ![2, 2, 4096, 128]⟩
abbrev S2x2x64x64x128 : Shape := ⟨5, ![2, 2, 64, 64, 128]⟩
abbrev S2x4096 : Shape := ⟨2, ![2, 4096]⟩
abbrev S2x4096x1 : Shape := ⟨3, ![2, 4096, 1]⟩
abbrev S2x1x128 : Shape := ⟨3, ![2, 1, 128]⟩
abbrev S1x64x128 : Shape := ⟨3, ![1, 64, 128]⟩
abbrev S2x64x128 : Shape := ⟨3, ![2, 64, 128]⟩
abbrev S2x4096x64 : Shape := ⟨3, ![2, 4096, 64]⟩
abbrev S2x1x64x64x64 : Shape := ⟨5, ![2, 1, 64, 64, 64]⟩
abbrev S1x1x64x64x64 : Shape := ⟨5, ![1, 1, 64, 64, 64]⟩

abbrev nBuf : Space → Nat
  | .hbm => 306
  | .vmem => 0
  | .smem => 0
  | _ => 0

abbrev hbmTy0_0 (i : Nat) : BufTy := match i % 128 with
  | 0 => ⟨S1x64x64x64, .f32⟩
  | 1 => ⟨S1x64x64x64, .f32⟩
  | 2 => ⟨S256x64, .f32⟩
  | 3 => ⟨S256x64, .f32⟩
  | 4 => ⟨S128x1x3x3, .f32⟩
  | 5 => ⟨S128, .f32⟩
  | 6 => ⟨S128x1x3x3, .f32⟩
  | 7 => ⟨S128, .f32⟩
  | 8 => ⟨S4x36x128, .f32⟩
  | 9 => ⟨S4x36x128, .f32⟩
  | 10 => ⟨S4x128x4, .f32⟩
  | 11 => ⟨S4x128x4, .f32⟩
  | 12 => ⟨S4x128, .f32⟩
  | 13 => ⟨S4x128, .f32⟩
  | 14 => ⟨S512x16, .f32⟩
  | 15 => ⟨S512x16, .f32⟩
  | 16 => ⟨S512, .f32⟩
  | 17 => ⟨S512, .f32⟩
  | 18 => ⟨S128, .f32⟩
  | 19 => ⟨S128, .f32⟩
  | 20 => ⟨S128, .f32⟩
  | 21 => ⟨S128, .f32⟩
  | 22 => ⟨S64x128, .f32⟩
  | 23 => ⟨S64x128, .f32⟩
  | 24 => ⟨S2x64x64x64, .f32⟩
  | 25 => ⟨S1x256x64, .f32⟩
  | 26 => ⟨S1x256x64, .f32⟩
  | 27 => ⟨S2x256x64, .f32⟩
  | 28 => ⟨S2x64x64x256, .f32⟩
  | 29 => ⟨S2x64x64x128, .f32⟩
  | 30 => ⟨S2x64x64x128, .f32⟩
  | 31 => ⟨S1x128x1x3x3, .f32⟩
  | 32 => ⟨S1x128x1x3x3, .f32⟩
  | 33 => ⟨S2x128x1x3x3, .f32⟩
  | 34 => ⟨S2x128x3x3, .f32⟩
  | 35 => ⟨S1x128, .f32⟩
  | 36 => ⟨S1x128, .f32⟩
  | 37 => ⟨S2x128, .f32⟩
  | 38 => ⟨S_, .i32⟩
  | 39 => ⟨S_, .f32⟩
  | 40 => ⟨S2x66x66x128, .f32⟩
  | 41 => ⟨S2x1x1x128, .f32⟩
  | 42 => ⟨S2x64x64x128, .f32⟩
  | 43 => ⟨S2x128x1x1, .f32⟩
  | 44 => ⟨S2x128, .f32⟩
  | 45 => ⟨S2x1x1x128, .f32⟩
  | 46 => ⟨S2x64x64x128, .f32⟩
  | 47 => ⟨S2x64x64x128, .f32⟩
  | 48 => ⟨S2x64x64x128, .f32⟩
  | 49 => ⟨S2x64x64x128, .f32⟩
  | 50 => ⟨S2x64x64x128, .f32⟩
  | 51 => ⟨S2x128x1x1, .f32⟩
  | 52 => ⟨S2x128, .f32⟩
  | 53 => ⟨S2x1x1x128, .f32⟩
  | 54 => ⟨S2x64x64x128, .f32⟩
  | 55 => ⟨S2x64x64x128, .f32⟩
  | 56 => ⟨S2x64x64x128, .f32⟩
  | 57 => ⟨S2x64x64x128, .f32⟩
  | 58 => ⟨S2x128x1x1, .f32⟩
  | 59 => ⟨S2x128, .f32⟩
  | 60 => ⟨S2x1x1x128, .f32⟩
  | 61 => ⟨S2x64x64x128, .f32⟩
  | 62 => ⟨S2x64x64x128, .f32⟩
  | 63 => ⟨S2x64x64x128, .f32⟩
  | 64 => ⟨S2x64x64x128, .f32⟩
  | 65 => ⟨S2x128x1x1, .f32⟩
  | 66 => ⟨S2x128, .f32⟩
  | 67 => ⟨S2x1x1x128, .f32⟩
  | 68 => ⟨S2x64x64x128, .f32⟩
  | 69 => ⟨S2x64x64x128, .f32⟩
  | 70 => ⟨S2x64x64x128, .f32⟩
  | 71 => ⟨S2x64x64x128, .f32⟩
  | 72 => ⟨S2x128x1x1, .f32⟩
  | 73 => ⟨S2x128, .f32⟩
  | 74 => ⟨S2x1x1x128, .f32⟩
  | 75 => ⟨S2x64x64x128, .f32⟩
  | 76 => ⟨S2x64x64x128, .f32⟩
  | 77 => ⟨S2x64x64x128, .f32⟩
  | 78 => ⟨S2x64x64x128, .f32⟩
  | 79 => ⟨S2x128x1x1, .f32⟩
  | 80 => ⟨S2x128, .f32⟩
  | 81 => ⟨S2x1x1x128, .f32⟩
  | 82 => ⟨S2x64x64x128, .f32⟩
  | 83 => ⟨S2x64x64x128, .f32⟩
  | 84 => ⟨S2x64x64x128, .f32⟩
  | 85 => ⟨S2x64x64x128, .f32⟩
  | 86 => ⟨S2x128x1x1, .f32⟩
  | 87 => ⟨S2x128, .f32⟩
  | 88 => ⟨S2x1x1x128, .f32⟩
  | 89 => ⟨S2x64x64x128, .f32⟩
  | 90 => ⟨S2x64x64x128, .f32⟩
  | 91 => ⟨S2x64x64x128, .f32⟩
  | 92 => ⟨S2x64x64x128, .f32⟩
  | 93 => ⟨S2x128x1x1, .f32⟩
  | 94 => ⟨S2x128, .f32⟩
  | 95 => ⟨S2x1x1x128, .f32⟩
  | 96 => ⟨S2x64x64x128, .f32⟩
  | 97 => ⟨S2x64x64x128, .f32⟩
  | 98 => ⟨S2x64x64x128, .f32⟩
  | 99 => ⟨S2x64x64x128, .f32⟩
  | 100 => ⟨S2x128x1x1, .f32⟩
  | 101 => ⟨S2x128, .f32⟩
  | 102 => ⟨S2x1x1x128, .f32⟩
  | 103 => ⟨S2x64x64x128, .f32⟩
  | 104 => ⟨S2x64x64x128, .f32⟩
  | 105 => ⟨S2x64x64x128, .f32⟩
  | 106 => ⟨S2x64x64x128, .f32⟩
  | 107 => ⟨S2x64x64x128, .f32⟩
  | 108 => ⟨S_, .f32⟩
  | 109 => ⟨S2x64x64x128, .f32⟩
  | 110 => ⟨S2x64x64x128, .f32⟩
  | 111 => ⟨S_, .f32⟩
  | 112 => ⟨S2x64x64x128, .f32⟩
  | 113 => ⟨S2x64x64x128, .f32⟩
  | 114 => ⟨S2x64x64x128, .f32⟩
  | 115 => ⟨S2x4096x128, .f32⟩
  | 116 => ⟨S2x64x64x128, .f32⟩
  | 117 => ⟨S2x4096x128, .f32⟩
  | 118 => ⟨S2x4096x128, .f32⟩
  | 119 => ⟨S2x4096x128, .f32⟩
  | 120 => ⟨S2x4096x128, .f32⟩
  | 121 => ⟨S2x1x4096x128, .f32⟩
  | 122 => ⟨S2x1x4096x128, .f32⟩
  | 123 => ⟨S2x1x4096x128, .f32⟩
  | 124 => ⟨S2x1x4096x128, .f32⟩
  | 125 => ⟨S2x4x4096x128, .f32⟩
  | 126 => ⟨S1x4x4096x128, .f32⟩
  | 127 => ⟨S4x4096x128, .f32⟩
  | _ => ⟨S1x64x64x64, .f32⟩

abbrev hbmTy0_1 (i : Nat) : BufTy := match i % 128 with
  | 0 => ⟨S4x4096x36, .f32⟩
  | 1 => ⟨S4x4096x4, .f32⟩
  | 2 => ⟨S4x4096x16, .f32⟩
  | 3 => ⟨S4x4096x16, .f32⟩
  | 4 => ⟨S1x4x128x4, .f32⟩
  | 5 => ⟨S1x4x128x4, .f32⟩
  | 6 => ⟨S2x4x128x4, .f32⟩
  | 7 => ⟨S4x2x128x4096, .f32⟩
  | 8 => ⟨S2x4x4096x128, .f32⟩
  | 9 => ⟨S1x512x16, .f32⟩
  | 10 => ⟨S1x512x16, .f32⟩
  | 11 => ⟨S2x512x16, .f32⟩
  | 12 => ⟨S2x512x16, .f32⟩
  | 13 => ⟨S2x4x128x16, .f32⟩
  | 14 => ⟨S2x4x128x16, .f32⟩
  | 15 => ⟨S1x512, .f32⟩
  | 16 => ⟨S1x512, .f32⟩
  | 17 => ⟨S2x512, .f32⟩
  | 18 => ⟨S2x4x128, .f32⟩
  | 19 => ⟨S1x4x128, .f32⟩
  | 20 => ⟨S1x4x128, .f32⟩
  | 21 => ⟨S2x4x128, .f32⟩
  | 22 => ⟨S2x4x1x128, .f32⟩
  | 23 => ⟨S2x4x4096x128, .f32⟩
  | 24 => ⟨S2x4x4096x128, .f32⟩
  | 25 => ⟨S_, .f32⟩
  | 26 => ⟨S2x4x4096x128, .f32⟩
  | 27 => ⟨S2x4x4096x128, .f32⟩
  | 28 => ⟨S2x4x4096x128, .f32⟩
  | 29 => ⟨S2x4x4096x128, .f32⟩
  | 30 => ⟨S2x4x4096x128, .i1⟩
  | 31 => ⟨S2x4x4096x128, .f32⟩
  | 32 => ⟨S2x4x4096x128, .f32⟩
  | 33 => ⟨S2x4x4096x128, .f32⟩
  | 34 => ⟨S2x4x4096x128, .f32⟩
  | 35 => ⟨S2x4x4096x128, .f32⟩
  | 36 => ⟨S2x4x4096x128, .f32⟩
  | 37 => ⟨S2x4x4096x128, .f32⟩
  | 38 => ⟨S2x4x4096x128, .f32⟩
  | 39 => ⟨S2x4x4096x128x1, .f32⟩
  | 40 => ⟨S2x4x1x128x16, .f32⟩
  | 41 => ⟨S2x4x4096x128x16, .f32⟩
  | 42 => ⟨S2x4x4096x128x16, .f32⟩
  | 43 => ⟨S2x4x4096x128x16, .f32⟩
  | 44 => ⟨S2x4x4096x128x16, .f32⟩
  | 45 => ⟨S4096x2x4x128x16, .f32⟩
  | 46 => ⟨S2x4x4096x128, .f32⟩
  | 47 => ⟨S2x4x4096x128x1, .f32⟩
  | 48 => ⟨S4x4096x1x16, .f32⟩
  | 49 => ⟨S1x4x4096x1x16, .f32⟩
  | 50 => ⟨S2x4x4096x128x16, .f32⟩
  | 51 => ⟨S2x4x4096x128x16, .f32⟩
  | 52 => ⟨S2x4x4096x128x16, .f32⟩
  | 53 => ⟨S4096x2x4x128x16, .f32⟩
  | 54 => ⟨S_, .f32⟩
  | 55 => ⟨S2x4x128x16, .f32⟩
  | 56 => ⟨S_, .f32⟩
  | 57 => ⟨S4096x2x4x128x16, .f32⟩
  | 58 => ⟨S_, .i32⟩
  | 59 => ⟨S4096x2x4x128x16, .f32⟩
  | 60 => ⟨S4096x2x4x128x16, .f32⟩
  | 61 => ⟨S_, .i32⟩
  | 62 => ⟨S2x4x128x16, .f32⟩
  | 63 => ⟨S4096x2x4x128x16, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S1x2x4x128x16, .f32⟩
  | 71 => ⟨S2x4x128x16, .f32⟩
  | 72 => ⟨S_, .i32⟩
  | 73 => ⟨S_, .i32⟩
  | 74 => ⟨S_, .i32⟩
  | 75 => ⟨S_, .i32⟩
  | 76 => ⟨S1x2x4x128x16, .f32⟩
  | 77 => ⟨S2x4x128x16, .f32⟩
  | 78 => ⟨S2x4x128x16, .f32⟩
  | 79 => ⟨S2x4x128x16, .f32⟩
  | 80 => ⟨S1x2x4x128x16, .f32⟩
  | 81 => ⟨S_, .i32⟩
  | 82 => ⟨S_, .i32⟩
  | 83 => ⟨S_, .i32⟩
  | 84 => ⟨S_, .i32⟩
  | 85 => ⟨S4096x2x4x128x16, .f32⟩
  | 86 => ⟨S_, .i32⟩
  | 87 => ⟨S_, .i32⟩
  | 88 => ⟨S4x4096x2x128, .f32⟩
  | 89 => ⟨S2x4x4096x128, .f32⟩
  | 90 => ⟨S2x4x1x128, .f32⟩
  | 91 => ⟨S2x4x4096x128, .f32⟩
  | 92 => ⟨S2x4x4096x128, .f32⟩
  | 93 => ⟨S2x4x4096x128, .f32⟩
  | 94 => ⟨S2x1x4096x128, .f32⟩
  | 95 => ⟨S2x4096x128, .f32⟩
  | 96 => ⟨S2x1x4096x128, .f32⟩
  | 97 => ⟨S2x4096x128, .f32⟩
  | 98 => ⟨S2x4096x128, .f32⟩
  | 99 => ⟨S2x1x4096x128, .f32⟩
  | 100 => ⟨S2x1x4096x128, .f32⟩
  | 101 => ⟨S2x2x4096x128, .f32⟩
  | 102 => ⟨S2x1x4096x128, .f32⟩
  | 103 => ⟨S2x4096x128, .f32⟩
  | 104 => ⟨S2x1x4096x128, .f32⟩
  | 105 => ⟨S2x4096x128, .f32⟩
  | 106 => ⟨S2x4096x128, .f32⟩
  | 107 => ⟨S2x1x4096x128, .f32⟩
  | 108 => ⟨S2x1x4096x128, .f32⟩
  | 109 => ⟨S2x2x4096x128, .f32⟩
  | 110 => ⟨S2x2x64x64x128, .f32⟩
  | 111 => ⟨S2x2x64x64x128, .f32⟩
  | 112 => ⟨S2x2x4096x128, .f32⟩
  | 113 => ⟨S2x1x4096x128, .f32⟩
  | 114 => ⟨S2x4096x128, .f32⟩
  | 115 => ⟨S2x1x4096x128, .f32⟩
  | 116 => ⟨S2x4096x128, .f32⟩
  | 117 => ⟨S2x4096x128, .f32⟩
  | 118 => ⟨S2x1x4096x128, .f32⟩
  | 119 => ⟨S2x4096x128, .f32⟩
  | 120 => ⟨S2x4096x128, .f32⟩
  | 121 => ⟨S2x1x4096x128, .f32⟩
  | 122 => ⟨S2x4096x128, .f32⟩
  | 123 => ⟨S2x4096x128, .f32⟩
  | 124 => ⟨S_, .f32⟩
  | 125 => ⟨S2x4096, .f32⟩
  | 126 => ⟨S2x4096x1, .f32⟩
  | 127 => ⟨S_, .f32⟩
  | _ => ⟨S1x64x64x64, .f32⟩

abbrev hbmTy0_2 (i : Nat) : BufTy := match i % 128 with
  | 0 => ⟨S2x4096x1, .f32⟩
  | 1 => ⟨S2x4096x1, .f32⟩
  | 2 => ⟨S2x4096x128, .f32⟩
  | 3 => ⟨S2x4096x128, .f32⟩
  | 4 => ⟨S2x4096x128, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S1x128, .f32⟩
  | 12 => ⟨S1x128, .f32⟩
  | 13 => ⟨S2x128, .f32⟩
  | 14 => ⟨S2x1x128, .f32⟩
  | 15 => ⟨S1x128, .f32⟩
  | 16 => ⟨S1x128, .f32⟩
  | 17 => ⟨S2x128, .f32⟩
  | 18 => ⟨S2x1x128, .f32⟩
  | 19 => ⟨S2x4096x128, .f32⟩
  | 20 => ⟨S2x4096x128, .f32⟩
  | 21 => ⟨S_, .f32⟩
  | 22 => ⟨S2x4096x1, .f32⟩
  | 23 => ⟨S2x4096x1, .f32⟩
  | 24 => ⟨S2x4096x1, .f32⟩
  | 25 => ⟨S2x4096x128, .f32⟩
  | 26 => ⟨S2x4096x128, .f32⟩
  | 27 => ⟨S2x4096x128, .f32⟩
  | 28 => ⟨S2x4096x128, .f32⟩
  | 29 => ⟨S2x4096x128, .f32⟩
  | 30 => ⟨S2x4096x128, .f32⟩
  | 31 => ⟨S2x4096x128, .f32⟩
  | 32 => ⟨S2x4096x128, .f32⟩
  | 33 => ⟨S_, .f32⟩
  | 34 => ⟨S2x4096x128, .f32⟩
  | 35 => ⟨S2x4096x128, .f32⟩
  | 36 => ⟨S_, .f32⟩
  | 37 => ⟨S2x4096x128, .f32⟩
  | 38 => ⟨S2x4096x128, .f32⟩
  | 39 => ⟨S2x4096x128, .f32⟩
  | 40 => ⟨S2x4096x128, .f32⟩
  | 41 => ⟨S1x64x128, .f32⟩
  | 42 => ⟨S1x64x128, .f32⟩
  | 43 => ⟨S2x64x128, .f32⟩
  | 44 => ⟨S2x4096x64, .f32⟩
  | 45 => ⟨S2x1x64x64x64, .f32⟩
  | 46 => ⟨S1x1x64x64x64, .f32⟩
  | 47 => ⟨S1x64x64x64, .f32⟩
  | 48 => ⟨S1x1x64x64x64, .f32⟩
  | 49 => ⟨S1x64x64x64, .f32⟩
  | _ => ⟨S1x64x64x64, .f32⟩

abbrev hbmTy (i : Nat) : BufTy := match i / 128 with
  | 0 => hbmTy0_0 i
  | 1 => hbmTy0_1 i
  | 2 => hbmTy0_2 i
  | _ => ⟨S1x64x64x64, .f32⟩

abbrev bufTy : (tb : Table) → Fin (tcTables nBuf tb) → BufTy
  | .hbm, ⟨i, _⟩ => hbmTy i
  | _, _ => ⟨S1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call0_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst : Ref sig .tc := ⟨.hbm, 182, rfl⟩
abbrev main_v135 : Ref sig .tc := ⟨.hbm, 183, rfl⟩
abbrev main_cst_0 : Ref sig .tc := ⟨.hbm, 184, rfl⟩
abbrev main_v136 : Ref sig .tc := ⟨.hbm, 185, rfl⟩
abbrev main_c_1 : Ref sig .tc := ⟨.hbm, 186, rfl⟩
abbrev main_v137_0 : Ref sig .tc := ⟨.hbm, 187, rfl⟩
abbrev main_v137_1 : Ref sig .tc := ⟨.hbm, 188, rfl⟩
abbrev main_v137_2 : Ref sig .tc := ⟨.hbm, 189, rfl⟩
abbrev main_v137_3 : Ref sig .tc := ⟨.hbm, 190, rfl⟩
abbrev main_v137_4 : Ref sig .tc := ⟨.hbm, 191, rfl⟩
abbrev main_while0c_c_11 : Ref sig .tc := ⟨.hbm, 192, rfl⟩
abbrev main_while0c_v215 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_call5_c_1 : Ref sig .tc := ⟨.hbm, 196, rfl⟩
abbrev main_while0b_call5_c_2 : Ref sig .tc := ⟨.hbm, 197, rfl⟩
abbrev main_while0b_call5_v0 : Ref sig .tc := ⟨.hbm, 198, rfl⟩
abbrev main_while0b_v215 : Ref sig .tc := ⟨.hbm, 199, rfl⟩
abbrev main_while0b_call6_c : Ref sig .tc := ⟨.hbm, 200, rfl⟩
abbrev main_while0b_call6_c_0 : Ref sig .tc := ⟨.hbm, 201, rfl⟩
abbrev main_while0b_call6_c_1 : Ref sig .tc := ⟨.hbm, 202, rfl⟩
abbrev main_while0b_call6_c_2 : Ref sig .tc := ⟨.hbm, 203, rfl⟩
abbrev main_while0b_call6_v0 : Ref sig .tc := ⟨.hbm, 204, rfl⟩
abbrev main_while0b_v216 : Ref sig .tc := ⟨.hbm, 205, rfl⟩
abbrev main_while0b_v217 : Ref sig .tc := ⟨.hbm, 206, rfl⟩
abbrev main_while0b_v218 : Ref sig .tc := ⟨.hbm, 207, rfl⟩
abbrev main_while0b_call7_v0 : Ref sig .tc := ⟨.hbm, 208, rfl⟩
abbrev main_while0b_call7_c : Ref sig .tc := ⟨.hbm, 209, rfl⟩
abbrev main_while0b_call7_c_0 : Ref sig .tc := ⟨.hbm, 210, rfl⟩
abbrev main_while0b_call7_c_1 : Ref sig .tc := ⟨.hbm, 211, rfl⟩
abbrev main_while0b_call7_c_2 : Ref sig .tc := ⟨.hbm, 212, rfl⟩
abbrev main_while0b_v219 : Ref sig .tc := ⟨.hbm, 213, rfl⟩
abbrev main_while0b_c_11 : Ref sig .tc := ⟨.hbm, 214, rfl⟩
abbrev main_while0b_v220 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_cst_2 : Ref sig .tc := ⟨.hbm, 252, rfl⟩
abbrev main_v174 : Ref sig .tc := ⟨.hbm, 253, rfl⟩
abbrev main_v175 : Ref sig .tc := ⟨.hbm, 254, rfl⟩
abbrev main_cst_3 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_cst_4 : Ref sig .tc := ⟨.hbm, 261, rfl⟩
abbrev main_v181 : Ref sig .tc := ⟨.hbm, 262, rfl⟩
abbrev main_v182 : Ref sig .tc := ⟨.hbm, 263, rfl⟩
abbrev main_cst_5 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_cst_6 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_call10_v0 : Ref sig .tc := ⟨.hbm, 287, rfl⟩
abbrev main_call10_v1 : Ref sig .tc := ⟨.hbm, 288, rfl⟩
abbrev main_call10_cst : Ref sig .tc := ⟨.hbm, 289, rfl⟩
abbrev main_call10_v2 : Ref sig .tc := ⟨.hbm, 290, rfl⟩
abbrev main_call10_v3 : Ref sig .tc := ⟨.hbm, 291, rfl⟩
abbrev main_call10_cst_0 : Ref sig .tc := ⟨.hbm, 292, rfl⟩
abbrev main_call10_v4 : Ref sig .tc := ⟨.hbm, 293, rfl⟩
abbrev main_call10_v5 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩

abbrev nD : Nat := 1
abbrev τ : Topo := Topo.v7x

variable {F : FTy → Type} [FloatOps F]

abbrev main_while0_count : Scf.Loop 32 := ⟨0#32, 4096#32, 1#32⟩
-- ==== Pre.lean ====
abbrev S1x64x64x64 : Shape := ⟨4, ![1, 64, 64, 64]⟩
abbrev S256x64 : Shape := ⟨2, ![256, 64]⟩
abbrev S128x1x3x3 : Shape := ⟨4, ![128, 1, 3, 3]⟩
abbrev S128 : Shape := ⟨1, ![128]⟩
abbrev S64x64x64 : Shape := ⟨3, ![64, 64, 64]⟩
abbrev S2x64x64x64 : Shape := ⟨4, ![2, 64, 64, 64]⟩
abbrev S1x256x64 : Shape := ⟨3, ![1, 256, 64]⟩
abbrev S2x256x64 : Shape := ⟨3, ![2, 256, 64]⟩
abbrev S128x9 : Shape := ⟨2, ![128, 9]⟩
abbrev S9x128 : Shape := ⟨2, ![9, 128]⟩
abbrev S1x9x128 : Shape := ⟨3, ![1, 9, 128]⟩
abbrev S2x9x128 : Shape := ⟨3, ![2, 9, 128]⟩
abbrev S1x128 : Shape := ⟨2, ![1, 128]⟩
abbrev S2x128 : Shape := ⟨2, ![2, 128]⟩
abbrev S2x1x128 : Shape := ⟨3, ![2, 1, 128]⟩
abbrev S2x4096x128 : Shape := ⟨3, ![2, 4096, 128]⟩
abbrev S1x1x128 : Shape := ⟨3, ![1, 1, 128]⟩
abbrev S1x4096x128 : Shape := ⟨3, ![1, 4096, 128]⟩
abbrev S4096x64 : Shape := ⟨2, ![4096, 64]⟩
abbrev S4096x256 : Shape := ⟨2, ![4096, 256]⟩
abbrev S4096x128 : Shape := ⟨2, ![4096, 128]⟩
abbrev S64x64x128 : Shape := ⟨3, ![64, 64, 128]⟩
abbrev S64x1x128 : Shape := ⟨3, ![64, 1, 128]⟩
abbrev S1x64x128 : Shape := ⟨3, ![1, 64, 128]⟩
abbrev S64x63x128 : Shape := ⟨3, ![64, 63, 128]⟩
abbrev S63x64x128 : Shape := ⟨3, ![63, 64, 128]⟩

abbrev nBuf : Space → Nat
  | .hbm => 30
  | .vmem => 14
  | .smem => 0
  | _ => 0

abbrev bufTy : (tb : Table) → Fin (tcTables nBuf tb) → BufTy
  | .hbm, ⟨0, _⟩ => ⟨S1x64x64x64, .f32⟩
  | .hbm, ⟨1, _⟩ => ⟨S1x64x64x64, .f32⟩
  | .hbm, ⟨2, _⟩ => ⟨S256x64, .f32⟩
  | .hbm, ⟨3, _⟩ => ⟨S256x64, .f32⟩
  | .hbm, ⟨4, _⟩ => ⟨S128x1x3x3, .f32⟩
  | .hbm, ⟨5, _⟩ => ⟨S128, .f32⟩
  | .hbm, ⟨6, _⟩ => ⟨S128x1x3x3, .f32⟩
  | .hbm, ⟨7, _⟩ => ⟨S128, .f32⟩
  | .hbm, ⟨8, _⟩ => ⟨S64x64x64, .f32⟩
  | .hbm, ⟨9, _⟩ => ⟨S64x64x64, .f32⟩
  | .hbm, ⟨10, _⟩ => ⟨S1x64x64x64, .f32⟩
  | .hbm, ⟨11, _⟩ => ⟨S1x64x64x64, .f32⟩
  | .hbm, ⟨12, _⟩ => ⟨S2x64x64x64, .f32⟩
  | .hbm, ⟨13, _⟩ => ⟨S1x256x64, .f32⟩
  | .hbm, ⟨14, _⟩ => ⟨S1x256x64, .f32⟩
  | .hbm, ⟨15, _⟩ => ⟨S2x256x64, .f32⟩
  | .hbm, ⟨16, _⟩ => ⟨S128x9, .f32⟩
  | .hbm, ⟨17, _⟩ => ⟨S9x128, .f32⟩
  | .hbm, ⟨18, _⟩ => ⟨S128x9, .f32⟩
  | .hbm, ⟨19, _⟩ => ⟨S9x128, .f32⟩
  | .hbm, ⟨20, _⟩ => ⟨S1x9x128, .f32⟩
  | .hbm, ⟨21, _⟩ => ⟨S1x9x128, .f32⟩
  | .hbm, ⟨22, _⟩ => ⟨S2x9x128, .f32⟩
  | .hbm, ⟨23, _⟩ => ⟨S1x128, .f32⟩
  | .hbm, ⟨24, _⟩ => ⟨S1x128, .f32⟩
  | .hbm, ⟨25, _⟩ => ⟨S2x128, .f32⟩
  | .hbm, ⟨26, _⟩ => ⟨S2x1x128, .f32⟩
  | .hbm, ⟨27, _⟩ => ⟨S2x4096x128, .f32⟩
  | .hbm, ⟨28, _⟩ => ⟨S2x4096x128, .f32⟩
  | .hbm, ⟨29, _⟩ => ⟨S2x4096x128, .f32⟩
  | .local _ .vmem, ⟨0, _⟩ => ⟨S1x64x64x64, .f32⟩
  | .local _ .vmem, ⟨1, _⟩ => ⟨S1x64x64x64, .f32⟩
  | .local _ .vmem, ⟨2, _⟩ => ⟨S1x256x64, .f32⟩
  | .local _ .vmem, ⟨3, _⟩ => ⟨S1x256x64, .f32⟩
  | .local _ .vmem, ⟨4, _⟩ => ⟨S1x9x128, .f32⟩
  | .local _ .vmem, ⟨5, _⟩ => ⟨S1x9x128, .f32⟩
  | .local _ .vmem, ⟨6, _⟩ => ⟨S1x1x128, .f32⟩
  | .local _ .vmem, ⟨7, _⟩ => ⟨S1x1x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | _, _ => ⟨S1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PreReferenceIdeal.lean ====
abbrev S1x64x64x64 : Shape := ⟨4, ![1, 64, 64, 64]⟩
abbrev S256x64 : Shape := ⟨2, ![256, 64]⟩
abbrev S128x1x3x3 : Shape := ⟨4, ![128, 1, 3, 3]⟩
abbrev S128 : Shape := ⟨1, ![128]⟩
abbrev S2x64x64x64 : Shape := ⟨4, ![2, 64, 64, 64]⟩
abbrev S1x256x64 : Shape := ⟨3, ![1, 256, 64]⟩
abbrev S2x256x64 : Shape := ⟨3, ![2, 256, 64]⟩
abbrev S2x64x64x256 : Shape := ⟨4, ![2, 64, 64, 256]⟩
abbrev S2x64x64x128 : Shape := ⟨4, ![2, 64, 64, 128]⟩
abbrev S1x128x1x3x3 : Shape := ⟨5, ![1, 128, 1, 3, 3]⟩
abbrev S2x128x1x3x3 : Shape := ⟨5, ![2, 128, 1, 3, 3]⟩
abbrev S2x128x3x3 : Shape := ⟨4, ![2, 128, 3, 3]⟩
abbrev S1x128 : Shape := ⟨2, ![1, 128]⟩
abbrev S2x128 : Shape := ⟨2, ![2, 128]⟩
abbrev S_ : Shape := ⟨0, ![]⟩
abbrev S2x66x66x128 : Shape := ⟨4, ![2, 66, 66, 128]⟩
abbrev S2x1x1x128 : Shape := ⟨4, ![2, 1, 1, 128]⟩
abbrev S2x128x1x1 : Shape := ⟨4, ![2, 128, 1, 1]⟩
abbrev S2x4096x128 : Shape := ⟨3, ![2, 4096, 128]⟩

abbrev nBuf : Space → Nat
  | .hbm => 103
  | .vmem => 0
  | .smem => 0
  | _ => 0

abbrev bufTy : (tb : Table) → Fin (tcTables nBuf tb) → BufTy
  | .hbm, ⟨0, _⟩ => ⟨S1x64x64x64, .f32⟩
  | .hbm, ⟨1, _⟩ => ⟨S1x64x64x64, .f32⟩
  | .hbm, ⟨2, _⟩ => ⟨S256x64, .f32⟩
  | .hbm, ⟨3, _⟩ => ⟨S256x64, .f32⟩
  | .hbm, ⟨4, _⟩ => ⟨S128x1x3x3, .f32⟩
  | .hbm, ⟨5, _⟩ => ⟨S128, .f32⟩
  | .hbm, ⟨6, _⟩ => ⟨S128x1x3x3, .f32⟩
  | .hbm, ⟨7, _⟩ => ⟨S128, .f32⟩
  | .hbm, ⟨8, _⟩ => ⟨S2x64x64x64, .f32⟩
  | .hbm, ⟨9, _⟩ => ⟨S1x256x64, .f32⟩
  | .hbm, ⟨10, _⟩ => ⟨S1x256x64, .f32⟩
  | .hbm, ⟨11, _⟩ => ⟨S2x256x64, .f32⟩
  | .hbm, ⟨12, _⟩ => ⟨S2x64x64x256, .f32⟩
  | .hbm, ⟨13, _⟩ => ⟨S2x64x64x128, .f32⟩
  | .hbm, ⟨14, _⟩ => ⟨S2x64x64x128, .f32⟩
  | .hbm, ⟨15, _⟩ => ⟨S1x128x1x3x3, .f32⟩
  | .hbm, ⟨16, _⟩ => ⟨S1x128x1x3x3, .f32⟩
  | .hbm, ⟨17, _⟩ => ⟨S2x128x1x3x3, .f32⟩
  | .hbm, ⟨18, _⟩ => ⟨S2x128x3x3, .f32⟩
  | .hbm, ⟨19, _⟩ => ⟨S1x128, .f32⟩
  | .hbm, ⟨20, _⟩ => ⟨S1x128, .f32⟩
  | .hbm, ⟨21, _⟩ => ⟨S2x128, .f32⟩
  | .hbm, ⟨22, _⟩ => ⟨S_, .i32⟩
  | .hbm, ⟨23, _⟩ => ⟨S_, .f32⟩
  | .hbm, ⟨24, _⟩ => ⟨S2x66x66x128, .f32⟩
  | .hbm, ⟨25, _⟩ => ⟨S2x1x1x128, .f32⟩
  | .hbm, ⟨26, _⟩ => ⟨S2x64x64x128, .f32⟩
  | .hbm, ⟨27, _⟩ => ⟨S2x128x1x1, .f32⟩
  | .hbm, ⟨28, _⟩ => ⟨S2x128, .f32⟩
  | .hbm, ⟨29, _⟩ => ⟨S2x1x1x128, .f32⟩
  | .hbm, ⟨30, _⟩ => ⟨S2x64x64x128, .f32⟩
  | .hbm, ⟨31, _⟩ => ⟨S2x64x64x128, .f32⟩
  | .hbm, ⟨32, _⟩ => ⟨S2x64x64x128, .f32⟩
  | .hbm, ⟨33, _⟩ => ⟨S2x64x64x128, .f32⟩
  | .hbm, ⟨34, _⟩ => ⟨S2x64x64x128, .f32⟩
  | .hbm, ⟨35, _⟩ => ⟨S2x128x1x1, .f32⟩
  | .hbm, ⟨36, _⟩ => ⟨S2x128, .f32⟩
  | .hbm, ⟨37, _⟩ => ⟨S2x1x1x128, .f32⟩
  | .hbm, ⟨38, _⟩ => ⟨S2x64x64x128, .f32⟩
  | .hbm, ⟨39, _⟩ => ⟨S2x64x64x128, .f32⟩
  | .hbm, ⟨40, _⟩ => ⟨S2x64x64x128, .f32⟩
  | .hbm, ⟨41, _⟩ => ⟨S2x64x64x128, .f32⟩
  | .hbm, ⟨42, _⟩ => ⟨S2x128x1x1, .f32⟩
  | .hbm, ⟨43, _⟩ => ⟨S2x128, .f32⟩
  | .hbm, ⟨44, _⟩ => ⟨S2x1x1x128, .f32⟩
  | .hbm, ⟨45, _⟩ => ⟨S2x64x64x128, .f32⟩
  | .hbm, ⟨46, _⟩ => ⟨S2x64x64x128, .f32⟩
  | .hbm, ⟨47, _⟩ => ⟨S2x64x64x128, .f32⟩
  | .hbm, ⟨48, _⟩ => ⟨S2x64x64x128, .f32⟩
  | .hbm, ⟨49, _⟩ => ⟨S2x128x1x1, .f32⟩
  | .hbm, ⟨50, _⟩ => ⟨S2x128, .f32⟩
  | .hbm, ⟨51, _⟩ => ⟨S2x1x1x128, .f32⟩
  | .hbm, ⟨52, _⟩ => ⟨S2x64x64x128, .f32⟩
  | .hbm, ⟨53, _⟩ => ⟨S2x64x64x128, .f32⟩
  | .hbm, ⟨54, _⟩ => ⟨S2x64x64x128, .f32⟩
  | .hbm, ⟨55, _⟩ => ⟨S2x64x64x128, .f32⟩
  | .hbm, ⟨56, _⟩ => ⟨S2x128x1x1, .f32⟩
  | .hbm, ⟨57, _⟩ => ⟨S2x128, .f32⟩
  | .hbm, ⟨58, _⟩ => ⟨S2x1x1x128, .f32⟩
  | .hbm, ⟨59, _⟩ => ⟨S2x64x64x128, .f32⟩
  | .hbm, ⟨60, _⟩ => ⟨S2x64x64x128, .f32⟩
  | .hbm, ⟨61, _⟩ => ⟨S2x64x64x128, .f32⟩
  | .hbm, ⟨62, _⟩ => ⟨S2x64x64x128, .f32⟩
  | .hbm, ⟨63, _⟩ => ⟨S2x128x1x1, .f32⟩
  | .hbm, ⟨64, _⟩ => ⟨S2x128, .f32⟩
  | .hbm, ⟨65, _⟩ => ⟨S2x1x1x128, .f32⟩
  | .hbm, ⟨66, _⟩ => ⟨S2x64x64x128, .f32⟩
  | .hbm, ⟨67, _⟩ => ⟨S2x64x64x128, .f32⟩
  | .hbm, ⟨68, _⟩ => ⟨S2x64x64x128, .f32⟩
  | .hbm, ⟨69, _⟩ => ⟨S2x64x64x128, .f32⟩
  | .hbm, ⟨70, _⟩ => ⟨S2x128x1x1, .f32⟩
  | .hbm, ⟨71, _⟩ => ⟨S2x128, .f32⟩
  | .hbm, ⟨72, _⟩ => ⟨S2x1x1x128, .f32⟩
  | .hbm, ⟨73, _⟩ => ⟨S2x64x64x128, .f32⟩
  | .hbm, ⟨74, _⟩ => ⟨S2x64x64x128, .f32⟩
  | .hbm, ⟨75, _⟩ => ⟨S2x64x64x128, .f32⟩
  | .hbm, ⟨76, _⟩ => ⟨S2x64x64x128, .f32⟩
  | .hbm, ⟨77, _⟩ => ⟨S2x128x1x1, .f32⟩
  | .hbm, ⟨78, _⟩ => ⟨S2x128, .f32⟩
  | .hbm, ⟨79, _⟩ => ⟨S2x1x1x128, .f32⟩
  | .hbm, ⟨80, _⟩ => ⟨S2x64x64x128, .f32⟩
  | .hbm, ⟨81, _⟩ => ⟨S2x64x64x128, .f32⟩
  | .hbm, ⟨82, _⟩ => ⟨S2x64x64x128, .f32⟩
  | .hbm, ⟨83, _⟩ => ⟨S2x64x64x128, .f32⟩
  | .hbm, ⟨84, _⟩ => ⟨S2x128x1x1, .f32⟩
  | .hbm, ⟨85, _⟩ => ⟨S2x128, .f32⟩
  | .hbm, ⟨86, _⟩ => ⟨S2x1x1x128, .f32⟩
  | .hbm, ⟨87, _⟩ => ⟨S2x64x64x128, .f32⟩
  | .hbm, ⟨88, _⟩ => ⟨S2x64x64x128, .f32⟩
  | .hbm, ⟨89, _⟩ => ⟨S2x64x64x128, .f32⟩
  | .hbm, ⟨90, _⟩ => ⟨S2x64x64x128, .f32⟩
  | .hbm, ⟨91, _⟩ => ⟨S2x64x64x128, .f32⟩
  | .hbm, ⟨92, _⟩ => ⟨S_, .f32⟩
  | .hbm, ⟨93, _⟩ => ⟨S2x64x64x128, .f32⟩
  | .hbm, ⟨94, _⟩ => ⟨S2x64x64x128, .f32⟩
  | .hbm, ⟨95, _⟩ => ⟨S_, .f32⟩
  | .hbm, ⟨96, _⟩ => ⟨S2x64x64x128, .f32⟩
  | .hbm, ⟨97, _⟩ => ⟨S2x64x64x128, .f32⟩
  | .hbm, ⟨98, _⟩ => ⟨S2x64x64x128, .f32⟩
  | .hbm, ⟨99, _⟩ => ⟨S2x4096x128, .f32⟩
  | .hbm, ⟨100, _⟩ => ⟨S2x64x64x128, .f32⟩
  | .hbm, ⟨101, _⟩ => ⟨S2x4096x128, .f32⟩
  | .hbm, ⟨102, _⟩ => ⟨S2x4096x128, .f32⟩
  | _, _ => ⟨S1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== Post.lean ====
abbrev S2x2x4096x128 : Shape := ⟨4, ![2, 2, 4096, 128]⟩
abbrev S2x4096x128 : Shape := ⟨3, ![2, 4096, 128]⟩
abbrev S128 : Shape := ⟨1, ![128]⟩
abbrev S64x128 : Shape := ⟨2, ![64, 128]⟩
abbrev S2x2x64x64x128 : Shape := ⟨5, ![2, 2, 64, 64, 128]⟩
abbrev S1x128 : Shape := ⟨2, ![1, 128]⟩
abbrev S2x128 : Shape := ⟨2, ![2, 128]⟩
abbrev S2x1x128 : Shape := ⟨3, ![2, 1, 128]⟩
abbrev S1x64x128 : Shape := ⟨3, ![1, 64, 128]⟩
abbrev S2x64x128 : Shape := ⟨3, ![2, 64, 128]⟩
abbrev S2x4096x64 : Shape := ⟨3, ![2, 4096, 64]⟩
abbrev S1x2x1024x128 : Shape := ⟨4, ![1, 2, 1024, 128]⟩
abbrev S1x2x64x16x128 : Shape := ⟨5, ![1, 2, 64, 16, 128]⟩
abbrev S1x1024x128 : Shape := ⟨3, ![1, 1024, 128]⟩
abbrev S1x1x128 : Shape := ⟨3, ![1, 1, 128]⟩
abbrev S1x1024x64 : Shape := ⟨3, ![1, 1024, 64]⟩
abbrev S2x1024x128 : Shape := ⟨3, ![2, 1024, 128]⟩
abbrev S1024x128 : Shape := ⟨2, ![1024, 128]⟩
abbrev S2x64x16x128 : Shape := ⟨4, ![2, 64, 16, 128]⟩
abbrev S64x16x128 : Shape := ⟨3, ![64, 16, 128]⟩
abbrev S16x64x128 : Shape := ⟨3, ![16, 64, 128]⟩
abbrev S1024 : Shape := ⟨1, ![1024]⟩
abbrev S1024x1 : Shape := ⟨2, ![1024, 1]⟩
abbrev S1024x64 : Shape := ⟨2, ![1024, 64]⟩

abbrev nBuf : Space → Nat
  | .hbm => 22
  | .vmem => 14
  | .smem => 0
  | _ => 0

abbrev bufTy : (tb : Table) → Fin (tcTables nBuf tb) → BufTy
  | .hbm, ⟨0, _⟩ => ⟨S2x2x4096x128, .f32⟩
  | .hbm, ⟨1, _⟩ => ⟨S2x2x4096x128, .f32⟩
  | .hbm, ⟨2, _⟩ => ⟨S2x4096x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64x128, .f32⟩
  | .hbm, ⟨9, _⟩ => ⟨S2x2x64x64x128, .f32⟩
  | .hbm, ⟨10, _⟩ => ⟨S1x128, .f32⟩
  | .hbm, ⟨11, _⟩ => ⟨S1x128, .f32⟩
  | .hbm, ⟨12, _⟩ => ⟨S2x128, .f32⟩
  | .hbm, ⟨13, _⟩ => ⟨S2x1x128, .f32⟩
  | .hbm, ⟨14, _⟩ => ⟨S1x128, .f32⟩
  | .hbm, ⟨15, _⟩ => ⟨S1x128, .f32⟩
  | .hbm, ⟨16, _⟩ => ⟨S2x128, .f32⟩
  | .hbm, ⟨17, _⟩ => ⟨S2x1x128, .f32⟩
  | .hbm, ⟨18, _⟩ => ⟨S1x64x128, .f32⟩
  | .hbm, ⟨19, _⟩ => ⟨S1x64x128, .f32⟩
  | .hbm, ⟨20, _⟩ => ⟨S2x64x128, .f32⟩
  | .hbm, ⟨21, _⟩ => ⟨S2x4096x64, .f32⟩
  | .local _ .vmem, ⟨0, _⟩ => ⟨S1x2x1024x128, .f32⟩
  | .local _ .vmem, ⟨1, _⟩ => ⟨S1x2x1024x128, .f32⟩
  | .local _ .vmem, ⟨2, _⟩ => ⟨S1x2x64x16x128, .f32⟩
  | .local _ .vmem, ⟨3, _⟩ => ⟨S1x2x64x16x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x64x128, .f32⟩
  | .local _ .vmem, ⟨11, _⟩ => ⟨S1x64x128, .f32⟩
  | .local _ .vmem, ⟨12, _⟩ => ⟨S1x1024x64, .f32⟩
  | .local _ .vmem, ⟨13, _⟩ => ⟨S1x1024x64, .f32⟩
  | _, _ => ⟨S2x2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x64x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PostReferenceIdeal.lean ====
abbrev S2x2x4096x128 : Shape := ⟨4, ![2, 2, 4096, 128]⟩
abbrev S2x4096x128 : Shape := ⟨3, ![2, 4096, 128]⟩
abbrev S128 : Shape := ⟨1, ![128]⟩
abbrev S64x128 : Shape := ⟨2, ![64, 128]⟩
abbrev S2x2x64x64x128 : Shape := ⟨5, ![2, 2, 64, 64, 128]⟩
abbrev S2x1x4096x128 : Shape := ⟨4, ![2, 1, 4096, 128]⟩
abbrev S_ : Shape := ⟨0, ![]⟩
abbrev S2x4096 : Shape := ⟨2, ![2, 4096]⟩
abbrev S2x4096x1 : Shape := ⟨3, ![2, 4096, 1]⟩
abbrev S1x128 : Shape := ⟨2, ![1, 128]⟩
abbrev S2x128 : Shape := ⟨2, ![2, 128]⟩
abbrev S2x1x128 : Shape := ⟨3, ![2, 1, 128]⟩
abbrev S1x64x128 : Shape := ⟨3, ![1, 64, 128]⟩
abbrev S2x64x128 : Shape := ⟨3, ![2, 64, 128]⟩
abbrev S2x4096x64 : Shape := ⟨3, ![2, 4096, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x2x4096x128, .f32⟩
  | .hbm, ⟨1, _⟩ => ⟨S2x2x4096x128, .f32⟩
  | .hbm, ⟨2, _⟩ => ⟨S2x4096x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64x128, .f32⟩
  | .hbm, ⟨9, _⟩ => ⟨S2x2x64x64x128, .f32⟩
  | .hbm, ⟨10, _⟩ => ⟨S2x2x64x64x128, .f32⟩
  | .hbm, ⟨11, _⟩ => ⟨S2x2x4096x128, .f32⟩
  | .hbm, ⟨12, _⟩ => ⟨S2x1x4096x128, .f32⟩
  | .hbm, ⟨13, _⟩ => ⟨S2x4096x128, .f32⟩
  | .hbm, ⟨14, _⟩ => ⟨S2x1x4096x128, .f32⟩
  | .hbm, ⟨15, _⟩ => ⟨S2x4096x128, .f32⟩
  | .hbm, ⟨16, _⟩ => ⟨S2x4096x128, .f32⟩
  | .hbm, ⟨17, _⟩ => ⟨S2x1x4096x128, .f32⟩
  | .hbm, ⟨18, _⟩ => ⟨S2x4096x128, .f32⟩
  | .hbm, ⟨19, _⟩ => ⟨S2x4096x128, .f32⟩
  | .hbm, ⟨20, _⟩ => ⟨S2x1x4096x128, .f32⟩
  | .hbm, ⟨21, _⟩ => ⟨S2x4096x128, .f32⟩
  | .hbm, ⟨22, _⟩ => ⟨S2x4096x128, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x128, .f32⟩
  | .hbm, ⟨30, _⟩ => ⟨S2x4096x128, .f32⟩
  | .hbm, ⟨31, _⟩ => ⟨S2x4096x128, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S1x128, .f32⟩
  | .hbm, ⟨39, _⟩ => ⟨S1x128, .f32⟩
  | .hbm, ⟨40, _⟩ => ⟨S2x128, .f32⟩
  | .hbm, ⟨41, _⟩ => ⟨S2x1x128, .f32⟩
  | .hbm, ⟨42, _⟩ => ⟨S1x128, .f32⟩
  | .hbm, ⟨43, _⟩ => ⟨S1x128, .f32⟩
  | .hbm, ⟨44, _⟩ => ⟨S2x128, .f32⟩
  | .hbm, ⟨45, _⟩ => ⟨S2x1x128, .f32⟩
  | .hbm, ⟨46, _⟩ => ⟨S2x4096x128, .f32⟩
  | .hbm, ⟨47, _⟩ => ⟨S2x4096x128, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x128, .f32⟩
  | .hbm, ⟨53, _⟩ => ⟨S2x4096x128, .f32⟩
  | .hbm, ⟨54, _⟩ => ⟨S2x4096x128, .f32⟩
  | .hbm, ⟨55, _⟩ => ⟨S2x4096x128, .f32⟩
  | .hbm, ⟨56, _⟩ => ⟨S2x4096x128, .f32⟩
  | .hbm, ⟨57, _⟩ => ⟨S2x4096x128, .f32⟩
  | .hbm, ⟨58, _⟩ => ⟨S2x4096x128, .f32⟩
  | .hbm, ⟨59, _⟩ => ⟨S2x4096x128, .f32⟩
  | .hbm, ⟨60, _⟩ => ⟨S_, .f32⟩
  | .hbm, ⟨61, _⟩ => ⟨S2x4096x128, .f32⟩
  | .hbm, ⟨62, _⟩ => ⟨S2x4096x128, .f32⟩
  | .hbm, ⟨63, _⟩ => ⟨S_, .f32⟩
  | .hbm, ⟨64, _⟩ => ⟨S2x4096x128, .f32⟩
  | .hbm, ⟨65, _⟩ => ⟨S2x4096x128, .f32⟩
  | .hbm, ⟨66, _⟩ => ⟨S2x4096x128, .f32⟩
  | .hbm, ⟨67, _⟩ => ⟨S2x4096x128, .f32⟩
  | .hbm, ⟨68, _⟩ => ⟨S1x64x128, .f32⟩
  | .hbm, ⟨69, _⟩ => ⟨S1x64x128, .f32⟩
  | .hbm, ⟨70, _⟩ => ⟨S2x64x128, .f32⟩
  | .hbm, ⟨71, _⟩ => ⟨S2x4096x64, .f32⟩
  | _, _ => ⟨S2x2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.ConvRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the TensorCore's buffer contents when a region is entered: the parameter every region's half is stated at, which
-- the run instantiates per region
variable (V : (c : Dev nD) → (b : Ref sig .tc) → Buf (Elt F) ((c : Thread nD τ).loc b))

/-- A window's block at a point, of the arrays the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x64x64x64 := Rect.unit (s := S1x64x64x64) ![0, 0, 0, 0] S1x64x64x64.size inb_S1x64x64x64_S1x64x64x64_0_0_0_0
abbrev r0_1 : Rect S1x256x64 := Rect.unit (s := S1x256x64) ![0, 0, 0] S1x256x64.size inb_S1x256x64_S1x256x64_0_0_0
abbrev r0_2 : Rect S1x4096x128 := Rect.unit (s := S1x4096x128) ![0, 0, 0] S1x4096x128.size inb_S1x4096x128_S1x4096x128_0_0_0
abbrev r0_3 : Rect S1x9x128 := Rect.unit (s := S1x9x128) ![0, 0, 0] S1x9x128.size inb_S1x9x128_S1x9x128_0_0_0
abbrev r0_4 : Rect S1x1x128 := Rect.unit (s := S1x1x128) ![0, 0, 0] S1x1x128.size inb_S1x1x128_S1x1x128_0_0_0

def k0_pay18 (x0 : Vec F S1x64x64x64 .f32) (x1 : Vec F S1x256x64 .f32) (x2 : Vec F S1x9x128 .f32) (x3 : Vec F S1x1x128 .f32) : FVec F S64x64x128 .f32 :=
  k0_pay6 (View.ld x0 r0_0) (View.ld x1 r0_1)
def k0_pay19 (x0 : Vec F S1x64x64x64 .f32) (x1 : Vec F S1x256x64 .f32) (x2 : Vec F S1x9x128 .f32) (x3 : Vec F S1x1x128 .f32) : FVec F S9x128 .f32 :=
  k0_pay7 (View.ld x2 r0_3)
def k0_pay20 (x0 : Vec F S1x64x64x64 .f32) (x1 : Vec F S1x256x64 .f32) (x2 : Vec F S1x9x128 .f32) (x3 : Vec F S1x1x128 .f32) : FVec F S1x64x128 .f32 :=
  k0_pay9 (F := F)
def k0_pay21 (x0 : Vec F S1x64x64x64 .f32) (x1 : Vec F S1x256x64 .f32) (x2 : Vec F S1x9x128 .f32) (x3 : Vec F S1x1x128 .f32) : FVec F S64x64x128 .f32 :=
  k0_pay10 (View.ld x0 r0_0) (View.ld x1 r0_1)
def k0_pay22 (x0 : Vec F S1x64x64x64 .f32) (x1 : Vec F S1x256x64 .f32) (x2 : Vec F S1x9x128 .f32) (x3 : Vec F S1x1x128 .f32) : FVec F S64x64x128 .f32 :=
  k0_pay11 (View.ld x0 r0_0) (View.ld x1 r0_1)
def k0_pay23 (x0 : Vec F S1x64x64x64 .f32) (x1 : Vec F S1x256x64 .f32) (x2 : Vec F S1x9x128 .f32) (x3 : Vec F S1x1x128 .f32) : FVec F S64x64x128 .f32 :=
  k0_pay12 (View.ld x0 r0_0) (View.ld x1 r0_1) (View.ld x2 r0_3)
def k0_pay24 (x0 : Vec F S1x64x64x64 .f32) (x1 : Vec F S1x256x64 .f32) (x2 : Vec F S1x9x128 .f32) (x3 : Vec F S1x1x128 .f32) : FVec F S64x64x128 .f32 :=
  k0_pay13 (View.ld x0 r0_0) (View.ld x1 r0_1) (View.ld x2 r0_3)
def k0_pay25 (x0 : Vec F S1x64x64x64 .f32) (x1 : Vec F S1x256x64 .f32) (x2 : Vec F S1x9x128 .f32) (x3 : Vec F S1x1x128 .f32) : FVec F S64x64x128 .f32 :=
  k0_pay14 (View.ld x0 r0_0) (View.ld x1 r0_1) (View.ld x2 r0_3)
def k0_pay26 (x0 : Vec F S1x64x64x64 .f32) (x1 : Vec F S1x256x64 .f32) (x2 : Vec F S1x9x128 .f32) (x3 : Vec F S1x1x128 .f32) : FVec F S128 .f32 :=
  k0_pay15 (View.ld x2 r0_3)
def k0_pay27 (x0 : Vec F S1x64x64x64 .f32) (x1 : Vec F S1x256x64 .f32) (x2 : Vec F S1x9x128 .f32) (x3 : Vec F S1x1x128 .f32) : FVec F S64x64x128 .f32 :=
  k0_pay16 (k0_pay18 x0 x1 x2 x3) (k0_pay19 x0 x1 x2 x3) (k0_pay20 x0 x1 x2 x3) (k0_pay21 x0 x1 x2 x3) (k0_pay22 x0 x1 x2 x3) (k0_pay23 x0 x1 x2 x3) (k0_pay24 x0 x1 x2 x3) (k0_pay25 x0 x1 x2 x3) (k0_pay26 x0 x1 x2 x3) (View.ld x3 r0_4)
def k0_pay28 (x0 : Vec F S1x64x64x64 .f32) (x1 : Vec F S1x256x64 .f32) (x2 : Vec F S1x9x128 .f32) (x3 : Vec F S1x1x128 .f32) : FVec F S64x64x128 .f32 :=
  k0_pay17 (k0_pay18 x0 x1 x2 x3) (k0_pay19 x0 x1 x2 x3) (k0_pay20 x0 x1 x2 x3) (k0_pay21 x0 x1 x2 x3) (k0_pay22 x0 x1 x2 x3) (k0_pay23 x0 x1 x2 x3) (k0_pay24 x0 x1 x2 x3) (k0_pay25 x0 x1 x2 x3) (k0_pay26 x0 x1 x2 x3) (View.ld x3 r0_4)

/-- A result's buffer after the body, of the operands' blocks. -/
def out0_4 (x0 : Vec F S1x64x64x64 .f32) (x1 : Vec F S1x256x64 .f32) (x2 : Vec F S1x9x128 .f32) (x3 : Vec F S1x1x128 .f32) : Vec F S1x4096x128 .f32 :=
  View.canon [⟨r0_2, k0_pay2 (k0_pay27 x0 x1 x2 x3) (k0_pay28 x0 x1 x2 x3)⟩]

/-- The stores fill the result's buffer. -/
theorem cover0_4 (p0 : Vec F S1x4096x128 .f32) (y : S1x4096x128.Idx) :
    ∃ pc ∈ ([⟨r0_2, p0⟩] : List (View.Piece (Elt F) S1x4096x128 .f32)), y ∈ pc.1.set :=
  View.cover_of_tiled [⟨r0_2, p0⟩] S1x4096x128.size (by rfl) y

/-- A result's buffer after the body, of the operands' blocks. -/
def out0_5 (x0 : Vec F S1x64x64x64 .f32) (x1 : Vec F S1x256x64 .f32) (x2 : Vec F S1x9x128 .f32) (x3 : Vec F S1x1x128 .f32) : Vec F S1x4096x128 .f32 :=
  View.canon [⟨r0_2, k0_pay3 (k0_pay27 x0 x1 x2 x3) (k0_pay28 x0 x1 x2 x3)⟩]

/-- The stores fill the result's buffer. -/
theorem cover0_5 (p0 : Vec F S1x4096x128 .f32) (y : S1x4096x128.Idx) :
    ∃ pc ∈ ([⟨r0_2, p0⟩] : List (View.Piece (Elt F) S1x4096x128 .f32)), y ∈ pc.1.set :=
  View.cover_of_tiled [⟨r0_2, p0⟩] S1x4096x128.size (by rfl) y

/-- A result's buffer after the body, of the operands' blocks. -/
def out0_6 (x0 : Vec F S1x64x64x64 .f32) (x1 : Vec F S1x256x64 .f32) (x2 : Vec F S1x9x128 .f32) (x3 : Vec F S1x1x128 .f32) : Vec F S1x4096x128 .f32 :=
  View.canon [⟨r0_2, k0_pay5 (View.ld x0 r0_0) (View.ld x1 r0_1)⟩]

/-- The stores fill the result's buffer. -/
theorem cover0_6 (p0 : Vec F S1x4096x128 .f32) (y : S1x4096x128.Idx) :
    ∃ pc ∈ ([⟨r0_2, p0⟩] : List (View.Piece (Elt F) S1x4096x128 .f32)), y ∈ pc.1.set :=
  View.cover_of_tiled [⟨r0_2, p0⟩] S1x4096x128.size (by rfl) y

set_option maxHeartbeats 1000000 in
/-- The body on whole buffers: the operands' buffers stay, the results' hold `out`. -/
theorem sound_kernel0 (c : Dev nD) (E : Set ℕ) (i : grid0.Coords) (arg1 : Memref sig .tc .vmem S1x64x64x64 .f32) (harg1 : arg1.IsWhole) (arg2 : Memref sig .tc .vmem S1x256x64 .f32) (harg2 : arg2.IsWhole) (arg3 : Memref sig .tc .vmem S1x9x128 .f32) (harg3 : arg3.IsWhole) (arg4 : Memref sig .tc .vmem S1x1x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole)
    (x0 : Vec F S1x64x64x64 .f32) (x1 : Vec F S1x256x64 .f32) (x2 : Vec F S1x9x128 .f32) (x3 : Vec F S1x1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_ss2d_pre i arg1 harg1 arg2 harg2 arg3 harg3 arg4 harg4 arg5 harg5 arg6 harg6 arg7 harg7) K := by
  simp only [cc0_ss2d_pre_eq_skeleton]; unfold cc0_ss2d_pre_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-- The proof data of the call: the arrays as it is entered, after the body the operands' blocks and the results'. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The arrays of the proof data. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; rfl) t d).trans rfl

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at a point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row0 (t : Fin cfg0.N) :
    defs₀ (F := F) .tc cfg0.body (cfg0.bodyArgs t (cfg0.slots t)) = bodyAt0 t := by
  unfold defs₀; rw [Defs.onTc_tc]

/-- The body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Conv
-- ==== Proof.NormRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, of the arrays the call is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x2x1024x128 := Rect.unit (s := S1x2x1024x128) ![0, 0, 0, 0] S1x2x1024x128.size inb_S1x2x1024x128_S1x2x1024x128_0_0_0_0
abbrev r2_1 : Rect S1x2x64x16x128 := Rect.unit (s := S1x2x64x16x128) ![0, 0, 0, 0, 0] S1x2x64x16x128.size inb_S1x2x64x16x128_S1x2x64x16x128_0_0_0_0_0
abbrev r2_2 : Rect S1x1x128 := Rect.unit (s := S1x1x128) ![0, 0, 0] S1x1x128.size inb_S1x1x128_S1x1x128_0_0_0
abbrev r2_3 : Rect S1x1024x128 := Rect.unit (s := S1x1024x128) ![0, 0, 0] S1x1024x128.size inb_S1x1024x128_S1x1024x128_0_0_0
abbrev r2_4 : Rect S1x64x128 := Rect.unit (s := S1x64x128) ![0, 0, 0] S1x64x128.size inb_S1x64x128_S1x64x128_0_0_0
abbrev r2_5 : Rect S1x1024x64 := Rect.unit (s := S1x1024x64) ![0, 0, 0] S1x1024x64.size inb_S1x1024x64_S1x1024x64_0_0_0

/-- A result's buffer after the body, of the operands' blocks. -/
def out2_6 (x0 : Vec F S1x2x1024x128 .f32) (x1 : Vec F S1x2x64x16x128 .f32) (x2 : Vec F S1x1024x128 .f32) (x3 : Vec F S1x1x128 .f32) (x4 : Vec F S1x1x128 .f32) (x5 : Vec F S1x64x128 .f32) : Vec F S1x1024x64 .f32 :=
  View.canon [⟨r2_5, k2_pay1 (k2_pay2 (View.ld x0 r2_0) (View.ld x1 r2_1) (View.ld x3 r2_2) (View.ld x4 r2_2)) (View.ld x2 r2_3) (View.ld x5 r2_4)⟩]

/-- The stores fill the result's buffer. -/
theorem cover2_6 (p0 : Vec F S1x1024x64 .f32) (y : S1x1024x64.Idx) :
    ∃ pc ∈ ([⟨r2_5, p0⟩] : List (View.Piece (Elt F) S1x1024x64 .f32)), y ∈ pc.1.set :=
  View.cover_of_tiled [⟨r2_5, p0⟩] S1x1024x64.size (by rfl) y

set_option maxHeartbeats 1000000 in
/-- The body on whole buffers: the operands' buffers stay, the results' hold `out`. -/
theorem sound_kernel2 (c : Dev nD) (E : Set ℕ) (i : grid2.Coords) (arg2 : Memref sig .tc .vmem S1x2x1024x128 .f32) (harg2 : arg2.IsWhole) (arg3 : Memref sig .tc .vmem S1x2x64x16x128 .f32) (harg3 : arg3.IsWhole) (arg4 : Memref sig .tc .vmem S1x1024x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x64x128 .f32) (harg7 : arg7.IsWhole) (arg8 : Memref sig .tc .vmem S1x1024x64 .f32) (harg8 : arg8.IsWhole)
    (x0 : Vec F S1x2x1024x128 .f32) (x1 : Vec F S1x2x64x16x128 .f32) (x2 : Vec F S1x1024x128 .f32) (x3 : Vec F S1x1x128 .f32) (x4 : Vec F S1x1x128 .f32) (x5 : Vec F S1x64x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2_ss2d_post i arg2 harg2 arg3 harg3 arg4 harg4 arg5 harg5 arg6 harg6 arg7 harg7 arg8 harg8) K := by
  simp only [cc2_ss2d_post_eq_skeleton]; unfold cc2_ss2d_post_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the call: the arrays as it is entered, after the body the operands' blocks and the results'. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The arrays of the proof data. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; rfl) t d).trans rfl

/-- What the body is called with at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns at a point. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at a point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row2 (t : Fin cfg2.N) :
    defs₀ (F := F) .tc cfg2.body (cfg2.bodyArgs t (cfg2.slots t)) = bodyAt2 t := by
  unfold defs₀; rw [Defs.onTc_tc]

/-- The body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Norm
-- ==== Proof.ScanDefs.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.FrameBody
public import Idealize.ShloMosaic.Lib.WordCmp
public import Idealize.ShloMosaic.Lib.Tactic
public import Idealize.ShloMosaic.Lib.WritesUnit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic

variable {F : FTy → Type} [FloatOps F]

/-- The blocks of the scan's eleven operands at one grid point. -/
structure Blk (F : FTy → Type) where
  /-- the rows of the first ordering, both branches -/
  x2 : Vec F S2x256x128 .f32
  /-- the rows of the second ordering -/
  x3 : Vec F S2x256x128 .f32
  /-- the projection weights -/
  x4 : Vec F S2x36x128 .f32
  /-- the step weights of branch 0 -/
  x5 : Vec F S2x128x4 .f32
  /-- of branch 1 -/
  x6 : Vec F S2x128x4 .f32
  /-- the step biases of branch 0 -/
  x7 : Vec F S2x1x128 .f32
  /-- of branch 1 -/
  x8 : Vec F S2x1x128 .f32
  /-- the logarithms of the decay rates of branch 0 -/
  x9 : Vec F S2x16x128 .f32
  /-- of branch 1 -/
  x10 : Vec F S2x16x128 .f32
  /-- the skip weights of branch 0 -/
  x11 : Vec F S2x1x128 .f32
  /-- of branch 1 -/
  x12 : Vec F S2x1x128 .f32

namespace Blk

variable (b : Blk F)

/-- branch 0 of the first ordering -/
def v3 : Vec F S1x256x128 .f32 :=
  View.ld b.x2 (Rect.unit (s := S2x256x128) ![0, 0, 0] S1x256x128.size inb_S2x256x128_S1x256x128_0_0_0)
/-- branch 1 of the first ordering -/
def v5 : Vec F S1x256x128 .f32 :=
  View.ld b.x2 (Rect.unit (s := S2x256x128) ![1, 0, 0] S1x256x128.size inb_S2x256x128_S1x256x128_1_0_0)
/-- the projection of the first ordering -/
def v7 : Vec F S1x36x128 .f32 :=
  View.ld b.x4 (Rect.unit (s := S2x36x128) ![0, 0, 0] S1x36x128.size inb_S2x36x128_S1x36x128_0_0_0)
/-- step weights of branch 1, first ordering -/
def v11 : Vec F S1x128x4 .f32 :=
  View.ld b.x6 (Rect.unit (s := S2x128x4) ![0, 0, 0] S1x128x4.size inb_S2x128x4_S1x128x4_0_0_0)
/-- step bias of branch 1, first ordering -/
def v14 : Vec F S1x1x128 .f32 :=
  View.ld b.x8 (Rect.unit (s := S2x1x128) ![0, 0, 0] S1x1x128.size inb_S2x1x128_S1x1x128_0_0_0)
/-- step weights of branch 0, first ordering -/
def v28 : Vec F S1x128x4 .f32 :=
  View.ld b.x5 (Rect.unit (s := S2x128x4) ![0, 0, 0] S1x128x4.size inb_S2x128x4_S1x128x4_0_0_0)
/-- step bias of branch 0, first ordering -/
def v31 : Vec F S1x1x128 .f32 :=
  View.ld b.x7 (Rect.unit (s := S2x1x128) ![0, 0, 0] S1x1x128.size inb_S2x1x128_S1x1x128_0_0_0)
/-- rates of branch 1, first ordering -/
def v45 : Vec F S1x16x128 .f32 :=
  View.ld b.x10 (Rect.unit (s := S2x16x128) ![0, 0, 0] S1x16x128.size inb_S2x16x128_S1x16x128_0_0_0)
/-- rates of branch 0, first ordering -/
def v50 : Vec F S1x16x128 .f32 :=
  View.ld b.x9 (Rect.unit (s := S2x16x128) ![0, 0, 0] S1x16x128.size inb_S2x16x128_S1x16x128_0_0_0)
/-- branch 0 of the second ordering -/
def v124 : Vec F S1x256x128 .f32 :=
  View.ld b.x3 (Rect.unit (s := S2x256x128) ![0, 0, 0] S1x256x128.size inb_S2x256x128_S1x256x128_0_0_0)
/-- branch 1 of the second ordering -/
def v126 : Vec F S1x256x128 .f32 :=
  View.ld b.x3 (Rect.unit (s := S2x256x128) ![1, 0, 0] S1x256x128.size inb_S2x256x128_S1x256x128_1_0_0)
/-- the projection of the second ordering -/
def v128 : Vec F S1x36x128 .f32 :=
  View.ld b.x4 (Rect.unit (s := S2x36x128) ![1, 0, 0] S1x36x128.size inb_S2x36x128_S1x36x128_1_0_0)
/-- step weights of branch 1, second ordering -/
def v132 : Vec F S1x128x4 .f32 :=
  View.ld b.x6 (Rect.unit (s := S2x128x4) ![1, 0, 0] S1x128x4.size inb_S2x128x4_S1x128x4_1_0_0)
/-- step bias of branch 1, second ordering -/
def v135 : Vec F S1x1x128 .f32 :=
  View.ld b.x8 (Rect.unit (s := S2x1x128) ![1, 0, 0] S1x1x128.size inb_S2x1x128_S1x1x128_1_0_0)
/-- step weights of branch 0, second ordering -/
def v149 : Vec F S1x128x4 .f32 :=
  View.ld b.x5 (Rect.unit (s := S2x128x4) ![1, 0, 0] S1x128x4.size inb_S2x128x4_S1x128x4_1_0_0)
/-- step bias of branch 0, second ordering -/
def v152 : Vec F S1x1x128 .f32 :=
  View.ld b.x7 (Rect.unit (s := S2x1x128) ![1, 0, 0] S1x1x128.size inb_S2x1x128_S1x1x128_1_0_0)
/-- rates of branch 1, second ordering -/
def v166 : Vec F S1x16x128 .f32 :=
  View.ld b.x10 (Rect.unit (s := S2x16x128) ![1, 0, 0] S1x16x128.size inb_S2x16x128_S1x16x128_1_0_0)
/-- rates of branch 0, second ordering -/
def v171 : Vec F S1x16x128 .f32 :=
  View.ld b.x9 (Rect.unit (s := S2x16x128) ![1, 0, 0] S1x16x128.size inb_S2x16x128_S1x16x128_1_0_0)
/-- skip weights of branch 1, first ordering -/
def v262 : Vec F S1x1x128 .f32 :=
  View.ld b.x12 (Rect.unit (s := S2x1x128) ![0, 0, 0] S1x1x128.size inb_S2x1x128_S1x1x128_0_0_0)
/-- skip weights of branch 0, first ordering -/
def v270 : Vec F S1x1x128 .f32 :=
  View.ld b.x11 (Rect.unit (s := S2x1x128) ![0, 0, 0] S1x1x128.size inb_S2x1x128_S1x1x128_0_0_0)
/-- skip weights of branch 1, second ordering -/
def v284 : Vec F S1x1x128 .f32 :=
  View.ld b.x12 (Rect.unit (s := S2x1x128) ![1, 0, 0] S1x1x128.size inb_S2x1x128_S1x1x128_1_0_0)
/-- skip weights of branch 0, second ordering -/
def v292 : Vec F S1x1x128 .f32 :=
  View.ld b.x11 (Rect.unit (s := S2x1x128) ![1, 0, 0] S1x1x128.size inb_S2x1x128_S1x1x128_1_0_0)
/-- the inputs of branch 0, first ordering -/
def v4 : FVec F S256x128 .f32 := k1_pay5 b.v3
/-- the inputs of branch 1, first ordering -/
def v6 : FVec F S256x128 .f32 := k1_pay6 b.v5
/-- the projected inputs, first ordering -/
def v9 : FVec F S256x36 .f32 := k1_pay7 b.v3 b.v7
/-- the steps of branch 1, first ordering -/
def v27 : FVec F S256x128 .f32 := k1_pay9 b.v3 b.v7 b.v11 b.v14
/-- the steps of branch 0 before bias and softplus, first ordering -/
def v30 : FVec F S256x128 .f32 := k1_pay10 b.v3 b.v7 b.v28
/-- the steps of branch 0, first ordering -/
def v44 : FVec F S256x128 .f32 := k1_pay11 b.v30 b.v31
/-- the decay rates of branch 1, first ordering -/
def v49 : FVec F S16x128 .f32 := k1_pay12 b.v45
/-- the decay rates of branch 0, first ordering -/
def v54 : FVec F S16x128 .f32 := k1_pay13 b.v50
/-- the projected inputs, a row for each place and state, first ordering -/
def v58 : FVec F S4096x36 .f32 := k1_pay14 b.v9
/-- the columns that weigh the input, the others zero, first ordering -/
def v67 : FVec F S4096x36 .f32 := k1_pay16 b.v9
/-- the input weights along the channels, first ordering -/
def v89 : FVec F S256x16x128 .f32 := k1_pay19 b.v58 (iota .tc S4096x36 32 [1] iota_S4096x36_d1_w32) b.v67 k1_pay17
/-- the output weights along the channels, first ordering -/
def v91 : FVec F S256x16x128 .f32 := k1_pay20 b.v58 (iota .tc S4096x36 32 [1] iota_S4096x36_d1_w32) b.v67 k1_pay17
/-- the decay factors of branch 0, first ordering -/
def v113 : FVec F S256x16x128 .f32 := k1_pay23 b.v44 b.v54
/-- the inputs of branch 0, second ordering -/
def v125 : FVec F S256x128 .f32 := k1_pay26 b.v124
/-- the inputs of branch 1, second ordering -/
def v127 : FVec F S256x128 .f32 := k1_pay27 b.v126
/-- the projected inputs, second ordering -/
def v130 : FVec F S256x36 .f32 := k1_pay28 b.v124 b.v128
/-- the columns the steps are made of, second ordering -/
def v131 : FVec F S256x4 .f32 := k1_pay29 b.v124 b.v128
/-- the steps of branch 1, second ordering -/
def v148 : FVec F S256x128 .f32 := k1_pay30 b.v124 b.v128 b.v132 b.v135
/-- the steps of branch 0, second ordering -/
def v165 : FVec F S256x128 .f32 := k1_pay31 b.v131 b.v149 b.v152
/-- the decay rates of branch 1, second ordering -/
def v170 : FVec F S16x128 .f32 := k1_pay32 b.v166
/-- the decay rates of branch 0, second ordering -/
def v175 : FVec F S16x128 .f32 := k1_pay33 b.v171
/-- the projected inputs, a row for each place and state, second ordering -/
def v179 : FVec F S4096x36 .f32 := k1_pay34 b.v130
/-- the input weights along the channels, second ordering -/
def v210 : FVec F S256x16x128 .f32 := k1_pay39 b.v179 k1_pay35 (iota .tc S4096x36 32 [1] iota_S4096x36_d1_w32) k1_pay36 (k1_pay37 (F := F))
/-- the output weights along the channels, second ordering -/
def v212 : FVec F S256x16x128 .f32 := k1_pay40 b.v179 k1_pay35 (iota .tc S4096x36 32 [1] iota_S4096x36_d1_w32) k1_pay36 (k1_pay37 (F := F))
/-- the steps of branch 0, second ordering, a row for each place -/
def v229 : FVec F S256x1x128 .f32 := k1_pay43 b.v165
/-- the decay rates of branch 0, second ordering, for every place -/
def v230 : FVec F S1x16x128 .f32 := k1_pay44 b.v175
/-- The two stores of the decay factors of branch 1: the columns of the second ordering over those of the first. -/
def p15 : List (View.Piece (Elt F) S256x16x256 .f32) :=
  [⟨Rect.unit (s := S256x16x256) ![0, 0, 128] S256x16x128.size inb_S256x16x256_S256x16x128_0_0_128, k1_pay41 b.v148 b.v170⟩,
   ⟨Rect.unit (s := S256x16x256) ![0, 0, 0] S256x16x128.size inb_S256x16x256_S256x16x128_0_0_0, k1_pay21 b.v27 b.v49⟩]
/-- The decay factors of branch 1, both orderings side by side. -/
def d15 : Vec F S256x16x256 .f32 := View.canon b.p15
/-- The two stores of the input terms driving the first state: the columns of the second ordering over those of the first. -/
def p16 : List (View.Piece (Elt F) S256x16x256 .f32) :=
  [⟨Rect.unit (s := S256x16x256) ![0, 0, 128] S256x16x128.size inb_S256x16x256_S256x16x128_0_0_128, k1_pay42 b.v125 b.v148 b.v179 k1_pay35 (iota .tc S4096x36 32 [1] iota_S4096x36_d1_w32) k1_pay36 (k1_pay37 (F := F))⟩,
   ⟨Rect.unit (s := S256x16x256) ![0, 0, 0] S256x16x128.size inb_S256x16x256_S256x16x128_0_0_0, k1_pay22 b.v4 b.v27 b.v58 (iota .tc S4096x36 32 [1] iota_S4096x36_d1_w32) b.v67 k1_pay17⟩]
/-- The input terms driving the first state, both orderings side by side. -/
def d16 : Vec F S256x16x256 .f32 := View.canon b.p16
/-- The two stores of the decay factors of branch 0: the columns of the second ordering over those of the first. -/
def p17 : List (View.Piece (Elt F) S256x16x256 .f32) :=
  [⟨Rect.unit (s := S256x16x256) ![0, 0, 128] S256x16x128.size inb_S256x16x256_S256x16x128_0_0_128, k1_pay45 b.v229 b.v230⟩,
   ⟨Rect.unit (s := S256x16x256) ![0, 0, 0] S256x16x128.size inb_S256x16x256_S256x16x128_0_0_0, k1_pay24 b.v113⟩]
/-- The decay factors of branch 0, both orderings side by side. -/
def d17 : Vec F S256x16x256 .f32 := View.canon b.p17
/-- The two stores of the input terms driving the second state: the columns of the second ordering over those of the first. -/
def p18 : List (View.Piece (Elt F) S256x16x256 .f32) :=
  [⟨Rect.unit (s := S256x16x256) ![0, 0, 128] S256x16x128.size inb_S256x16x256_S256x16x128_0_0_128, k1_pay46 b.v127 b.v165 b.v210⟩,
   ⟨Rect.unit (s := S256x16x256) ![0, 0, 0] S256x16x128.size inb_S256x16x256_S256x16x128_0_0_0, k1_pay25 b.v6 b.v44 b.v89⟩]
/-- The input terms driving the second state, both orderings side by side. -/
def d18 : Vec F S256x16x256 .f32 := View.canon b.p18

end Blk

/-! ## The walk through the places of one chunk -/

/-- The row of a scratch that trip `k` of the walk reads and writes. -/
abbrev rowRect (i : grid1.Coords) (k : Fin k1_t1_loop.trips) : Rect S256x16x256 :=
  Rect.unit (s := S256x16x256) (k1_off1 i k) S1x16x256.size (k1_off1_inb i k)

/-- The first state before trip `k`, from `h` on: `d` the decay factors, `u` the input terms. -/
def hA (i : grid1.Coords) (d u : Vec F S256x16x256 .f32) (h : Vec F S16x256 .f32) : ℕ → Vec F S16x256 .f32
  | 0 => h
  | k + 1 => if hk : k < k1_t1_loop.trips then
      k1_pay47 (hA i d u h k) (View.ld d (rowRect i ⟨k, hk⟩)) (View.ld u (rowRect i ⟨k, hk⟩)) else hA i d u h k
/-- The second state before trip `k`. -/
def hB (i : grid1.Coords) (d u : Vec F S256x16x256 .f32) (h : Vec F S16x256 .f32) : ℕ → Vec F S16x256 .f32
  | 0 => h
  | k + 1 => if hk : k < k1_t1_loop.trips then
      k1_pay48 (hB i d u h k) (View.ld d (rowRect i ⟨k, hk⟩)) (View.ld u (rowRect i ⟨k, hk⟩)) else hB i d u h k
/-- The stores of the rows `w`, one a trip, before trip `n`, last first. -/
def rowsL (i : grid1.Coords) (w : Fin k1_t1_loop.trips → Vec F S1x16x256 .f32) : ℕ → List (View.Piece (Elt F) S256x16x256 .f32)
  | 0 => []
  | n + 1 => if hn : n < k1_t1_loop.trips then ⟨rowRect i ⟨n, hn⟩, w ⟨n, hn⟩⟩ :: rowsL i w n else rowsL i w n
/-- The row of the first state's record that trip `k` writes. -/
def rowA (i : grid1.Coords) (d u : Vec F S256x16x256 .f32) (h : Vec F S16x256 .f32) (k : Fin k1_t1_loop.trips) : Vec F S1x16x256 .f32 :=
  k1_pay49 (hA i d u h k.val) (View.ld d (rowRect i k)) (View.ld u (rowRect i k))
/-- The row of the second state's record that trip `k` writes. -/
def rowB (i : grid1.Coords) (d u : Vec F S256x16x256 .f32) (h : Vec F S16x256 .f32) (k : Fin k1_t1_loop.trips) : Vec F S1x16x256 .f32 :=
  k1_pay50 (hB i d u h k.val) (View.ld d (rowRect i k)) (View.ld u (rowRect i k))

/-- Whether a grid point starts a direction's scan. -/
abbrev starts (i : grid1.Coords) : Prop :=
  Scalar.cmpi .ne (Scalar.extui (Scalar.cmpi .eq (BitVec.ofNat 32 (i 1).val) 0#32) : BitVec 32) 0#32 = 1#1

/-- The first state the chunk is entered with: zero where a direction starts, else what the chunk before left. -/
def inA (i : grid1.Coords) (h : Vec F S16x256 .f32) : Vec F S16x256 .f32 := if starts i then k1_pay3 else h
/-- The second state the chunk is entered with. -/
def inB (i : grid1.Coords) (h : Vec F S16x256 .f32) : Vec F S16x256 .f32 := if starts i then k1_pay4 else h

namespace Blk
variable (b : Blk F) (i : grid1.Coords) (h g : Vec F S16x256 .f32)

/-- The first state's record over the chunk. -/
def recA : Vec F S256x16x256 .f32 := View.canon (rowsL i (rowA i b.d15 b.d16 (inA i h)) k1_t1_loop.trips)
/-- The second state's record over the chunk. -/
def recB : Vec F S256x16x256 .f32 := View.canon (rowsL i (rowB i b.d17 b.d18 (inB i g)) k1_t1_loop.trips)
/-- What the chunk leaves of the first state. -/
def outA : Vec F S16x256 .f32 := k1_pay51 (hA i b.d15 b.d16 (inA i h) k1_t1_loop.trips)
/-- What the chunk leaves of the second state. -/
def outB : Vec F S16x256 .f32 := k1_pay52 (hB i b.d17 b.d18 (inB i g) k1_t1_loop.trips)
/-- The block of the first result, both branches: the columns of the first ordering. -/
def out13 : Vec F S2x1x256x128 .f32 := View.canon
  [⟨Rect.unit (s := S2x1x256x128) ![1, 0, 0, 0] S1x1x256x128.size inb_S2x1x256x128_S1x1x256x128_1_0_0_0, k1_pay54 b.v6 b.v91 (View.ld (b.recB i g) (Rect.unit (s := S256x16x256) ![0, 0, 0] S256x16x128.size inb_S256x16x256_S256x16x128_0_0_0)) b.v270⟩,
   ⟨Rect.unit (s := S2x1x256x128) ![0, 0, 0, 0] S1x1x256x128.size inb_S2x1x256x128_S1x1x256x128_0_0_0_0, k1_pay53 b.v4 b.v91 (View.ld (b.recA i h) (Rect.unit (s := S256x16x256) ![0, 0, 0] S256x16x128.size inb_S256x16x256_S256x16x128_0_0_0)) b.v262⟩]
/-- The block of the second result, both branches: the columns of the second ordering. -/
def out14 : Vec F S2x1x256x128 .f32 := View.canon
  [⟨Rect.unit (s := S2x1x256x128) ![1, 0, 0, 0] S1x1x256x128.size inb_S2x1x256x128_S1x1x256x128_1_0_0_0, k1_pay2 b.v127 b.v212 (View.ld (b.recB i g) (Rect.unit (s := S256x16x256) ![0, 0, 128] S256x16x128.size inb_S256x16x256_S256x16x128_0_0_128)) b.v292⟩,
   ⟨Rect.unit (s := S2x1x256x128) ![0, 0, 0, 0] S1x1x256x128.size inb_S2x1x256x128_S1x1x256x128_0_0_0_0, k1_pay1 (k1_pay55 b.v125 b.v212 (View.ld (b.recA i h) (Rect.unit (s := S256x16x256) ![0, 0, 128] S256x16x128.size inb_S256x16x256_S256x16x128_0_0_128)) b.v284)⟩]

end Blk

end Cert.KernelIdeal.Scan
-- ==== Proof.ScanBody.lean ====
module

public import proofs.«01_k».proof.Proof.ScanDefs
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## One trip of the walk, and the walk -/

section Walk

variable (c : Dev nD) (i : grid1.Coords) (arg2 : Memref sig .tc .vmem S2x256x128 .f32) (harg2 : arg2.IsWhole) (arg3 : Memref sig .tc .vmem S2x256x128 .f32) (harg3 : arg3.IsWhole) (arg4 : Memref sig .tc .vmem S2x36x128 .f32) (harg4 : arg4.IsWhole) (arg5 : Memref sig .tc .vmem S2x128x4 .f32) (harg5 : arg5.IsWhole) (arg6 : Memref sig .tc .vmem S2x128x4 .f32) (harg6 : arg6.IsWhole) (arg7 : Memref sig .tc .vmem S2x1x128 .f32) (harg7 : arg7.IsWhole) (arg8 : Memref sig .tc .vmem S2x1x128 .f32) (harg8 : arg8.IsWhole) (arg9 : Memref sig .tc .vmem S2x16x128 .f32) (harg9 : arg9.IsWhole) (arg10 : Memref sig .tc .vmem S2x16x128 .f32) (harg10 : arg10.IsWhole) (arg11 : Memref sig .tc .vmem S2x1x128 .f32) (harg11 : arg11.IsWhole) (arg12 : Memref sig .tc .vmem S2x1x128 .f32) (harg12 : arg12.IsWhole) (arg13 : Memref sig .tc .vmem S2x1x256x128 .f32) (harg13 : arg13.IsWhole) (arg14 : Memref sig .tc .vmem S2x1x256x128 .f32) (harg14 : arg14.IsWhole) (arg15 : Memref sig .tc .vmem S256x16x256 .f32) (harg15 : arg15.IsWhole) (arg16 : Memref sig .tc .vmem S256x16x256 .f32) (harg16 : arg16.IsWhole) (arg17 : Memref sig .tc .vmem S256x16x256 .f32) (harg17 : arg17.IsWhole) (arg18 : Memref sig .tc .vmem S256x16x256 .f32) (harg18 : arg18.IsWhole) (arg19 : Memref sig .tc .vmem S256x16x256 .f32) (harg19 : arg19.IsWhole) (arg20 : Memref sig .tc .vmem S256x16x256 .f32) (harg20 : arg20.IsWhole) (arg21 : Memref sig .tc .vmem S16x256 .f32) (harg21 : arg21.IsWhole) (arg22 : Memref sig .tc .vmem S16x256 .f32) (harg22 : arg22.IsWhole) (arg0 : BitVec 32) (v127 : FVec F S256x128 .f32) (v165 : FVec F S256x128 .f32) (v210 : FVec F S256x16x128 .f32) (v229 : FVec F S256x1x128 .f32) (v230 : FVec F S1x16x128 .f32)
  (X15 : BufTy.Contents (Elt F) arg15.view.ty) (X16 : BufTy.Contents (Elt F) arg16.view.ty) (X17 : BufTy.Contents (Elt F) arg17.view.ty) (X18 : BufTy.Contents (Elt F) arg18.view.ty)

/-- One trip yields the two states stepped by the trip's rows. -/
theorem trip_yield (k : Fin k1_t1_loop.trips) (acc : Vec F S16x256 .f32 × Vec F S16x256 .f32) :
    (trip_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 X15 X16 X17 X18 k).1 acc = (k1_pay47 acc.1 (View.ld (arg15.view.read (Elt F) X15) (rowRect i k)) (View.ld (arg16.view.read (Elt F) X16) (rowRect i k)),
      k1_pay48 acc.2 (View.ld (arg17.view.read (Elt F) X17) (rowRect i k)) (View.ld (arg18.view.read (Elt F) X18) (rowRect i k))) := by
  unfold trip_k1_t1; rfl

/-- One trip writes one row of the first record. -/
theorem trip_rowA (k : Fin k1_t1_loop.trips) (acc : Vec F S16x256 .f32 × Vec F S16x256 .f32) :
    (trip_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 X15 X16 X17 X18 k).2.1 acc = [⟨rowRect i k, k1_pay49 acc.1 (View.ld (arg15.view.read (Elt F) X15) (rowRect i k)) (View.ld (arg16.view.read (Elt F) X16) (rowRect i k))⟩] := by
  unfold trip_k1_t1; rfl

/-- One trip writes one row of the second record. -/
theorem trip_rowB (k : Fin k1_t1_loop.trips) (acc : Vec F S16x256 .f32 × Vec F S16x256 .f32) :
    (trip_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 X15 X16 X17 X18 k).2.2.1 acc = [⟨rowRect i k, k1_pay50 acc.2 (View.ld (arg17.view.read (Elt F) X17) (rowRect i k)) (View.ld (arg18.view.read (Elt F) X18) (rowRect i k))⟩] := by
  unfold trip_k1_t1; rfl

/-- The walk's states and records before trip `n`. -/
theorem st_eq (h g : Vec F S16x256 .f32) (n : ℕ) (hn : n ≤ k1_t1_loop.trips) :
    st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 X15 X16 X17 X18 (h, g) n
      = ((hA i (arg15.view.read (Elt F) X15) (arg16.view.read (Elt F) X16) h n, hB i (arg17.view.read (Elt F) X17) (arg18.view.read (Elt F) X18) g n),
         rowsL i (rowA i (arg15.view.read (Elt F) X15) (arg16.view.read (Elt F) X16) h) n, rowsL i (rowB i (arg17.view.read (Elt F) X17) (arg18.view.read (Elt F) X18) g) n) := by
  induction n with
  | zero => rfl
  | succ n ih =>
    have hk : n < k1_t1_loop.trips := hn
    rw [st_k1_t1_succ (k := ⟨n, hk⟩), ih (Nat.le_of_lt hk)]
    rw [show hA i (arg15.view.read (Elt F) X15) (arg16.view.read (Elt F) X16) h (n + 1) = _ from dif_pos hk,
      show hB i (arg17.view.read (Elt F) X17) (arg18.view.read (Elt F) X18) g (n + 1) = _ from dif_pos hk,
      show rowsL i (rowA i (arg15.view.read (Elt F) X15) (arg16.view.read (Elt F) X16) h) (n + 1) = _ from dif_pos hk,
      show rowsL i (rowB i (arg17.view.read (Elt F) X17) (arg18.view.read (Elt F) X18) g) (n + 1) = _ from dif_pos hk]
    exact Prod.ext (trip_yield ..) (Prod.ext (congrArg (· ++ _) (trip_rowA ..)) (congrArg (· ++ _) (trip_rowB ..)))

end Walk

/-- The walk has 256 trips. -/
theorem trips_eq : k1_t1_loop.trips = 256 := by decide +kernel

/-- The row a trip takes, over the direction's and the trip's numbers. -/
theorem row_word : ∀ (a : Fin 2) (k : Fin 256),
    (Scalar.indexCast (Scalar.addi (Scalar.select (Scalar.cmpi .eq (BitVec.ofNat 32 a.val) 0#32) 0#32 255#32)
      (Scalar.muli (Scalar.select (Scalar.cmpi .eq (BitVec.ofNat 32 a.val) 0#32) 1#32 4294967295#32) (Scf.iv 0#32 1#32 k.val))) : Index).toNat
      = if a.val = 0 then k.val else 255 - k.val := by
  decide +kernel

/-- The row a trip takes: forwards in the first direction, backwards in the second. -/
theorem off_eq (i : grid1.Coords) (k : Fin k1_t1_loop.trips) :
    k1_off1 i k = ![if (i 0).val = 0 then k.val else 255 - k.val, 0, 0] := by
  have h := row_word ⟨(i 0).val, (i 0).isLt⟩ ⟨k.val, Nat.lt_of_lt_of_eq k.isLt trips_eq⟩
  exact congrArg (fun x : ℕ => (![x, 0, 0] : Fin 3 → ℕ)) h

/-- The indices of row `t`. -/
theorem row_mem (t : ℕ) (y : S256x16x256.Idx) :
    (∀ a : Fin 3, (![t, 0, 0] : Fin 3 → ℕ) a ≤ (y a).val ∧ (y a).val < (![t, 0, 0] : Fin 3 → ℕ) a + S1x16x256.size a) ↔ (y 0).val = t := by
  have h1 : (y 1).val < 16 := (y 1).isLt
  have h2 : (y 2).val < 256 := (y 2).isLt
  constructor
  · intro h
    have h0 : t ≤ (y 0).val ∧ (y 0).val < t + 1 := h 0
    omega
  · intro h
    have a0 : t ≤ (y 0).val ∧ (y 0).val < t + 1 := by omega
    have a1 : 0 ≤ (y 1).val ∧ (y 1).val < 0 + 16 := by omega
    have a2 : 0 ≤ (y 2).val ∧ (y 2).val < 0 + 256 := by omega
    exact Fin.forall_fin_succ.mpr ⟨a0, Fin.forall_fin_succ.mpr ⟨a1, Fin.forall_fin_succ.mpr ⟨a2, fun a => a.elim0⟩⟩⟩

/-- Membership in a trip's row: the first coordinate is the row's. -/
theorem mem_rowRect (i : grid1.Coords) (k : Fin k1_t1_loop.trips) (y : S256x16x256.Idx) :
    y ∈ (rowRect i k).set ↔ (y 0).val = if (i 0).val = 0 then k.val else 255 - k.val := by
  rw [Rect.mem_set_unit, off_eq]
  exact row_mem _ y

/-- The stores of the rows before trip `n` cover the rows of the trips before `n`. -/
theorem rowsL_mem (i : grid1.Coords) (w : Fin k1_t1_loop.trips → Vec F S1x16x256 .f32) (k : Fin k1_t1_loop.trips) :
    ∀ n, k.val < n → ⟨rowRect i k, w k⟩ ∈ rowsL i w n
  | 0, h => absurd h (Nat.not_lt_zero _)
  | n + 1, h => by
    unfold rowsL
    by_cases hn : n < k1_t1_loop.trips
    · rw [dif_pos hn]
      by_cases hk : k.val = n
      · have : k = ⟨n, hn⟩ := Fin.ext hk
        rw [this]; exact List.mem_cons_self
      · exact List.mem_cons_of_mem _ (rowsL_mem i w k n (by omega))
    · rw [dif_neg hn]; exact rowsL_mem i w k n (by have := k.isLt; omega)

/-- The trip that takes a row. -/
def tripOf (i : grid1.Coords) (t : Fin 256) : Fin k1_t1_loop.trips :=
  ⟨if (i 0).val = 0 then t.val else 255 - t.val, by rw [trips_eq]; have := t.isLt; split <;> omega⟩

theorem mem_tripOf (i : grid1.Coords) (y : S256x16x256.Idx) : y ∈ (rowRect i (tripOf i (y 0))).set := by
  have h : (y 0).val < 256 := (y 0).isLt
  rw [mem_rowRect]; unfold tripOf; dsimp only
  split
  · rfl
  · change (y 0).val = 255 - (255 - (y 0).val)
    omega

/-- All the rows are stored in the end. -/
theorem rowsL_cover (i : grid1.Coords) (w : Fin k1_t1_loop.trips → Vec F S1x16x256 .f32) (y : S256x16x256.Idx) :
    ∃ p ∈ rowsL i w k1_t1_loop.trips, y ∈ p.1.set :=
  ⟨_, rowsL_mem i w (tripOf i (y 0)) _ (tripOf i (y 0)).isLt, mem_tripOf i y⟩

/-- What the rows stored before trip `n` read at a stored row. -/
theorem rowsL_emb (i : grid1.Coords) (w : Fin k1_t1_loop.trips → Vec F S1x16x256 .f32) (k : Fin k1_t1_loop.trips) (x : S1x16x256.Idx) :
    ∀ n, k.val < n → View.canon (rowsL i w n) ((rowRect i k).emb x) = w k x
  | 0, h => absurd h (Nat.not_lt_zero _)
  | n + 1, h => by
    unfold rowsL
    by_cases hn : n < k1_t1_loop.trips
    · rw [dif_pos hn]
      by_cases hk : k.val = n
      · have : k = ⟨n, hn⟩ := Fin.ext hk
        rw [← this]
        exact View.canon_cons_emb (rowRect i k) (w k) (rowsL i w n) x
      · rw [View.canon_cons_of_not_mem]
        · exact rowsL_emb i w k x n (by omega)
        · intro hm
          have h1 := (mem_rowRect i _ _).mp hm
          have h2 := (mem_rowRect i k ((rowRect i k).emb x)).mp (by rw [← Rect.map_emb_univ]; exact Finset.mem_map_of_mem _ (Finset.mem_univ _))
          have h3 : k.val < 256 := Nat.lt_of_lt_of_eq k.isLt trips_eq
          have h4 : n < 256 := Nat.lt_of_lt_of_eq hn trips_eq
          rw [h1] at h2
          dsimp only at h2
          split at h2 <;> omega
    · rw [dif_neg hn]; exact rowsL_emb i w k x n (by have := k.isLt; omega)

/-! ## Reading the carried states and the records -/

/-- A whole store of a carried state leaves its payload. -/
theorem read_whole (arg : Memref sig .tc .vmem S16x256 .f32) (f : BufTy.Contents (Elt F) arg.view.ty) (p : Vec F S16x256 .f32) :
    arg.view.read (Elt F) (arg.view.writes (Elt F) f [⟨Rect.unit (s := S16x256) ![0, 0] S16x256.size inb_S16x256_S16x256_0_0, p⟩]) = p := by
  rw [View.read_writes_eq_canon _ _ _ (fun y => ⟨_, List.mem_cons_self, View.mem_set_unit_zero (by decide) inb_S16x256_S16x256_0_0 y⟩)]
  exact View.canon_unit_zero (by decide) _ _

/-- A whole load of a carried state reads it. -/
theorem load_whole (arg : Memref sig .tc .vmem S16x256 .f32) (f : BufTy.Contents (Elt F) arg.view.ty) :
    View.readAt (Elt F) arg.view (Rect.unit (s := S16x256) ![0, 0] S16x256.size inb_S16x256_S16x256_0_0).toLoadRect f = arg.view.read (Elt F) f :=
  View.ld_unit_zero (by decide) _ _

/-- The first state at the walk's start. -/
theorem load_inA (i : grid1.Coords) (arg : Memref sig .tc .vmem S16x256 .f32) (f : BufTy.Contents (Elt F) arg.view.ty) :
    View.readAt (Elt F) arg.view (Rect.unit (s := S16x256) ![0, 0] S16x256.size inb_S16x256_S16x256_0_0).toLoadRect
      (if hc : starts i then arg.view.writes (Elt F) f [⟨Rect.unit (s := S16x256) ![0, 0] S16x256.size inb_S16x256_S16x256_0_0, k1_pay3⟩] else f)
      = inA i (arg.view.read (Elt F) f) := by
  rw [load_whole]; unfold inA
  split
  · rw [read_whole]
  · rfl

/-- The second state at the walk's start. -/
theorem load_inB (i : grid1.Coords) (arg : Memref sig .tc .vmem S16x256 .f32) (f : BufTy.Contents (Elt F) arg.view.ty) :
    View.readAt (Elt F) arg.view (Rect.unit (s := S16x256) ![0, 0] S16x256.size inb_S16x256_S16x256_0_0).toLoadRect
      (if hc : starts i then arg.view.writes (Elt F) f [⟨Rect.unit (s := S16x256) ![0, 0] S16x256.size inb_S16x256_S16x256_0_0, k1_pay4⟩] else f)
      = inB i (arg.view.read (Elt F) f) := by
  rw [load_whole]; unfold inB
  split
  · rw [read_whole]
  · rfl

/-- A load from a record whose rows are all stored. -/
theorem load_rows (i : grid1.Coords) (w : Fin k1_t1_loop.trips → Vec F S1x16x256 .f32) (arg : Memref sig .tc .vmem S256x16x256 .f32)
    (f : BufTy.Contents (Elt F) arg.view.ty) (r : Rect S256x16x256) :
    View.readAt (Elt F) arg.view r.toLoadRect (arg.view.writes (Elt F) f (rowsL i w k1_t1_loop.trips)) = View.ld (View.canon (rowsL i w k1_t1_loop.trips)) r := by
  rw [View.readAt_eq_ld, View.read_writes_eq_canon _ _ _ (rowsL_cover i w)]

/-- A result's block, stored a branch at a time. -/
theorem read_halves (arg : Memref sig .tc .vmem S2x1x256x128 .f32) (f : BufTy.Contents (Elt F) arg.view.ty) (p q : Vec F S1x1x256x128 .f32) :
    arg.view.read (Elt F) (arg.view.writes (Elt F) f
      [⟨Rect.unit (s := S2x1x256x128) ![1, 0, 0, 0] S1x1x256x128.size inb_S2x1x256x128_S1x1x256x128_1_0_0_0, p⟩,
       ⟨Rect.unit (s := S2x1x256x128) ![0, 0, 0, 0] S1x1x256x128.size inb_S2x1x256x128_S1x1x256x128_0_0_0_0, q⟩])
      = View.canon [⟨Rect.unit (s := S2x1x256x128) ![1, 0, 0, 0] S1x1x256x128.size inb_S2x1x256x128_S1x1x256x128_1_0_0_0, p⟩,
       ⟨Rect.unit (s := S2x1x256x128) ![0, 0, 0, 0] S1x1x256x128.size inb_S2x1x256x128_S1x1x256x128_0_0_0_0, q⟩] :=
  View.read_writes_eq_canon _ _ _ (View.cover_of_tiled _ S1x1x256x128.size rfl)

end Cert.KernelIdeal.Scan
-- ==== Proof.ScanRun.lean ====
module

public import proofs.«01_k».proof.Proof.ScanBody
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The walk's results over one chunk's blocks -/

section Results
variable {c : Dev nD} {i : grid1.Coords} {arg2 : Memref sig .tc .vmem S2x256x128 .f32} {harg2 : arg2.IsWhole} {arg3 : Memref sig .tc .vmem S2x256x128 .f32} {harg3 : arg3.IsWhole} {arg4 : Memref sig .tc .vmem S2x36x128 .f32} {harg4 : arg4.IsWhole} {arg5 : Memref sig .tc .vmem S2x128x4 .f32} {harg5 : arg5.IsWhole} {arg6 : Memref sig .tc .vmem S2x128x4 .f32} {harg6 : arg6.IsWhole} {arg7 : Memref sig .tc .vmem S2x1x128 .f32} {harg7 : arg7.IsWhole} {arg8 : Memref sig .tc .vmem S2x1x128 .f32} {harg8 : arg8.IsWhole} {arg9 : Memref sig .tc .vmem S2x16x128 .f32} {harg9 : arg9.IsWhole} {arg10 : Memref sig .tc .vmem S2x16x128 .f32} {harg10 : arg10.IsWhole} {arg11 : Memref sig .tc .vmem S2x1x128 .f32} {harg11 : arg11.IsWhole} {arg12 : Memref sig .tc .vmem S2x1x128 .f32} {harg12 : arg12.IsWhole} {arg13 : Memref sig .tc .vmem S2x1x256x128 .f32} {harg13 : arg13.IsWhole} {arg14 : Memref sig .tc .vmem S2x1x256x128 .f32} {harg14 : arg14.IsWhole} {arg15 : Memref sig .tc .vmem S256x16x256 .f32} {harg15 : arg15.IsWhole} {arg16 : Memref sig .tc .vmem S256x16x256 .f32} {harg16 : arg16.IsWhole} {arg17 : Memref sig .tc .vmem S256x16x256 .f32} {harg17 : arg17.IsWhole} {arg18 : Memref sig .tc .vmem S256x16x256 .f32} {harg18 : arg18.IsWhole} {arg19 : Memref sig .tc .vmem S256x16x256 .f32} {harg19 : arg19.IsWhole} {arg20 : Memref sig .tc .vmem S256x16x256 .f32} {harg20 : arg20.IsWhole} {arg21 : Memref sig .tc .vmem S16x256 .f32} {harg21 : arg21.IsWhole} {arg22 : Memref sig .tc .vmem S16x256 .f32} {harg22 : arg22.IsWhole}
  {arg0 : BitVec 32} {v127 : FVec F S256x128 .f32} {v165 : FVec F S256x128 .f32} {v210 : FVec F S256x16x128 .f32} {v229 : FVec F S256x1x128 .f32} {v230 : FVec F S1x16x128 .f32}
  {L15 : List (View.Piece (Elt F) S256x16x256 .f32)} {L16 : List (View.Piece (Elt F) S256x16x256 .f32)} {L17 : List (View.Piece (Elt F) S256x16x256 .f32)} {L18 : List (View.Piece (Elt F) S256x16x256 .f32)} {h' g' : Vec F S16x256 .f32} {b : Blk F} {h g : Vec F S16x256 .f32}
  (h15 : L15 = b.p15) (h16 : L16 = b.p16) (h17 : L17 = b.p17) (h18 : L18 = b.p18) (hh : h' = inA i h) (hg : g' = inB i g)

include h15 h16 h17 h18 hh hg in
/-- The walk's two last states and its two records. -/
theorem walk_eq : st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 (arg15.view.writes (Elt F) arg15.view.junk L15) (arg16.view.writes (Elt F) arg16.view.junk L16) (arg17.view.writes (Elt F) arg17.view.junk L17) (arg18.view.writes (Elt F) arg18.view.junk L18) (h', g') k1_t1_loop.trips
    = ((hA i b.d15 b.d16 (inA i h) k1_t1_loop.trips, hB i b.d17 b.d18 (inB i g) k1_t1_loop.trips),
       rowsL i (rowA i b.d15 b.d16 (inA i h)) k1_t1_loop.trips, rowsL i (rowB i b.d17 b.d18 (inB i g)) k1_t1_loop.trips) := by
  subst h15 h16 h17 h18 hh hg
  rw [st_eq (hn := le_refl _)]
  simp only [View.read_writes_junk_eq_canon]
  rfl

include h15 h16 h17 h18 hh hg in
/-- A load from the first state's record. -/
theorem load_recA (f : BufTy.Contents (Elt F) arg19.view.ty) (r : Rect S256x16x256) :
    View.readAt (Elt F) arg19.view r.toLoadRect (arg19.view.writes (Elt F) f (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 (arg15.view.writes (Elt F) arg15.view.junk L15) (arg16.view.writes (Elt F) arg16.view.junk L16) (arg17.view.writes (Elt F) arg17.view.junk L17) (arg18.view.writes (Elt F) arg18.view.junk L18) (h', g') k1_t1_loop.trips).2.1) = View.ld (b.recA i h) r := by
  rw [walk_eq h15 h16 h17 h18 hh hg]; exact load_rows _ _ _ _ _

include h15 h16 h17 h18 hh hg in
/-- A load from the second state's record. -/
theorem load_recB (f : BufTy.Contents (Elt F) arg20.view.ty) (r : Rect S256x16x256) :
    View.readAt (Elt F) arg20.view r.toLoadRect (arg20.view.writes (Elt F) f (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 (arg15.view.writes (Elt F) arg15.view.junk L15) (arg16.view.writes (Elt F) arg16.view.junk L16) (arg17.view.writes (Elt F) arg17.view.junk L17) (arg18.view.writes (Elt F) arg18.view.junk L18) (h', g') k1_t1_loop.trips).2.2) = View.ld (b.recB i g) r := by
  rw [walk_eq h15 h16 h17 h18 hh hg]; exact load_rows _ _ _ _ _

include h15 h16 h17 h18 hh hg in
/-- The first state stored back. -/
theorem store_A (f : BufTy.Contents (Elt F) arg21.view.ty) :
    arg21.view.read (Elt F) (arg21.view.writes (Elt F) f [⟨Rect.unit (s := S16x256) ![0, 0] S16x256.size inb_S16x256_S16x256_0_0, k1_pay51 (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 (arg15.view.writes (Elt F) arg15.view.junk L15) (arg16.view.writes (Elt F) arg16.view.junk L16) (arg17.view.writes (Elt F) arg17.view.junk L17) (arg18.view.writes (Elt F) arg18.view.junk L18) (h', g') k1_t1_loop.trips).1.1⟩]) = b.outA i h := by
  rw [read_whole, walk_eq h15 h16 h17 h18 hh hg]; rfl

include h15 h16 h17 h18 hh hg in
/-- The second state stored back. -/
theorem store_B (f : BufTy.Contents (Elt F) arg22.view.ty) :
    arg22.view.read (Elt F) (arg22.view.writes (Elt F) f [⟨Rect.unit (s := S16x256) ![0, 0] S16x256.size inb_S16x256_S16x256_0_0, k1_pay52 (st_k1_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 v127 v165 v210 v229 v230 (arg15.view.writes (Elt F) arg15.view.junk L15) (arg16.view.writes (Elt F) arg16.view.junk L16) (arg17.view.writes (Elt F) arg17.view.junk L17) (arg18.view.writes (Elt F) arg18.view.junk L18) (h', g') k1_t1_loop.trips).1.2⟩]) = b.outB i g := by
  rw [read_whole, walk_eq h15 h16 h17 h18 hh hg]; rfl

end Results

/-! ## The body's triple -/

attribute [local irreducible] k1_pay1 k1_pay2 k1_pay3 k1_pay4 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25 k1_pay26 k1_pay27 k1_pay28 k1_pay29 k1_pay30 k1_pay31 k1_pay32 k1_pay33 k1_pay34 k1_pay35 k1_pay36 k1_pay37 k1_pay38 k1_pay39 k1_pay40 k1_pay41 k1_pay42 k1_pay43 k1_pay44 k1_pay45 k1_pay46 k1_pay47 k1_pay48 k1_pay49 k1_pay50 k1_pay51 k1_pay52 k1_pay53 k1_pay54 k1_pay55

set_option maxHeartbeats 2000000 in
/-- The body, at one grid point: from the operands' blocks and the two states left before, it leaves the two
   results' blocks and the two states after. -/
theorem kernelRun (c : Dev nD) (i : grid1.Coords) (arg2 : Memref sig .tc .vmem S2x256x128 .f32) (harg2 : arg2.IsWhole) (arg3 : Memref sig .tc .vmem S2x256x128 .f32) (harg3 : arg3.IsWhole) (arg4 : Memref sig .tc .vmem S2x36x128 .f32) (harg4 : arg4.IsWhole) (arg5 : Memref sig .tc .vmem S2x128x4 .f32) (harg5 : arg5.IsWhole) (arg6 : Memref sig .tc .vmem S2x128x4 .f32) (harg6 : arg6.IsWhole) (arg7 : Memref sig .tc .vmem S2x1x128 .f32) (harg7 : arg7.IsWhole) (arg8 : Memref sig .tc .vmem S2x1x128 .f32) (harg8 : arg8.IsWhole) (arg9 : Memref sig .tc .vmem S2x16x128 .f32) (harg9 : arg9.IsWhole) (arg10 : Memref sig .tc .vmem S2x16x128 .f32) (harg10 : arg10.IsWhole) (arg11 : Memref sig .tc .vmem S2x1x128 .f32) (harg11 : arg11.IsWhole) (arg12 : Memref sig .tc .vmem S2x1x128 .f32) (harg12 : arg12.IsWhole) (arg13 : Memref sig .tc .vmem S2x1x256x128 .f32) (harg13 : arg13.IsWhole) (arg14 : Memref sig .tc .vmem S2x1x256x128 .f32) (harg14 : arg14.IsWhole) (arg15 : Memref sig .tc .vmem S256x16x256 .f32) (harg15 : arg15.IsWhole) (arg16 : Memref sig .tc .vmem S256x16x256 .f32) (harg16 : arg16.IsWhole) (arg17 : Memref sig .tc .vmem S256x16x256 .f32) (harg17 : arg17.IsWhole) (arg18 : Memref sig .tc .vmem S256x16x256 .f32) (harg18 : arg18.IsWhole) (arg19 : Memref sig .tc .vmem S256x16x256 .f32) (harg19 : arg19.IsWhole) (arg20 : Memref sig .tc .vmem S256x16x256 .f32) (harg20 : arg20.IsWhole) (arg21 : Memref sig .tc .vmem S16x256 .f32) (harg21 : arg21.IsWhole) (arg22 : Memref sig .tc .vmem S16x256 .f32) (harg22 : arg22.IsWhole) (b : Blk F) (h g : Vec F S16x256 .f32) (K : PUnit → sProp 𝕄) :
    iprop(owns (c : Thread nD τ) arg2 fullShare b.x2
      ∗ owns (c : Thread nD τ) arg3 fullShare b.x3
      ∗ owns (c : Thread nD τ) arg4 fullShare b.x4
      ∗ owns (c : Thread nD τ) arg5 fullShare b.x5
      ∗ owns (c : Thread nD τ) arg6 fullShare b.x6
      ∗ owns (c : Thread nD τ) arg7 fullShare b.x7
      ∗ owns (c : Thread nD τ) arg8 fullShare b.x8
      ∗ owns (c : Thread nD τ) arg9 fullShare b.x9
      ∗ owns (c : Thread nD τ) arg10 fullShare b.x10
      ∗ owns (c : Thread nD τ) arg11 fullShare b.x11
      ∗ owns (c : Thread nD τ) arg12 fullShare b.x12
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ owns (c : Thread nD τ) arg21 fullShare h
      ∗ owns (c : Thread nD τ) arg22 fullShare g
        ∗ (iprop(owns (c : Thread nD τ) arg2 fullShare b.x2
      ∗ owns (c : Thread nD τ) arg3 fullShare b.x3
      ∗ owns (c : Thread nD τ) arg4 fullShare b.x4
      ∗ owns (c : Thread nD τ) arg5 fullShare b.x5
      ∗ owns (c : Thread nD τ) arg6 fullShare b.x6
      ∗ owns (c : Thread nD τ) arg7 fullShare b.x7
      ∗ owns (c : Thread nD τ) arg8 fullShare b.x8
      ∗ owns (c : Thread nD τ) arg9 fullShare b.x9
      ∗ owns (c : Thread nD τ) arg10 fullShare b.x10
      ∗ owns (c : Thread nD τ) arg11 fullShare b.x11
      ∗ owns (c : Thread nD τ) arg12 fullShare b.x12
      ∗ owns (c : Thread nD τ) arg13 fullShare (b.out13 i h g)
      ∗ owns (c : Thread nD τ) arg14 fullShare (b.out14 i h g)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ owns (c : Thread nD τ) arg21 fullShare (b.outA i h)
      ∗ owns (c : Thread nD τ) arg22 fullShare (b.outB i g)) -∗ K ⟨⟩))
      ⊢ wp frame (wpE (defs₀ (F := F)) Variants.none c none) Set.univ
          (cc1_ss2d_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  obtain ⟨x2, x3, x4, x5, x6, x7, x8, x9, x10, x11, x12⟩ := b
  simp only [cc1_ss2d_scan_eq_skeleton]; unfold cc1_ss2d_scan_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %e21, H21⟩, ⟨%f22, %e22, H22⟩, Hk⟩
  dsimp only at e2 e3 e4 e5 e6 e7 e8 e9 e10 e11 e12
  subst e2 e3 e4 e5 e6 e7 e8 e9 e10 e11 e12 e21 e22
  sl_exec
  sl_step
  iapply Hk
  have e249 : kernelRun.sl.v249 c i arg21 f21 = inA i (arg21.view.read (Elt F) f21) := load_inA i arg21 f21
  have e250 : kernelRun.sl.v250 c i arg22 f22 = inB i (arg22.view.read (Elt F) f22) := load_inB i arg22 f22
  have e15 : kernelRun.sl.H15_2 c arg2 arg3 arg4 arg6 arg8 arg10 f2 f3 f4 f6 f8 f10 = Blk.p15 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) := rfl
  have e16 : kernelRun.sl.H16_2 c arg2 arg3 arg4 arg6 arg8 f2 f3 f4 f6 f8 = Blk.p16 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) := rfl
  have e17 : kernelRun.sl.H17_2 c arg2 arg3 arg4 arg5 arg7 arg9 f2 f3 f4 f5 f7 f9 = Blk.p17 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) := rfl
  have e18 : kernelRun.sl.H18_2 c arg2 arg3 arg4 arg5 arg7 f2 f3 f4 f5 f7 = Blk.p18 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) := rfl
  have w0 : kernelRun.sl.v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f19 f21 f22 = View.ld (Blk.recA (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) i (arg21.view.read (Elt F) f21)) (Rect.unit (s := S256x16x256) ![0, 0, 0] S256x16x128.size inb_S256x16x256_S256x16x128_0_0_0) := load_recA e15 e16 e17 e18 e249 e250 _ _
  have w1 : kernelRun.sl.v267 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f20 f21 f22 = View.ld (Blk.recB (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) i (arg22.view.read (Elt F) f22)) (Rect.unit (s := S256x16x256) ![0, 0, 0] S256x16x128.size inb_S256x16x256_S256x16x128_0_0_0) := load_recB e15 e16 e17 e18 e249 e250 _ _
  have w2 : kernelRun.sl.v289 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f20 f21 f22 = View.ld (Blk.recB (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) i (arg22.view.read (Elt F) f22)) (Rect.unit (s := S256x16x256) ![0, 0, 128] S256x16x128.size inb_S256x16x256_S256x16x128_0_0_128) := load_recB e15 e16 e17 e18 e249 e250 _ _
  have w3 : kernelRun.sl.r_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f12 f19 f21 f22 = k1_pay55 (Blk.v125 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))) (Blk.v212 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))) (View.ld (Blk.recA (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)) i (arg21.view.read (Elt F) f21)) (Rect.unit (s := S256x16x256) ![0, 0, 128] S256x16x128.size inb_S256x16x256_S256x16x128_0_0_128)) (Blk.v284 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))) :=
    congrArg (fun z => k1_pay55 (Blk.v125 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))) (Blk.v212 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))) z (Blk.v284 (Blk.mk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12)))) (load_recA e15 e16 e17 e18 e249 e250 _ _)
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro
    rw [read_halves]
    rw [w0, w1]
    rfl
  isplitl [H14]
  · iexists _; isplitr; swap; · iexact H14
    ipureintro
    rw [read_halves]
    rw [w2, w3]
    rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _; isplitr; swap; · iexact H21
    ipureintro
    exact store_A e15 e16 e17 e18 e249 e250 _
  · iexists _; isplitr; swap; · iexact H22
    ipureintro
    exact store_B e15 e16 e17 e18 e249 e250 _

end Cert.KernelIdeal.Scan
-- ==== Proof.ScanPipe.lean ====
module

public import proofs.«01_k».proof.Proof.ScanRun
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Defs
variable (V : (c : Dev nD) → (b : Ref sig .tc) → Buf (Elt F) ((c : Thread nD τ).loc b)) (c : Dev nD)

/-! ## The blocks, and the states between the points -/

/-- A window's block at a point, of the arrays the call is entered with. -/
def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The operands' blocks at a point. -/
def blkAt (t : Fin cfg1.N) : Blk F :=
  ⟨iblk V c 0 t, iblk V c 1 t, iblk V c 2 t, iblk V c 3 t, iblk V c 4 t, iblk V c 5 t, iblk V c 6 t, iblk V c 7 t, iblk V c 8 t, iblk V c 9 t, iblk V c 10 t⟩

/-- The two states before point `n`, one point after the other. -/
def states : ℕ → Vec F S16x256 .f32 × Vec F S16x256 .f32
  | 0 => (k1_pay3, k1_pay4)
  | n + 1 => if hn : n < cfg1.N then
      ((blkAt V c ⟨n, hn⟩).outA (grid1.coords ⟨n, hn⟩) (states n).1, (blkAt V c ⟨n, hn⟩).outB (grid1.coords ⟨n, hn⟩) (states n).2)
      else states n

/-- The block of the first result at a point. -/
def outAt11 (t : Fin cfg1.N) : Vec F S2x1x256x128 .f32 := (blkAt V c t).out13 (grid1.coords t) (states V c t.val).1 (states V c t.val).2
/-- The block of the second result at a point. -/
def outAt12 (t : Fin cfg1.N) : Vec F S2x1x256x128 .f32 := (blkAt V c t).out14 (grid1.coords t) (states V c t.val).1 (states V c t.val).2

/-- The states after a point. -/
theorem states_succ (t : Fin cfg1.N) : states V c (t.val + 1)
    = ((blkAt V c t).outA (grid1.coords t) (states V c t.val).1, (blkAt V c t).outB (grid1.coords t) (states V c t.val).2) :=
  dif_pos t.isLt

/-- The first point starts a direction. -/
theorem starts_zero : ∀ t : Fin cfg1.N, t.val = 0 → starts (grid1.coords t) := by
  have h : ∀ t : Fin grid1.N, t.val = 0 → starts (grid1.coords t) := by decide +kernel
  exact h

/-- What a starting point is entered with is forgotten. -/
theorem inA_starts (i : grid1.Coords) (hi : starts i) (h h' : Vec F S16x256 .f32) : inA i h = inA i h' := by
  unfold inA; rw [if_pos hi, if_pos hi]
/-- What a starting point is entered with is forgotten. -/
theorem inB_starts (i : grid1.Coords) (hi : starts i) (h h' : Vec F S16x256 .f32) : inB i h = inB i h' := by
  unfold inB; rw [if_pos hi, if_pos hi]

/-- The scratches between the points: the two carried states are the walk's, before the first point anything. -/
def PhiT (n : ℕ) : sProp 𝕄 :=
  iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d)
    ∗ (∃ h g, ⌜n ≠ 0 → h = (states V c n).1 ∧ g = (states V c n).2⌝ ∗ owns (c : Thread nD τ) (Memref.whole cc1_scratch6) fullShare h ∗ owns (c : Thread nD τ) (Memref.whole cc1_scratch7) fullShare g)
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7] ∗ ∃ r, prngReg c r)

/-- The pipeline's proof data. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outAt11 V c t
    | ⟨12, _⟩ => outAt12 V c t
  Φ t := PhiT V c t.val
  q _ := fullShare
  owed _ := 0

theorem A_eq (c : Dev nD) (w : Fin cfg1.W) : (dat1 V c).A w = V c (Pipeline.arrRef spec1 w) := rfl
theorem after1_0 (c : Dev nD) (t : Fin cfg1.N) : (dat1 V c).after 0 t = iblk V c 0 t := by dsimp only [dat1]
theorem before1_0 (c : Dev nD) (t : Fin cfg1.N) (d) : (dat1 V c).before 0 t d = iblk V c 0 t :=
  ((dat1 V c).before_in_eq_fetched 0 rfl (fun _ => rfl) (fun _ _ _ => rfl) (fun t => by rw [after1_0]; rfl) t d).trans rfl
theorem after1_1 (c : Dev nD) (t : Fin cfg1.N) : (dat1 V c).after 1 t = iblk V c 1 t := by dsimp only [dat1]
theorem before1_1 (c : Dev nD) (t : Fin cfg1.N) (d) : (dat1 V c).before 1 t d = iblk V c 1 t :=
  ((dat1 V c).before_in_eq_fetched 1 rfl (fun _ => rfl) (fun _ _ _ => rfl) (fun t => by rw [after1_1]; rfl) t d).trans rfl
theorem after1_2 (c : Dev nD) (t : Fin cfg1.N) : (dat1 V c).after 2 t = iblk V c 2 t := by dsimp only [dat1]
theorem before1_2 (c : Dev nD) (t : Fin cfg1.N) (d) : (dat1 V c).before 2 t d = iblk V c 2 t :=
  ((dat1 V c).before_in_eq_fetched 2 rfl (fun _ => rfl) (fun _ _ _ => rfl) (fun t => by rw [after1_2]; rfl) t d).trans rfl
theorem after1_3 (c : Dev nD) (t : Fin cfg1.N) : (dat1 V c).after 3 t = iblk V c 3 t := by dsimp only [dat1]
theorem before1_3 (c : Dev nD) (t : Fin cfg1.N) (d) : (dat1 V c).before 3 t d = iblk V c 3 t :=
  ((dat1 V c).before_in_eq_fetched 3 rfl (fun _ => rfl) (fun _ _ _ => rfl) (fun t => by rw [after1_3]; rfl) t d).trans rfl
theorem after1_4 (c : Dev nD) (t : Fin cfg1.N) : (dat1 V c).after 4 t = iblk V c 4 t := by dsimp only [dat1]
theorem before1_4 (c : Dev nD) (t : Fin cfg1.N) (d) : (dat1 V c).before 4 t d = iblk V c 4 t :=
  ((dat1 V c).before_in_eq_fetched 4 rfl (fun _ => rfl) (fun _ _ _ => rfl) (fun t => by rw [after1_4]; rfl) t d).trans rfl
theorem after1_5 (c : Dev nD) (t : Fin cfg1.N) : (dat1 V c).after 5 t = iblk V c 5 t := by dsimp only [dat1]
theorem before1_5 (c : Dev nD) (t : Fin cfg1.N) (d) : (dat1 V c).before 5 t d = iblk V c 5 t :=
  ((dat1 V c).before_in_eq_fetched 5 rfl (fun _ => rfl) (fun _ _ _ => rfl) (fun t => by rw [after1_5]; rfl) t d).trans rfl
theorem after1_6 (c : Dev nD) (t : Fin cfg1.N) : (dat1 V c).after 6 t = iblk V c 6 t := by dsimp only [dat1]
theorem before1_6 (c : Dev nD) (t : Fin cfg1.N) (d) : (dat1 V c).before 6 t d = iblk V c 6 t :=
  ((dat1 V c).before_in_eq_fetched 6 rfl (fun _ => rfl) (fun _ _ _ => rfl) (fun t => by rw [after1_6]; rfl) t d).trans rfl
theorem after1_7 (c : Dev nD) (t : Fin cfg1.N) : (dat1 V c).after 7 t = iblk V c 7 t := by dsimp only [dat1]
theorem before1_7 (c : Dev nD) (t : Fin cfg1.N) (d) : (dat1 V c).before 7 t d = iblk V c 7 t :=
  ((dat1 V c).before_in_eq_fetched 7 rfl (fun _ => rfl) (fun _ _ _ => rfl) (fun t => by rw [after1_7]; rfl) t d).trans rfl
theorem after1_8 (c : Dev nD) (t : Fin cfg1.N) : (dat1 V c).after 8 t = iblk V c 8 t := by dsimp only [dat1]
theorem before1_8 (c : Dev nD) (t : Fin cfg1.N) (d) : (dat1 V c).before 8 t d = iblk V c 8 t :=
  ((dat1 V c).before_in_eq_fetched 8 rfl (fun _ => rfl) (fun _ _ _ => rfl) (fun t => by rw [after1_8]; rfl) t d).trans rfl
theorem after1_9 (c : Dev nD) (t : Fin cfg1.N) : (dat1 V c).after 9 t = iblk V c 9 t := by dsimp only [dat1]
theorem before1_9 (c : Dev nD) (t : Fin cfg1.N) (d) : (dat1 V c).before 9 t d = iblk V c 9 t :=
  ((dat1 V c).before_in_eq_fetched 9 rfl (fun _ => rfl) (fun _ _ _ => rfl) (fun t => by rw [after1_9]; rfl) t d).trans rfl
theorem after1_10 (c : Dev nD) (t : Fin cfg1.N) : (dat1 V c).after 10 t = iblk V c 10 t := by dsimp only [dat1]
theorem before1_10 (c : Dev nD) (t : Fin cfg1.N) (d) : (dat1 V c).before 10 t d = iblk V c 10 t :=
  ((dat1 V c).before_in_eq_fetched 10 rfl (fun _ => rfl) (fun _ _ _ => rfl) (fun t => by rw [after1_10]; rfl) t d).trans rfl
theorem after1_11 (c : Dev nD) (t : Fin cfg1.N) : (dat1 V c).after 11 t = outAt11 V c t := by dsimp only [dat1]
theorem after1_12 (c : Dev nD) (t : Fin cfg1.N) : (dat1 V c).after 12 t = outAt12 V c t := by dsimp only [dat1]

/-- What the body is called with at a point. -/
def bodyPre (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))
/-- What the body returns at a point. -/
def bodyPost (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- What a point's body leaves depends on the states only where they are known. -/
theorem outs_eq (t : Fin cfg1.N) (h g : Vec F S16x256 .f32) (hh : t.val ≠ 0 → h = (states V c t.val).1 ∧ g = (states V c t.val).2) :
    (blkAt V c t).out13 (grid1.coords t) h g = outAt11 V c t ∧ (blkAt V c t).out14 (grid1.coords t) h g = outAt12 V c t
    ∧ (blkAt V c t).outA (grid1.coords t) h = (states V c (t.val + 1)).1 ∧ (blkAt V c t).outB (grid1.coords t) g = (states V c (t.val + 1)).2 := by
  rw [states_succ]
  by_cases h0 : t.val = 0
  · have hs := starts_zero t h0
    unfold outAt11 outAt12 Blk.out13 Blk.out14 Blk.outA Blk.outB Blk.recA Blk.recB
    rw [inA_starts _ hs h (states V c t.val).1, inB_starts _ hs g (states V c t.val).2]
    exact ⟨rfl, rfl, rfl, rfl⟩
  · obtain ⟨rfl, rfl⟩ := hh h0
    exact ⟨rfl, rfl, rfl, rfl⟩

/-- The body at a point. -/
theorem sound_body (t : Fin cfg1.N) :
    bodyPre V c t ⊢ wp frame (wpE (defs₀ (F := F)) Variants.none c none) Set.univ (bodyAt1 t) (fun _ => bodyPost V c t) := by
  unfold bodyPre bodyPost bodyAt1
  rw [show (dat1 V c).owesAt () t.succ = (dat1 V c).owesAt () t.castSucc from rfl,
    show (dat1 V c).Φ t.castSucc = PhiT V c t.val from rfl, show (dat1 V c).Φ t.succ = PhiT V c (t.val + 1) from rfl]
  simp only [before1_0, after1_0, before1_1, after1_1, before1_2, after1_2, before1_3, after1_3, before1_4, after1_4, before1_5, after1_5, before1_6, after1_6, before1_7, after1_7, before1_8, after1_8, before1_9, after1_9, before1_10, after1_10, after1_11, after1_12]
  unfold PhiT
  iintro ⟨⟨HS0, HS1, HS2, HS3, HS4, HS5, ⟨%h, %g, %hh, HS6, HS7⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain ⟨e13, e14, eA, eB⟩ := outs_eq V c t h g hh
  iapply (kernelRun c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (blkAt V c t) h g _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, HS0, HS1, HS2, HS3, HS4, HS5, HS6, HS7⟩
  rw [e13, e14, eA, eB]
  isplitl [HS0 HS1 HS2 HS3 HS4 HS5 HS6 HS7 HR]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6 HS7]
    · iexists _, _
      isplitr; · ipureintro; exact fun _ => ⟨rfl, rfl⟩
      isplitl [HS6]; · iexact HS6
      iexact HS7
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body. -/
theorem defs₀_row (t : Fin cfg1.N) : defs₀ (F := F) .tc cfg1.body (cfg1.bodyArgs t (cfg1.slots t)) = bodyAt1 t := by
  unfold defs₀; rw [Defs.onTc_tc]

/-- The body obligation. -/
theorem body_obligation : BodyObligation (dat1 (F := F) V c) (defs₀ (F := F)) Variants.none () Set.univ := fun t => by
  rw [bigSep_W1, bigSep_W1, defs₀_row]
  exact triple_restated (sound_body V c t) rfl .rfl fun _ => .rfl

/-- The invariant before the first point is what the launch hands over. -/
theorem Phi_in : (Pipeline.ΦA spec1 c : sProp 𝕄) ⊢ PhiT (F := F) V c 0 := by
  unfold Pipeline.ΦA PhiT
  rw [scopedRest1_split]
  simp only [owns_whole]
  iintro ⟨⟨⟨HS0, HS1, HS2, HS3, HS4, HS5, ⟨%h, HS6⟩, ⟨%g, HS7⟩⟩, HB⟩, HR⟩
  isplitl [HS0]; · iexact HS0
  isplitl [HS1]; · iexact HS1
  isplitl [HS2]; · iexact HS2
  isplitl [HS3]; · iexact HS3
  isplitl [HS4]; · iexact HS4
  isplitl [HS5]; · iexact HS5
  isplitl [HS6 HS7]
  · iexists h, g
    isplitr; · ipureintro; exact fun h => absurd rfl h
    isplitl [HS6]; · iexact HS6
    iexact HS7
  isplitl [HB]; · iexact HB
  iexact HR

/-- After the last point the scratches are handed back. -/
theorem Phi_out (n : ℕ) : PhiT (F := F) V c n ⊢ (Pipeline.ΦA spec1 c : sProp 𝕄) := by
  unfold Pipeline.ΦA PhiT
  rw [scopedRest1_split]
  simp only [owns_whole]
  iintro ⟨HS0, HS1, HS2, HS3, HS4, HS5, ⟨%h, %g, %hh, HS6, HS7⟩, HB, HR⟩
  isplitr [HR]
  · isplitr [HB]; swap; · iexact HB
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexists h; iexact HS6
    iexists g; iexact HS7
  iexact HR

end Defs

end Cert.KernelIdeal.Scan
-- ==== Proof.Whole.lean ====
module

public import proofs.«01_k».proof.Proof.ConvRun
public import proofs.«01_k».proof.Proof.NormRun
public import proofs.«01_k».proof.Proof.ScanPipe
public import proofs.«01_k».proof.Proof.Gen.KernelIdeal.Regions
public import Idealize.ShloMosaic.Lib.Pipeline.RegionArraysS
public import Idealize.ShloMosaic.Lib.Pipeline.RegionsLoop
public import Idealize.ShloMosaic.Lib.Ring
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! ## The buffers' contents, from the launch to the return -/

section Contents
variable (W : Dev nD → Valuation τ sig (Elt F))

/-- What the first call is entered with, from the contents before its host operations. -/
abbrev ent0 (c : Dev nD) (b : Ref sig .tc) : Buf (Elt F) ((c : Thread nD τ).loc b) := StableHlo.after hostOps0 (W c) b
/-- What the second call is entered with. -/
abbrev ent1 (c : Dev nD) (b : Ref sig .tc) : Buf (Elt F) ((c : Thread nD τ).loc b) := StableHlo.after hostOps1 (W c) b
/-- What the third call is entered with. -/
abbrev ent2 (c : Dev nD) (b : Ref sig .tc) : Buf (Elt F) ((c : Thread nD τ).loc b) := StableHlo.after hostOps2 (W c) b

/-- The contents after the first call, from those before its host operations. -/
def next0 (c : Dev nD) : Valuation τ sig (Elt F) := Pipeline.afterRegion (Conv.dat0 (ent0 W) c) (StableHlo.after hostOps0 (W c))
/-- The contents after the second call. -/
def next1 (c : Dev nD) : Valuation τ sig (Elt F) := Pipeline.afterRegion (Scan.dat1 (ent1 W) c) (StableHlo.after hostOps1 (W c))
/-- The contents after the third call. -/
def next2 (c : Dev nD) : Valuation τ sig (Elt F) := Pipeline.afterRegion (Norm.dat2 (ent2 W) c) (StableHlo.after hostOps2 (W c))

/-- After the first call a window's array holds what the proof data compute. -/
theorem next0_arr (c : Dev nD) (w : Fin cfg0.W) : next0 W c (Proc.devRef .tc (Pipeline.arrRef spec0 w)) = (Conv.dat0 (ent0 W) c).arrAt w cfg0.N :=
  Pipeline.afterRegion_arr (Conv.dat0 (ent0 W) c) _ launch0.win.arr_inj w
/-- So after the second. -/
theorem next1_arr (c : Dev nD) (w : Fin cfg1.W) : next1 W c (Proc.devRef .tc (Pipeline.arrRef spec1 w)) = (Scan.dat1 (ent1 W) c).arrAt w cfg1.N :=
  Pipeline.afterRegion_arr (Scan.dat1 (ent1 W) c) _ launch1.win.arr_inj w
/-- So after the third. -/
theorem next2_arr (c : Dev nD) (w : Fin cfg2.W) : next2 W c (Proc.devRef .tc (Pipeline.arrRef spec2 w)) = (Norm.dat2 (ent2 W) c).arrAt w cfg2.N :=
  Pipeline.afterRegion_arr (Norm.dat2 (ent2 W) c) _ launch2.win.arr_inj w

/-- What neither the host operations nor the first call writes is kept. -/
theorem next0_of (c : Dev nD) (r : Ref sig .tc) (hr : r ∉ hostOps0_W) (h : ∀ w : Fin cfg0.W, Pipeline.arrRef spec0 w = r → (cfg0.win w).isOut = false) :
    next0 W c (Proc.devRef .tc r) = W c (Proc.devRef .tc r) :=
  (Pipeline.afterRegion_keeps (Conv.dat0 (ent0 W) c) _ launch0.win.arr_inj (Conv.A_eq0 (ent0 W) c) r h).trans
    (StableHlo.after_of_writes_sub hostOps0 _ hostOps0_writes hr)
/-- So for the second. -/
theorem next1_of (c : Dev nD) (r : Ref sig .tc) (hr : r ∉ hostOps1_W) (h : ∀ w : Fin cfg1.W, Pipeline.arrRef spec1 w = r → (cfg1.win w).isOut = false) :
    next1 W c (Proc.devRef .tc r) = W c (Proc.devRef .tc r) :=
  (Pipeline.afterRegion_keeps (Scan.dat1 (ent1 W) c) _ launch1.win.arr_inj (Scan.A_eq (ent1 W) c) r h).trans
    (StableHlo.after_of_writes_sub hostOps1 _ hostOps1_writes hr)
/-- So for the third. -/
theorem next2_of (c : Dev nD) (r : Ref sig .tc) (hr : r ∉ hostOps2_W) (h : ∀ w : Fin cfg2.W, Pipeline.arrRef spec2 w = r → (cfg2.win w).isOut = false) :
    next2 W c (Proc.devRef .tc r) = W c (Proc.devRef .tc r) :=
  (Pipeline.afterRegion_keeps (Norm.dat2 (ent2 W) c) _ launch2.win.arr_inj (Norm.A_eq2 (ent2 W) c) r h).trans
    (StableHlo.after_of_writes_sub hostOps2 _ hostOps2_writes hr)

end Contents

variable (m : (ℓ : Loc nD τ sig) → Buf (Elt F) ℓ) (ρ : Dev nD → PrngReg)

/-- The contents at the launch. -/
abbrev W0 (c : Dev nD) : Valuation τ sig (Elt F) := fun b => m (c, b)
/-- The contents after the first call. -/
abbrev W1 : Dev nD → Valuation τ sig (Elt F) := next0 (W0 m)
/-- The contents after the second. -/
abbrev W2 : Dev nD → Valuation τ sig (Elt F) := next1 (W1 m)
/-- The contents after the third. -/
abbrev W3 : Dev nD → Valuation τ sig (Elt F) := next2 (W2 m)
/-- The contents at the return. -/
abbrev W4 (c : Dev nD) : Valuation τ sig (Elt F) := StableHlo.after hostOps3 (W3 m c)

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem args_host0 : ∀ a ∈ argRefs, a ∉ hostOps0_W := ListAll.forall_mem_of_all_decide (by decide +kernel)
theorem args_host1 : ∀ a ∈ argRefs, a ∉ hostOps1_W := ListAll.forall_mem_of_all_decide (by decide +kernel)
theorem args_host2 : ∀ a ∈ argRefs, a ∉ hostOps2_W := ListAll.forall_mem_of_all_decide (by decide +kernel)
theorem args_host3 : ∀ a ∈ argRefs, a ∉ hostOps3_W := ListAll.forall_mem_of_all_decide (by decide +kernel)
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg2.W, Pipeline.arrRef spec2 w = a → (cfg2.win w).isOut = false :=
  ListAll.forall_mem_of_all_decide (by decide +kernel)

/-- The first call keeps the arguments. -/
theorem W1_args (c : Dev nD) (a : Ref sig .tc) (ha : a ∈ argRefs) : W1 m c (Proc.devRef .tc a) = m ((c : Thread nD τ).loc a) :=
  next0_of (W0 m) c a (args_host0 a ha) (args_in0 a ha)
/-- So do the first two. -/
theorem W2_args (c : Dev nD) (a : Ref sig .tc) (ha : a ∈ argRefs) : W2 m c (Proc.devRef .tc a) = m ((c : Thread nD τ).loc a) :=
  (next1_of (W1 m) c a (args_host1 a ha) (args_in1 a ha)).trans (W1_args m c a ha)
/-- So do all three. -/
theorem W3_args (c : Dev nD) (a : Ref sig .tc) (ha : a ∈ argRefs) : W3 m c (Proc.devRef .tc a) = m ((c : Thread nD τ).loc a) :=
  (next2_of (W2 m) c a (args_host2 a ha) (args_in2 a ha)).trans (W2_args m c a ha)
/-- And what is done with the result at the end. -/
theorem W4_args (c : Dev nD) (a : Ref sig .tc) (ha : a ∈ argRefs) : W4 m c (Proc.devRef .tc a) = m ((c : Thread nD τ).loc a) :=
  (StableHlo.after_of_writes_sub hostOps3 _ hostOps3_writes (args_host3 a ha)).trans (W3_args m c a ha)

/-! ## The three calls as segments of one run -/

/-- The three calls' proof data, each at the contents it is entered with. -/
def pdats : (p : Fin 3) → (c : Dev nD) → Dat τ (Elt F) Unit ℕ (UR sig nD τ) ℕ (Pipeline.pin (pcfgs (F := F)) adm p) c
  | ⟨0, _⟩ => fun c => Conv.dat0 (ent0 (W0 m)) c
  | ⟨1, _⟩ => fun c => Scan.dat1 (ent1 (W1 m)) c
  | ⟨2, _⟩ => fun c => Norm.dat2 (ent2 (W2 m)) c

/-- Every wait of the TensorCores is at one level. -/
abbrev L : GSem nD τ sig → Finset Unit := fun g => if g.1.2 = .tc then {()} else ∅
/-- That level. -/
abbrev lv : GSem nD τ sig → Unit → ℕ := fun _ _ => 0
/-- What a core holds beside the buffers: no debt and the generator register. -/
abbrev rest (c : Dev nD) : sProp 𝕄 :=
  iprop((∃ Wd, owes (c : Thread nD τ) (0 : CellTallies nD τ sig Unit) Wd) ∗ (∃ r, prngReg c r) ∗ emp)
/-- A core's holdings between two segments, the buffers at the given contents. -/
abbrev st (W : Dev nD → Valuation τ sig (Elt F)) (c : Dev nD) : sProp 𝕄 :=
  iprop(StableHlo.held (c : Thread nD τ) (Pipeline.ucRefs τ sig) (W c) ∗ rest c)

/-- The host operations before a call. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- A core that owes nothing may wait at every staging buffer. -/
theorem cut (p : Fin 3) : Pipeline.LevelCut (pcfgs (F := F)) adm () L lv p (fun _ => (0 : CellTallies nD τ sig Unit)) fun _ => 0 where
  hι c w s := by simp [L]
  hιb c w s := le_rfl
  hD c g i h := absurd h (Nat.lt_irrefl 0)

set_option backward.isDefEq.respectTransparency.types false in
/-- A call as a segment, from its body's obligation and the two ends of its invariant. -/
def callSeg (p : Fin 3) (kit : Pipeline.LaunchFacts (nD := nD) (τ := τ) cfgs p)
    (hbody : ∀ c, Pipeline.BodyObligationLoose (pdats m p c) defs₀ Variants.none () Set.univ)
    (howed : ∀ c t, (pdats m p c).owed t = 0) (hrec : ∀ c, (pdats m p c).recorded 0 = Set.univ)
    (hshare : ∀ c w, (pdats m p c).share w = fullShare)
    (hin : ∀ c, iprop(Pipeline.scopedRest (Pipeline.pin (pcfgs (F := F)) adm p).spec c ∗ ∃ r, prngReg c r) ⊢ (pdats m p c).Φ 0)
    (hout : ∀ c, (pdats m p c).Φ (Fin.last (Pipeline.pin (pcfgs (F := F)) adm p).N)
      ⊢ iprop(Pipeline.scopedRest (Pipeline.pin (pcfgs (F := F)) adm p).spec c ∗ ∃ r, prngReg c r))
    (W : Dev nD → Valuation τ sig (Elt F))
    (hW : ∀ c w, (pdats m p c).arrAt w 0 = W c (Proc.devRef .tc (Pipeline.arrRef (Pipeline.pin (pcfgs (F := F)) adm p).spec w))) :
    Pipeline.RegionSeg (pcfgs (F := F)) adm (pdats m) () defs₀ Variants.none L lv p :=
  Pipeline.RegionSeg.ofHeldIn (pcfgs (F := F)) adm (pdats m) () defs₀ Variants.none L lv p (fun _ => 0) (Pipeline.ucRefs τ sig)
    (fun c => iprop(∃ r, prngReg c r)) (fun c => iprop(∃ r, prngReg c r)) kit.toP rfl hbody howed hrec hshare hin hout
    (fun _ => 0) (cut p) (fun _ => iprop(emp)) W hW

/-- A call's arrays are among the buffers held. -/
theorem arr_held (p : Fin 3) (kit : Pipeline.LaunchFacts (nD := nD) (τ := τ) cfgs p) :
    Pipeline.arrRefs (τ := τ) (pcfgs (F := F) p).spec ⊆ Pipeline.ucRefs τ sig :=
  Pipeline.arrRefs_sub_ucRefs _ kit.win.arr_unscoped

set_option backward.isDefEq.respectTransparency.types false in
/-- A call is entered with the buffers at its entry contents. -/
theorem callSeg_pre (p : Fin 3) (kit : Pipeline.LaunchFacts (nD := nD) (τ := τ) cfgs p) (hheld : Pipeline.arrRefs (τ := τ) (pcfgs (F := F) p).spec ⊆ Pipeline.ucRefs τ sig)
    {hbody howed hrec hshare hin hout} {W : Dev nD → Valuation τ sig (Elt F)} {hW} (c : Dev nD) :
    st W c ⊢ (callSeg m p kit hbody howed hrec hshare hin hout W hW).pre c := by
  unfold callSeg
  refine BIBase.Entails.trans ?_ (Pipeline.RegionSeg.ofHeldIn_pre hheld c)
  exact .rfl
set_option backward.isDefEq.respectTransparency.types false in
/-- And left with them as its proof data compute. -/
theorem callSeg_post (p : Fin 3) (kit : Pipeline.LaunchFacts (nD := nD) (τ := τ) cfgs p) (hheld : Pipeline.arrRefs (τ := τ) (pcfgs (F := F) p).spec ⊆ Pipeline.ucRefs τ sig)
    {hbody howed hrec hshare hin hout} {W : Dev nD → Valuation τ sig (Elt F)} {hW} (c : Dev nD) :
    (callSeg m p kit hbody howed hrec hshare hin hout W hW).post c ⊢ st (fun c => Pipeline.afterRegion (pdats m p c) (W c)) c :=
  Pipeline.RegionSeg.ofHeldIn_post hheld c

set_option backward.isDefEq.respectTransparency.types false in
/-- The first call. -/
def call0 : Pipeline.RegionSeg (pcfgs (F := F)) adm (pdats m) () defs₀ Variants.none L lv 0 :=
  callSeg m 0 launch0 (fun c => (Conv.body_obligation0 (ent0 (W0 m)) c).loose) (fun _ _ => rfl) (fun _ => rfl)
    (fun c => (pdats m 0 c).share_full fun _ => rfl) (fun _ => .rfl) (fun _ => .rfl) (fun c => StableHlo.after hostOps0 (W0 m c)) fun _ _ => rfl

set_option backward.isDefEq.respectTransparency.types false in
/-- The second call. -/
def call1 : Pipeline.RegionSeg (pcfgs (F := F)) adm (pdats m) () defs₀ Variants.none L lv 1 :=
  callSeg m 1 launch1 (fun c => (Scan.body_obligation (ent1 (W1 m)) c).loose) (fun _ _ => rfl) (fun _ => rfl)
    (fun c => (pdats m 1 c).share_full fun _ => rfl) (fun c => Scan.Phi_in (ent1 (W1 m)) c) (fun c => Scan.Phi_out (ent1 (W1 m)) c _)
    (fun c => StableHlo.after hostOps1 (W1 m c)) fun _ _ => rfl

set_option backward.isDefEq.respectTransparency.types false in
/-- The third call. -/
def call2 : Pipeline.RegionSeg (pcfgs (F := F)) adm (pdats m) () defs₀ Variants.none L lv 2 :=
  callSeg m 2 launch2 (fun c => (Norm.body_obligation2 (ent2 (W2 m)) c).loose) (fun _ _ => rfl) (fun _ => rfl)
    (fun c => (pdats m 2 c).share_full fun _ => rfl) (fun _ => .rfl) (fun _ => .rfl) (fun c => StableHlo.after hostOps2 (W2 m c)) fun _ _ => rfl

/-! The three calls' ends, at the contents followed above. -/

theorem call0_pre (c : Dev nD) : st (fun c => StableHlo.after hostOps0 (W0 m c)) c ⊢ (call0 m).pre c :=
  callSeg_pre m 0 launch0 (arr_held 0 launch0) c
theorem W1_eq : W1 m = fun c => Pipeline.afterRegion (pdats m 0 c) (StableHlo.after hostOps0 (W0 m c)) := rfl
theorem call0_post (c : Dev nD) : (call0 m).post c ⊢ st (W1 m) c := by
  rw [W1_eq m]
  exact callSeg_post m 0 launch0 (arr_held 0 launch0) c
theorem call1_pre (c : Dev nD) : st (fun c => StableHlo.after hostOps1 (W1 m c)) c ⊢ (call1 m).pre c :=
  callSeg_pre m 1 launch1 (arr_held 1 launch1) c
theorem W2_eq : W2 m = fun c => Pipeline.afterRegion (pdats m 1 c) (StableHlo.after hostOps1 (W1 m c)) := rfl
theorem call1_post (c : Dev nD) : (call1 m).post c ⊢ st (W2 m) c := by
  rw [W2_eq m]
  exact callSeg_post m 1 launch1 (arr_held 1 launch1) c
theorem call2_pre (c : Dev nD) : st (fun c => StableHlo.after hostOps2 (W2 m c)) c ⊢ (call2 m).pre c :=
  callSeg_pre m 2 launch2 (arr_held 2 launch2) c
theorem W3_eq : W3 m = fun c => Pipeline.afterRegion (pdats m 2 c) (StableHlo.after hostOps2 (W2 m c)) := rfl
theorem call2_post (c : Dev nD) : (call2 m).post c ⊢ st (W3 m) c := by
  rw [W3_eq m]
  exact callSeg_post m 2 launch2 (arr_held 2 launch2) c

/-- The program's segments. -/
abbrev segs : List (Pipeline.Seg (pcfgs (F := F)) adm (pdats m) () defs₀ Variants.none L lv) :=
  [ .host (hostSeg hostOps0 hostOps0_sub hostOps0_fresh (W0 m)), .region (call0 m),
    .host (hostSeg hostOps1 hostOps1_sub hostOps1_fresh (W1 m)), .region (call1 m),
    .host (hostSeg hostOps2 hostOps2_sub hostOps2_fresh (W2 m)), .region (call2 m),
    .host (hostSeg hostOps3 hostOps3_sub hostOps3_fresh (W3 m)) ]

/-- The program is its segments. -/
theorem main_run (c : Dev nD) : main (F := F) c = Pipeline.Seg.run (segs m) := (main_chain c).trans (by chain_rfl)

/-- What the last segment leaves. -/
abbrev final (c : Dev nD) : sProp 𝕄 := iprop(StableHlo.held (c : Thread nD τ) (Pipeline.ucRefs τ sig) (W4 m c) ∗ ∃ r, prngReg c r)

/-- The holdings at the return, the debt apart. -/
theorem final_of (c : Dev nD) : st (W4 m) c ⊢ iprop(final m c ∗ ∃ Wd, owes (c : Thread nD τ) (0 : CellTallies nD τ sig Unit) Wd) := by
  iintro ⟨Hh, HO, Hp, -⟩
  isplitl [Hh Hp]
  · isplitl [Hh]; · iexact Hh
    iexact Hp
  iexact HO

/-- No semaphore outlives a call. -/
theorem sems_scoped : ∀ sm : SemLoc sig, sm.isScoped .tc = true := by decide

set_option backward.isDefEq.respectTransparency.types false in
/-- The segments chain from the launch to the return. -/
theorem chains : Pipeline.Seg.Chains (st (W0 m)) (segs m) fun c => iprop(final m c ∗ ∃ Wd, owes (c : Thread nD τ) (0 : CellTallies nD τ sig Unit) Wd) :=
  ⟨fun _ => .rfl, call0_pre m, call0_post m, call1_pre m, call1_post m, call2_pre m, call2_post m, final_of m⟩

set_option backward.isDefEq.respectTransparency.types false in
/-- Every execution ends, with every buffer at the contents followed above and every counter at zero. -/
theorem run : θ_run defs (onTc (τ := τ) (main (F := F))) ⟨m, fun _ => 0, ρ⟩
    (fun r => (∀ c : Dev nD, ∀ b ∈ Pipeline.ucRefs τ sig, r.2.mem (c, b) = W4 m c b) ∧ r.2.sem = fun _ => 0) :=
  Pipeline.θ_run_regions_kit_sems (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun g hg => if_neg hg) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := st (W0 m)) (Tₙ := final m) (hch := chains m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (c, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (Or.inr (sems_scoped g.2))⟩)

/-- An array that outlives the calls is among the buffers followed. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_uc : ∀ a ∈ argRefs, ¬ (Proc.devRef .tc a : DevRef τ sig).isScoped := ListAll.forall_mem_of_all_decide (by decide +kernel)

/-- Every execution ends with the results at the contents followed above, the arguments as they were and every counter at zero. -/
theorem run_main : θ_run defs (onTc (τ := τ) (main (F := F))) ⟨m, fun _ => 0, ρ⟩
    (fun r => (∀ c : Dev nD, r.2.mem ((c : Thread nD τ).loc main_v44) = W4 m c (Proc.devRef .tc main_v44)
      ∧ r.2.mem ((c : Thread nD τ).loc main_v47) = W4 m c (Proc.devRef .tc main_v47)
      ∧ ∀ a ∈ argRefs, r.2.mem ((c : Thread nD τ).loc a) = m ((c : Thread nD τ).loc a)) ∧ r.2.sem = fun _ => 0) :=
  (θ_run defs _ _).mono (fun r h => ⟨fun c => ⟨h.1 c _ (mem_uc main_v44 (by decide)), h.1 c _ (mem_uc main_v47 (by decide)),
    fun a ha => (h.1 c _ (mem_uc a (args_uc a ha))).trans (W4_args m c a ha)⟩, h.2⟩) (run m ρ)

end Cert.KernelIdeal.Whole
-- ==== Proof.ConvMath.lean ====
/- The first call's mathematics: the projection, the nine shifted products, the gate; and its payloads read at an index. -/
module

public import proofs.«01_k».proof.Proof.ConvRun
public import Idealize.ShloMosaic.Lib.Pointwise
public import Idealize.ShloMosaic.Lib.WordCmp
public import Idealize.ShloMosaic.Lib.Pipeline.Value
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe

/-! ## An image's shifts, its nine products and the gate -/

/-- A line of places moved by `a - 1`, with zeros from outside. -/
def shift (a : ℕ) (f : Fin 64 → EReal) (h : Fin 64) : EReal :=
  if e : 1 ≤ h.val + a ∧ h.val + a ≤ 64 then f ⟨h.val + a - 1, by omega⟩ else 0
/-- An image moved by `a - 1` rows and `b - 1` columns. -/
def tap (u : Fin 64 → Fin 64 → EReal) (a b : ℕ) (h w : Fin 64) : EReal := shift a (fun h' => shift b (u h') w) h
/-- The nine products' sum and the term. -/
def conv (u : Fin 64 → Fin 64 → EReal) (k : Fin 9 → EReal) (b : EReal) (h w : Fin 64) : EReal :=
  b + tap u 0 0 h w * k 0 + tap u 0 1 h w * k 1 + tap u 0 2 h w * k 2 + tap u 1 0 h w * k 3 + tap u 1 1 h w * k 4
    + tap u 1 2 h w * k 5 + tap u 2 0 h w * k 6 + tap u 2 1 h w * k 7 + tap u 2 2 h w * k 8
/-- The gate. -/
def gate (y : EReal) : EReal := y * Ideal.div 1 (1 + Ideal.exp (-y))
/-- An entry of the projection. -/
def proj (x : Fin 64 → Fin 64 → Fin 64 → EReal) (w : Fin 256 → Fin 64 → EReal) (q : Fin 256) (h j : Fin 64) : EReal := ∑ c, x h j c * w q c
/-- A channel among the projection's first half, and among its second. -/
def lo (d : Fin 128) : Fin 256 := ⟨d.val, by omega⟩
def hi (d : Fin 128) : Fin 256 := ⟨128 + d.val, by omega⟩

theorem shift_zero (f : Fin 64 → EReal) (h : Fin 64) : shift 0 f h = if e : h.val < 1 then 0 else f ⟨h.val - 1, by omega⟩ := by
  unfold shift; split_ifs <;> first | rfl | (exfalso; omega)
theorem shift_one (f : Fin 64 → EReal) (h : Fin 64) : shift 1 f h = f h := by
  unfold shift; rw [dif_pos (by omega)]; rfl
theorem shift_two (f : Fin 64 → EReal) (h : Fin 64) : shift 2 f h = if e : h.val < 63 then f ⟨1 + h.val, by omega⟩ else 0 := by
  unfold shift; split_ifs <;> first | exact congrArg f (Fin.ext (by dsimp only; omega)) | rfl | (exfalso; omega)

/-! ## The payloads -/

variable (x : FVec Ideal S1x64x64x64 .f32) (w : FVec Ideal S1x256x64 .f32) (k : FVec Ideal S1x9x128 .f32) (b : FVec Ideal S1x1x128 .f32)

/-- A channel's image. -/
def img (d : Fin 128) : Fin 64 → Fin 64 → EReal := proj (fun h j c => x (ix4 0 h j c)) (fun q c => w (ix3 0 q c)) (lo d)

theorem mid_at (h j : Fin 64) (d : Fin 128) : k0_pay6 (F := Ideal) x w (ix3 h j d) = img x w d h j := by
  unfold img proj lo
  pointwise [k0_pay6, k0_pay4]
theorem right_at (h j : Fin 64) (d : Fin 128) : k0_pay10 (F := Ideal) x w (ix3 h j d) = shift 2 (img x w d h) j := by
  rw [shift_two]
  simp only [← mid_at]
  unfold k0_pay10
  generalize k0_pay6 (F := Ideal) x w = u
  pointwise [k0_pay8]
theorem left_at (h j : Fin 64) (d : Fin 128) : k0_pay11 (F := Ideal) x w (ix3 h j d) = shift 0 (img x w d h) j := by
  rw [shift_zero]
  simp only [← mid_at]
  unfold k0_pay11
  generalize k0_pay6 (F := Ideal) x w = u
  pointwise [k0_pay8]
theorem first_at (h j : Fin 64) (d : Fin 128) : k0_pay12 (F := Ideal) x w k (ix3 h j d) = tap (img x w d) 0 0 h j * k (ix3 0 0 d) := by
  unfold tap
  rw [shift_zero]
  simp only [← left_at]
  unfold k0_pay12
  generalize k0_pay11 (F := Ideal) x w = u
  pointwise [k0_pay9, k0_pay7]
theorem second_at (h j : Fin 64) (d : Fin 128) : k0_pay13 (F := Ideal) x w k (ix3 h j d) = tap (img x w d) 0 1 h j * k (ix3 0 1 d) := by
  unfold tap
  rw [shift_zero]
  simp only [shift_one, ← mid_at]
  unfold k0_pay13
  generalize k0_pay6 (F := Ideal) x w = u
  pointwise [k0_pay9, k0_pay7]
theorem third_at (h j : Fin 64) (d : Fin 128) : k0_pay14 (F := Ideal) x w k (ix3 h j d) = tap (img x w d) 0 2 h j * k (ix3 0 2 d) := by
  unfold tap
  rw [shift_zero]
  simp only [← right_at]
  unfold k0_pay14
  generalize k0_pay10 (F := Ideal) x w = u
  pointwise [k0_pay9, k0_pay7]
theorem rest_at (v10 v16 v18 v25 v32 v39 : FVec Ideal S64x64x128 .f32) (h j : Fin 64) (d : Fin 128) :
    k0_pay16 (F := Ideal) v10 (k0_pay7 k) k0_pay9 v16 v18 v25 v32 v39 (k0_pay15 k) b (ix3 h j d)
      = ((v25 (ix3 h j d) + v32 (ix3 h j d)) + (v39 (ix3 h j d) + v18 (ix3 h j d) * k (ix3 0 3 d)))
        + ((v10 (ix3 h j d) * k (ix3 0 4 d) + v16 (ix3 h j d) * k (ix3 0 5 d))
          + (shift 2 (fun h' => v18 (ix3 h' j d)) h * k (ix3 0 6 d) + shift 2 (fun h' => v10 (ix3 h' j d)) h * k (ix3 0 7 d)))
        + shift 2 (fun h' => v16 (ix3 h' j d)) h * k (ix3 0 8 d) + b (ix3 0 0 d) := by
  simp only [shift_two]
  pointwise [k0_pay16, k0_pay9, k0_pay7, k0_pay15]

/-- A place's row and its column, of its number by rows. -/
def row (l : Fin 4096) : Fin 64 := ⟨l.val / 64, by omega⟩
def col (l : Fin 4096) : Fin 64 := ⟨l.val % 64, by omega⟩

/-- The nine products' sum and the term, as the block computes them. -/
def acc : FVec Ideal S64x64x128 .f32 :=
  k0_pay16 (F := Ideal) (k0_pay6 x w) (k0_pay7 k) k0_pay9 (k0_pay10 x w) (k0_pay11 x w) (k0_pay12 x w k) (k0_pay13 x w k) (k0_pay14 x w k)
    (k0_pay15 k) b
/-- The gate's second factor. -/
def fac : FVec Ideal S64x64x128 .f32 :=
  k0_pay17 (F := Ideal) (k0_pay6 x w) (k0_pay7 k) k0_pay9 (k0_pay10 x w) (k0_pay11 x w) (k0_pay12 x w k) (k0_pay13 x w k) (k0_pay14 x w k)
    (k0_pay15 k) b

theorem acc_at (h j : Fin 64) (d : Fin 128) :
    acc x w k b (ix3 h j d) = conv (img x w d) (fun n => k (ix3 0 n d)) (b (ix3 0 0 d)) h j := by
  unfold acc
  rw [rest_at, first_at, second_at, third_at]
  simp only [mid_at, right_at, left_at]
  unfold conv tap
  simp only [shift_one]
  abel
theorem fac_at (h j : Fin 64) (d : Fin 128) :
    fac x w k b (ix3 h j d) = Ideal.div 1 (1 + Ideal.exp (-(acc x w k b (ix3 h j d)))) := by
  unfold fac k0_pay17
  rw [show k0_pay16 (F := Ideal) _ _ _ _ _ _ _ _ _ _ = acc x w k b from rfl]
  generalize acc x w k b = u
  pointwise []
  simp only [zero_sub]
theorem rows_at (u v : FVec Ideal S64x64x128 .f32) (l : Fin 4096) (d : Fin 128) :
    k0_pay2 (F := Ideal) u v (ix3 0 l d) = u (ix3 (row l) (col l) d) * v (ix3 (row l) (col l) d) := by
  unfold row col
  pointwise [k0_pay2, k0_pay1]
theorem cols_at (u v : FVec Ideal S64x64x128 .f32) (l : Fin 4096) (d : Fin 128) :
    k0_pay3 (F := Ideal) u v (ix3 0 l d) = u (ix3 (col l) (row l) d) * v (ix3 (col l) (row l) d) := by
  unfold row col
  pointwise [k0_pay3, k0_pay1]
theorem gates_at (l : Fin 4096) (d : Fin 128) :
    k0_pay5 (F := Ideal) x w (ix3 0 l d) = proj (fun h j c => x (ix4 0 h j c)) (fun q c => w (ix3 0 q c)) (hi d) (row l) (col l) := by
  unfold proj hi row col
  pointwise [k0_pay5, k0_pay4]

end Cert.KernelIdeal.Conv
-- ==== Proof.ConvValue.lean ====
/- The three arrays that the first call returns, from its arguments. -/
module

public import proofs.«01_k».proof.Proof.ConvMath
public import proofs.«01_k».proof.Proof.Gen.KernelIdeal.Regions
public import Idealize.ShloMosaic.Lib.Claim

@[expose] public section

set_option maxRecDepth 16384

noncomputable section

namespace Cert.KernelIdeal.Conv

open Cert.KernelIdeal Cert.KernelIdeal.Gen
open Idealize.ShloMosaic Idealize.ShloMosaic.TcCoe

/-! ## The call's mathematics over its arguments -/

/-- The call's arguments: both branches' images, their projections' weights, their nine factors and their terms. -/
structure Ar where
  x0 : Fin 64 → Fin 64 → Fin 64 → EReal
  x1 : Fin 64 → Fin 64 → Fin 64 → EReal
  w0 : Fin 256 → Fin 64 → EReal
  w1 : Fin 256 → Fin 64 → EReal
  k0 : Fin 9 → Fin 128 → EReal
  k1 : Fin 9 → Fin 128 → EReal
  b0 : Fin 128 → EReal
  b1 : Fin 128 → EReal

namespace Ar
variable (a : Ar)
/-- A branch's image. -/
def x (s : Fin 2) (h j c : Fin 64) : EReal := if s = 0 then a.x0 h j c else a.x1 h j c
/-- A branch's weights. -/
def w (s : Fin 2) (q : Fin 256) (c : Fin 64) : EReal := if s = 0 then a.w0 q c else a.w1 q c
/-- A branch's nine factors. -/
def k (s : Fin 2) (n : Fin 9) (d : Fin 128) : EReal := if s = 0 then a.k0 n d else a.k1 n d
/-- A branch's terms. -/
def b (s : Fin 2) (d : Fin 128) : EReal := if s = 0 then a.b0 d else a.b1 d
/-- The gated sums, as an image. -/
def act (s : Fin 2) (h j : Fin 64) (d : Fin 128) : EReal :=
  gate (conv (proj (a.x s) (a.w s) (lo d)) (fun n => a.k s n d) (a.b s d) h j)
/-- The projection's second half. -/
def z (s : Fin 2) (h j : Fin 64) (d : Fin 128) : EReal := proj (a.x s) (a.w s) (hi d) h j
end Ar

/-- A factor's row and its column, of its number by rows. -/
def row3 (n : Fin 9) : Fin 3 := ⟨n.val / 3, by omega⟩
def col3 (n : Fin 9) : Fin 3 := ⟨n.val % 3, by omega⟩

variable (W : Dev nD → Valuation τ sig (Elt Ideal)) (c : Dev nD)

/-- The buffers as the call is entered, of those its part of the program starts with. -/
abbrev V (c : Dev nD) (b : Ref sig .tc) : Buf (Elt Ideal) ((c : Thread nD τ).loc b) := StableHlo.after hostOps0 (W c) b

/-- The arguments, of the buffers the part starts with. -/
def args : Ar where
  x0 h j e := W c (Proc.devRef .tc main_arg0) (ix4 0 h j e)
  x1 h j e := W c (Proc.devRef .tc main_arg1) (ix4 0 h j e)
  w0 q e := W c (Proc.devRef .tc main_arg2) (ix2 q e)
  w1 q e := W c (Proc.devRef .tc main_arg3) (ix2 q e)
  k0 n d := W c (Proc.devRef .tc main_arg4) (ix4 d 0 (row3 n) (col3 n))
  b0 d := W c (Proc.devRef .tc main_arg5) (ix1 d)
  k1 n d := W c (Proc.devRef .tc main_arg6) (ix4 d 0 (row3 n) (col3 n))
  b1 d := W c (Proc.devRef .tc main_arg7) (ix1 d)

/-! ## The points and their blocks -/

/-- A point's branch. -/
def sOf (t : Fin cfg0.N) : Fin 2 := ⟨t.val, t.isLt⟩

theorem index0 : ∀ t : Fin cfg0.N, win0_0.index t = ![t.val, 0, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

theorem V_v4 (s : Fin 2) (h j e : Fin 64) : V W c main_v4 (ix4 s h j e) = (args W c).x s h j e := by
  obtain rfl | rfl : s = 0 ∨ s = 1 := by omega
  all_goals (unfold Ar.x args; entry_read; pointwise []; try rfl)
theorem blk0 (t : Fin cfg0.N) (h j e : Fin 64) : iblk0 (V W) c 0 t (ix4 0 h j e) = (args W c).x (sOf t) h j e := by
  blk_simp [iblk0]
  refine (congrArg (V W c main_v4) (?_ : _ = ix4 (sOf t) h j e)).trans (V_v4 W c _ h j e)
  blk_ext [index0, sOf]
theorem V_v7 (s : Fin 2) (q : Fin 256) (e : Fin 64) : V W c main_v7 (ix3 s q e) = (args W c).w s q e := by
  obtain rfl | rfl : s = 0 ∨ s = 1 := by omega
  all_goals (unfold Ar.w args; entry_read; pointwise []; try rfl)
theorem blk1 (t : Fin cfg0.N) (q : Fin 256) (e : Fin 64) : iblk0 (V W) c 1 t (ix3 0 q e) = (args W c).w (sOf t) q e := by
  blk_simp [iblk0]
  refine (congrArg (V W c main_v7) (?_ : _ = ix3 (sOf t) q e)).trans (V_v7 W c _ q e)
  blk_ext [index1, sOf]
theorem V_v14 (s : Fin 2) (n : Fin 9) (d : Fin 128) : V W c main_v14 (ix3 s n d) = (args W c).k s n d := by
  obtain rfl | rfl : s = 0 ∨ s = 1 := by omega
  all_goals (unfold Ar.k args row3 col3; entry_read; pointwise []; try rfl)
theorem blk2 (t : Fin cfg0.N) (n : Fin 9) (d : Fin 128) : iblk0 (V W) c 2 t (ix3 0 n d) = (args W c).k (sOf t) n d := by
  blk_simp [iblk0]
  refine (congrArg (V W c main_v14) (?_ : _ = ix3 (sOf t) n d)).trans (V_v14 W c _ n d)
  blk_ext [index2, sOf]
theorem V_v18 (s : Fin 2) (d : Fin 128) : V W c main_v18 (ix3 s 0 d) = (args W c).b s d := by
  obtain rfl | rfl : s = 0 ∨ s = 1 := by omega
  all_goals (unfold Ar.b args; entry_read; pointwise []; try rfl)
theorem blk3 (t : Fin cfg0.N) (d : Fin 128) : iblk0 (V W) c 3 t (ix3 0 0 d) = (args W c).b (sOf t) d := by
  blk_simp [iblk0]
  refine (congrArg (V W c main_v18) (?_ : _ = ix3 (sOf t) 0 d)).trans (V_v18 W c _ d)
  blk_ext [index3, sOf]

/-! ## The results -/

section blocks
variable (x : Vec Ideal S1x64x64x64 .f32) (w : Vec Ideal S1x256x64 .f32) (k : Vec Ideal S1x9x128 .f32) (b : Vec Ideal S1x1x128 .f32)

theorem acc_eq : k0_pay27 (F := Ideal) x w k b = acc x w k b := by
  have z3 : (![0, 0, 0] : Fin 3 → ℕ) = fun _ => 0 := by funext a; fin_cases a <;> rfl
  have z4 : (![0, 0, 0, 0] : Fin 4 → ℕ) = fun _ => 0 := by funext a; fin_cases a <;> rfl
  unfold k0_pay27 k0_pay18 k0_pay19 k0_pay20 k0_pay21 k0_pay22 k0_pay23 k0_pay24 k0_pay25 k0_pay26
  rw [View.ld_unit_zero z4, View.ld_unit_zero z3, View.ld_unit_zero z3, View.ld_unit_zero z3]
  rfl
theorem fac_eq : k0_pay28 (F := Ideal) x w k b = fac x w k b := by
  have z3 : (![0, 0, 0] : Fin 3 → ℕ) = fun _ => 0 := by funext a; fin_cases a <;> rfl
  have z4 : (![0, 0, 0, 0] : Fin 4 → ℕ) = fun _ => 0 := by funext a; fin_cases a <;> rfl
  unfold k0_pay28 k0_pay18 k0_pay19 k0_pay20 k0_pay21 k0_pay22 k0_pay23 k0_pay24 k0_pay25 k0_pay26
  rw [View.ld_unit_zero z4, View.ld_unit_zero z3, View.ld_unit_zero z3, View.ld_unit_zero z3]
  rfl
/-- A store of a whole block is read back. -/
theorem whole_at (v : Vec Ideal S1x4096x128 .f32) (l : Fin 4096) (d : Fin 128) :
    View.canon ([⟨r0_2, v⟩] : List (View.Piece (Elt Ideal) S1x4096x128 .f32)) (ix3 0 l d) = v (ix3 0 l d) := by
  have e : (ix3 0 l d : S1x4096x128.Idx) = r0_2.emb (ix3 0 l d) := by blk_ext
  have h := View.canon_cons_emb r0_2 v ([] : List (View.Piece (Elt Ideal) S1x4096x128 .f32)) (ix3 0 l d)
  rw [← e] at h
  exact h
/-- A block of the first array, from the blocks it is computed of. -/
theorem out4_at (l : Fin 4096) (d : Fin 128) :
    out0_4 (F := Ideal) x w k b (ix3 0 l d) = gate (conv (img x w d) (fun n => k (ix3 0 n d)) (b (ix3 0 0 d)) (row l) (col l)) := by
  unfold out0_4 gate
  rw [whole_at, acc_eq, fac_eq, rows_at, fac_at, acc_at]
theorem out5_at (l : Fin 4096) (d : Fin 128) :
    out0_5 (F := Ideal) x w k b (ix3 0 l d) = gate (conv (img x w d) (fun n => k (ix3 0 n d)) (b (ix3 0 0 d)) (col l) (row l)) := by
  unfold out0_5 gate
  rw [whole_at, acc_eq, fac_eq, cols_at, fac_at, acc_at]
theorem out6_at (l : Fin 4096) (d : Fin 128) :
    out0_6 (F := Ideal) x w k b (ix3 0 l d) = proj (fun h j e => x (ix4 0 h j e)) (fun q e => w (ix3 0 q e)) (hi d) (row l) (col l) := by
  have z3 : (![0, 0, 0] : Fin 3 → ℕ) = fun _ => 0 := by funext a; fin_cases a <;> rfl
  have z4 : (![0, 0, 0, 0] : Fin 4 → ℕ) = fun _ => 0 := by funext a; fin_cases a <;> rfl
  unfold out0_6
  rw [whole_at, gates_at, View.ld_unit_zero z4, View.ld_unit_zero z3]
end blocks

theorem conv_blk (t : Fin cfg0.N) (d : Fin 128) (h j : Fin 64) :
    gate (conv (img (iblk0 (V W) c 0 t) (iblk0 (V W) c 1 t) d) (fun n => iblk0 (V W) c 2 t (ix3 0 n d)) (iblk0 (V W) c 3 t (ix3 0 0 d)) h j)
      = (args W c).act (sOf t) h j d := by
  unfold img Ar.act
  simp only [blk0, blk1, blk2, blk3]

/-- The first array after the run: the gated sums by rows. -/
theorem final4 : (dat0 (V W) c).arrAt 4 cfg0.N = fun i : S2x4096x128.Idx => (args W c).act (i 0) (row (i 1)) (col (i 1)) (i 2) := by
  refine (dat0 (V W) c).arrAt_eq_of_covers 4 _ (by decide +kernel) fun t hf y => ?_
  blk_simp
  rw [after0_4]
  change S1x4096x128.Idx at y
  obtain ⟨l, d, rfl⟩ : ∃ (l : Fin 4096) (d : Fin 128), y = ix3 0 l d := ⟨y 1, y 2, by idx_ext⟩
  have e : (win0_4.blk t).view.emb (ix3 0 l d) = ix3 (sOf t) l d := by blk_ext [index4, sOf]
  rw [e]
  exact (out4_at _ _ _ _ l d).trans (conv_blk W c t d _ _)
/-- The second: by columns. -/
theorem final5 : (dat0 (V W) c).arrAt 5 cfg0.N = fun i : S2x4096x128.Idx => (args W c).act (i 0) (col (i 1)) (row (i 1)) (i 2) := by
  refine (dat0 (V W) c).arrAt_eq_of_covers 5 _ (by decide +kernel) fun t hf y => ?_
  blk_simp
  rw [after0_5]
  change S1x4096x128.Idx at y
  obtain ⟨l, d, rfl⟩ : ∃ (l : Fin 4096) (d : Fin 128), y = ix3 0 l d := ⟨y 1, y 2, by idx_ext⟩
  have e : (win0_5.blk t).view.emb (ix3 0 l d) = ix3 (sOf t) l d := by blk_ext [index5, sOf]
  rw [e]
  exact (out5_at _ _ _ _ l d).trans (conv_blk W c t d _ _)
/-- The third: the projection's second half. -/
theorem final6 : (dat0 (V W) c).arrAt 6 cfg0.N = fun i : S2x4096x128.Idx => (args W c).z (i 0) (row (i 1)) (col (i 1)) (i 2) := by
  refine (dat0 (V W) c).arrAt_eq_of_covers 6 _ (by decide +kernel) fun t hf y => ?_
  blk_simp
  rw [after0_6]
  change S1x4096x128.Idx at y
  obtain ⟨l, d, rfl⟩ : ∃ (l : Fin 4096) (d : Fin 128), y = ix3 0 l d := ⟨y 1, y 2, by idx_ext⟩
  have e : (win0_6.blk t).view.emb (ix3 0 l d) = ix3 (sOf t) l d := by blk_ext [index6, sOf]
  rw [e]
  refine (out6_at _ _ _ _ l d).trans ?_
  show _ = proj ((args W c).x (sOf t)) ((args W c).w (sOf t)) (hi d) (row l) (col l)
  simp only [blk0, blk1]

end Cert.KernelIdeal.Conv
-- ==== Proof.ScanRefRead.lean ====
module

public import proofs.«01_k».proof.Proof.Gen.ReferenceIdeal.Run
public import Idealize.ShloMosaic.Lib.Pointwise
public import Idealize.ShloMosaic.Lib.Claim
public import Idealize.ShloMosaic.Lib.WordCmp

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo

/-- An entry of an array of extended reals. -/
def ent (S : Shape) (x : S.Idx → EReal) (i : S.Idx) : EReal := x i

variable (V : Valuation τ sig (Elt Ideal))

/-! ## The stretches before the loop, at an index -/

theorem v85_at (s : Fin 2) (l : Fin 4096) (d : Fin 128) : ent S2x4096x128 (after hostOps0_5 V (Proc.devRef .tc main_v85)) (ix3 s l d) = ent S2x4096x128 (V (Proc.devRef .tc main_v81)) (ix3 s l.rev d) := by
  unfold ent; after_results; try simp only [TRef.toBuf, TRef.ofBuf, cast_eq, id_eq]
  pointwise []
  all_goals simp [dite_eq_ite]
theorem v86_at (s : Fin 2) (l : Fin 4096) (d : Fin 128) : ent S2x4096x128 (after hostOps0_6 V (Proc.devRef .tc main_v86)) (ix3 s l d) = ent S2x4096x128 (V (Proc.devRef .tc main_v83)) (ix3 s l.rev d) := by
  unfold ent; after_results; try simp only [TRef.toBuf, TRef.ofBuf, cast_eq, id_eq]
  pointwise []
  all_goals simp [dite_eq_ite]
theorem v91_at (s : Fin 2) (k : Fin 4) (l : Fin 4096) (d : Fin 128) : ent S2x4x4096x128 (after hostOps0_7 V (Proc.devRef .tc main_v91)) (ix4 s k l d)
    = if k.val < 1 then ent S2x4096x128 (V (Proc.devRef .tc main_v81)) (ix3 s l d) else if k.val < 2 then ent S2x4096x128 (V (Proc.devRef .tc main_v83)) (ix3 s l d) else if k.val < 3 then ent S2x4096x128 (V (Proc.devRef .tc main_v85)) (ix3 s l d) else ent S2x4096x128 (V (Proc.devRef .tc main_v86)) (ix3 s l d) := by
  unfold ent; after_results; try simp only [TRef.toBuf, TRef.ofBuf, cast_eq, id_eq]
  pointwise []
  obtain ⟨k, hk⟩ := k
  interval_cases k
  all_goals simp only [dite_eq_ite]
  all_goals simp
  all_goals refine (congrFun (unary_result ..) _).trans ?_
  all_goals (repeat (rw [unary_result_ne]; rotate_left; decide))
  all_goals pointwise []
theorem v94_at (k : Fin 4) (l : Fin 4096) (q : Fin 36) : ent S4x4096x36 (after hostOps0_7 V (Proc.devRef .tc main_v94)) (ix3 k l q)
    = ∑ d : Fin 128, ent S2x4x4096x128 (after hostOps0_7 V (Proc.devRef .tc main_v91)) (ix4 0 k l d) * ent S4x36x128 (V (Proc.devRef .tc main_arg8)) (ix3 k q d) := by
  unfold ent; after_results; try simp only [TRef.toBuf, TRef.ofBuf, cast_eq, id_eq]
  pointwise []
  all_goals simp [dite_eq_ite]
theorem v96_at (k : Fin 4) (l : Fin 4096) (n : Fin 16) : ent S4x4096x16 (after hostOps0_7 V (Proc.devRef .tc main_v96)) (ix3 k l n) = ent S4x4096x36 (after hostOps0_7 V (Proc.devRef .tc main_v94)) (ix3 k l ⟨4 + n.val, by omega⟩) := by
  unfold ent; after_results; try simp only [TRef.toBuf, TRef.ofBuf, cast_eq, id_eq]
  pointwise []
  all_goals simp [dite_eq_ite]
theorem v97_at (k : Fin 4) (l : Fin 4096) (n : Fin 16) : ent S4x4096x16 (after hostOps0_7 V (Proc.devRef .tc main_v97)) (ix3 k l n) = ent S4x4096x36 (after hostOps0_7 V (Proc.devRef .tc main_v94)) (ix3 k l ⟨20 + n.val, by omega⟩) := by
  unfold ent; after_results; try simp only [TRef.toBuf, TRef.ofBuf, cast_eq, id_eq]
  pointwise []
  all_goals simp [dite_eq_ite]
theorem v108_at (s : Fin 2) (k : Fin 4) (d : Fin 128) (n : Fin 16) : ent S2x4x128x16 (after hostOps0_7 V (Proc.devRef .tc main_v108)) (ix4 s k d n)
    = -Ideal.exp (if s.val < 1 then ent S512x16 (V (Proc.devRef .tc main_arg15)) (ix2 ⟨k.val * 128 + d.val, by omega⟩ n) else ent S512x16 (V (Proc.devRef .tc main_arg14)) (ix2 ⟨k.val * 128 + d.val, by omega⟩ n)) := by
  unfold ent; after_results; try simp only [TRef.toBuf, TRef.ofBuf, cast_eq, id_eq]
  pointwise []
  all_goals (simp [dite_eq_ite]; split_ifs <;> rfl)
theorem v112_at (s : Fin 2) (k : Fin 4) (d : Fin 128) : ent S2x4x128 (after hostOps0_7 V (Proc.devRef .tc main_v112)) (ix3 s k d)
    = if s.val < 1 then ent S512 (V (Proc.devRef .tc main_arg17)) (ix1 ⟨k.val * 128 + d.val, by omega⟩) else ent S512 (V (Proc.devRef .tc main_arg16)) (ix1 ⟨k.val * 128 + d.val, by omega⟩) := by
  unfold ent; after_results; try simp only [TRef.toBuf, TRef.ofBuf, cast_eq, id_eq]
  pointwise []
  all_goals (simp [dite_eq_ite]; split_ifs <;> rfl)
theorem v118_at (s : Fin 2) (k : Fin 4) (l : Fin 4096) (d : Fin 128) : ent S2x4x4096x128 (after hostOps0_7 V (Proc.devRef .tc main_v118)) (ix4 s k l d)
    = ∑ r : Fin 4, (if s.val < 1 then ent S4x128x4 (V (Proc.devRef .tc main_arg11)) (ix3 k d r) else ent S4x128x4 (V (Proc.devRef .tc main_arg10)) (ix3 k d r)) * ent S4x4096x36 (after hostOps0_7 V (Proc.devRef .tc main_v94)) (ix3 k l ⟨r.val, by omega⟩)
      + if s.val < 1 then ent S4x128 (V (Proc.devRef .tc main_arg13)) (ix2 k d) else ent S4x128 (V (Proc.devRef .tc main_arg12)) (ix2 k d) := by
  unfold ent; after_results; try simp only [TRef.toBuf, TRef.ofBuf, cast_eq, id_eq]
  pointwise []
  all_goals simp [dite_eq_ite]
theorem v119_at (s : Fin 2) (k : Fin 4) (l : Fin 4096) (d : Fin 128) : ent S2x4x4096x128 (after hostOps0_8 V (Proc.devRef .tc main_v119)) (ix4 s k l d)
    = max (ent S2x4x4096x128 (V (Proc.devRef .tc main_v118)) (ix4 s k l d)) 0 + Ideal.log1p (Ideal.exp (-FloatOps.absf (F := Ideal) (φ := .f32) (ent S2x4x4096x128 (V (Proc.devRef .tc main_v118)) (ix4 s k l d)))) := by
  unfold ent; after_results; try simp only [TRef.toBuf, TRef.ofBuf, cast_eq, id_eq]
  pointwise []
  all_goals simp [dite_eq_ite]
theorem c0_at (l : Fin 4096) (s : Fin 2) (k : Fin 4) (d : Fin 128) (n : Fin 16) : ent S4096x2x4x128x16 (after hostOps0_9 V (Proc.devRef .tc main_v137_0)) (ix5 l s k d n)
   = Ideal.exp (ent S2x4x4096x128 (V (Proc.devRef .tc main_v119)) (ix4 s k l d) * ent S2x4x128x16 (V (Proc.devRef .tc main_v108)) (ix4 s k d n)) := by
  unfold ent; after_results; try simp only [TRef.toBuf, TRef.ofBuf, cast_eq, id_eq]
  pointwise []
  all_goals simp [dite_eq_ite]
theorem c1_at (l : Fin 4096) (s : Fin 2) (k : Fin 4) (d : Fin 128) (n : Fin 16) : ent S4096x2x4x128x16 (after hostOps0_9 V (Proc.devRef .tc main_v137_1)) (ix5 l s k d n)
   = (ent S2x4x4096x128 (V (Proc.devRef .tc main_v119)) (ix4 s k l d) * ent S2x4x4096x128 (V (Proc.devRef .tc main_v91)) (ix4 s k l d)) * ent S4x4096x16 (V (Proc.devRef .tc main_v96)) (ix3 k l n) := by
  unfold ent; after_results; try simp only [TRef.toBuf, TRef.ofBuf, cast_eq, id_eq]
  pointwise []
  all_goals simp [dite_eq_ite]
theorem c3_at (s : Fin 2) (k : Fin 4) (d : Fin 128) (n : Fin 16) : ent S2x4x128x16 (after hostOps0_9 V (Proc.devRef .tc main_v137_3)) (ix4 s k d n) = 0 := by
  unfold ent; after_results; try simp only [TRef.toBuf, TRef.ofBuf, cast_eq, id_eq]
  pointwise []
  all_goals simp [dite_eq_ite]

/-! ## The stretches after the loop, at an index -/

theorem v143_at (s : Fin 2) (k : Fin 4) (l : Fin 4096) (d : Fin 128) : ent S2x4x4096x128 (after hostOps0_10 V (Proc.devRef .tc main_v143)) (ix4 s k l d)
   = ∑ n : Fin 16, ent S4x4096x16 (V (Proc.devRef .tc main_v97)) (ix3 k l n) * ent S4096x2x4x128x16 (V (Proc.devRef .tc main_v137_4)) (ix5 l s k d n) + ent S2x4x4096x128 (V (Proc.devRef .tc main_v91)) (ix4 s k l d) * ent S2x4x128 (V (Proc.devRef .tc main_v112)) (ix3 s k d) := by
  unfold ent; after_results; try simp only [TRef.toBuf, TRef.ofBuf, cast_eq, id_eq]
  pointwise []
  all_goals simp [dite_eq_ite]
theorem v145_at (s : Fin 2) (l : Fin 4096) (d : Fin 128) : ent S2x4096x128 (after hostOps0_10 V (Proc.devRef .tc main_v145)) (ix3 s l d) = ent S2x4x4096x128 (after hostOps0_10 V (Proc.devRef .tc main_v143)) (ix4 s 0 l d) := by
  unfold ent; after_results; try simp only [TRef.toBuf, TRef.ofBuf, cast_eq, id_eq]
  pointwise []
  all_goals simp [dite_eq_ite]
theorem v147_at (s : Fin 2) (l : Fin 4096) (d : Fin 128) : ent S2x4096x128 (after hostOps0_10 V (Proc.devRef .tc main_v147)) (ix3 s l d) = ent S2x4x4096x128 (after hostOps0_10 V (Proc.devRef .tc main_v143)) (ix4 s 2 l d) := by
  unfold ent; after_results; try simp only [TRef.toBuf, TRef.ofBuf, cast_eq, id_eq]
  pointwise []
  all_goals simp [dite_eq_ite]
theorem v148_at (s : Fin 2) (l : Fin 4096) (d : Fin 128) : ent S2x4096x128 (after hostOps0_11 V (Proc.devRef .tc main_v148)) (ix3 s l d) = ent S2x4096x128 (V (Proc.devRef .tc main_v147)) (ix3 s l.rev d) := by
  unfold ent; after_results; try simp only [TRef.toBuf, TRef.ofBuf, cast_eq, id_eq]
  pointwise []
  all_goals simp [dite_eq_ite]
theorem v151_at (s c : Fin 2) (l : Fin 4096) (d : Fin 128) : ent S2x2x4096x128 (after hostOps0_12 V (Proc.devRef .tc main_v151)) (ix4 s c l d) = if c.val < 1 then ent S2x4096x128 (V (Proc.devRef .tc main_v145)) (ix3 s l d) else ent S2x4096x128 (V (Proc.devRef .tc main_v148)) (ix3 s l d) := by
  unfold ent; after_results; try simp only [TRef.toBuf, TRef.ofBuf, cast_eq, id_eq]
  pointwise []
  all_goals simp [dite_eq_ite]
theorem v153_at (s : Fin 2) (l : Fin 4096) (d : Fin 128) : ent S2x4096x128 (after hostOps0_12 V (Proc.devRef .tc main_v153)) (ix3 s l d) = ent S2x4x4096x128 (V (Proc.devRef .tc main_v143)) (ix4 s 1 l d) := by
  unfold ent; after_results; try simp only [TRef.toBuf, TRef.ofBuf, cast_eq, id_eq]
  pointwise []
  all_goals simp [dite_eq_ite]
theorem v155_at (s : Fin 2) (l : Fin 4096) (d : Fin 128) : ent S2x4096x128 (after hostOps0_12 V (Proc.devRef .tc main_v155)) (ix3 s l d) = ent S2x4x4096x128 (V (Proc.devRef .tc main_v143)) (ix4 s 3 l d) := by
  unfold ent; after_results; try simp only [TRef.toBuf, TRef.ofBuf, cast_eq, id_eq]
  pointwise []
  all_goals simp [dite_eq_ite]
theorem v156_at (s : Fin 2) (l : Fin 4096) (d : Fin 128) : ent S2x4096x128 (after hostOps0_13 V (Proc.devRef .tc main_v156)) (ix3 s l d) = ent S2x4096x128 (V (Proc.devRef .tc main_v155)) (ix3 s l.rev d) := by
  unfold ent; after_results; try simp only [TRef.toBuf, TRef.ofBuf, cast_eq, id_eq]
  pointwise []
  all_goals simp [dite_eq_ite]

end Cert.ReferenceIdeal.Scan
-- ==== Proof.RefConv.lean ====
/- The first third of the plain mathematics, up to the two orderings of the gated sums, read at an index. -/
module

public import proofs.«01_k».proof.Proof.ConvValue
public import proofs.«01_k».proof.Proof.ScanRefRead

@[expose] public section

set_option maxRecDepth 16384

noncomputable section

namespace Cert.ReferenceIdeal.Conv

open Cert.ReferenceIdeal Cert.ReferenceIdeal.Gen Cert.ReferenceIdeal.Value
open Idealize.ShloMosaic Idealize.ShloMosaic.TcCoe Idealize.ShloMosaic.StableHlo
open Cert.KernelIdeal.Conv (Ar shift tap gate proj lo hi row col row3 col3)
open Cert.ReferenceIdeal.Scan (ent)

/-! ## The stretches' terms, cut at the projection, the padded image, the nine factors and the sums -/

/-- The projection. -/
def xz (x0 x1 : FVec Ideal S1x64x64x64 .f32) (w0 w1 : FVec Ideal S256x64 .f32) : FVec Ideal S2x64x64x256 .f32 :=
  Host.dotGeneral dot_S2x64x64x64_S2x256x64_S2x64x64x256_3_2_12_1_0_0 none (concatenate S2x64x64x64 0 [⟨S1x64x64x64, x0⟩, ⟨S1x64x64x64, x1⟩] concatenates_S1x64x64x64_S1x64x64x64_S2x64x64x64_d0) (concatenate S2x256x64 0 [⟨S1x256x64, (broadcastInDim S1x256x64 ![1, 2] bcast_S256x64_S1x256x64_1_2 w0)⟩, ⟨S1x256x64, (broadcastInDim S1x256x64 ![1, 2] bcast_S256x64_S1x256x64_1_2 w1)⟩] concatenates_S1x256x64_S1x256x64_S2x256x64_d0)
/-- Its first half, padded. -/
def padded (u : FVec Ideal S2x64x64x256 .f32) : FVec Ideal S2x66x66x128 .f32 :=
  pad S2x66x66x128 ![0, 1, 1, 0] ![0, 1, 1, 0] ![0, 0, 0, 0] (extractStridedSlice S2x64x64x128 ![0, 0, 0, 0] u slices_S2x64x64x256_S2x64x64x128_0_0_0_0) (sitofp .f32 (constantI S_ 32 0#32)) pads_S2x64x64x128_S2x66x66x128_000_110_110_000 h_S_
/-- The nine factors. -/
def factors (k0 k1 : FVec Ideal S128x1x3x3 .f32) : FVec Ideal S2x128x3x3 .f32 :=
  shapeCast _ (concatenate S2x128x1x3x3 0 [⟨S1x128x1x3x3, (broadcastInDim S1x128x1x3x3 ![1, 2, 3, 4] bcast_S128x1x3x3_S1x128x1x3x3_1_2_3_4 k0)⟩, ⟨S1x128x1x3x3, (broadcastInDim S1x128x1x3x3 ![1, 2, 3, 4] bcast_S128x1x3x3_S1x128x1x3x3_1_2_3_4 k1)⟩] concatenates_S1x128x1x3x3_S1x128x1x3x3_S2x128x1x3x3_d0) shapeCasts_S2x128x1x3x3_S2x128x3x3
/-- The terms. -/
def terms (b0 b1 : FVec Ideal S128 .f32) : FVec Ideal S2x128 .f32 :=
  concatenate S2x128 0 [⟨S1x128, (broadcastInDim S1x128 ![1] bcast_S128_S1x128_1 b0)⟩, ⟨S1x128, (broadcastInDim S1x128 ![1] bcast_S128_S1x128_1 b1)⟩] concatenates_S1x128_S1x128_S2x128_d0
/-- The nine products' sum and the term. -/
def sums (p : FVec Ideal S2x66x66x128 .f32) (k : FVec Ideal S2x128x3x3 .f32) (b : FVec Ideal S2x128 .f32) : FVec Ideal S2x64x64x128 .f32 :=
  addf (addf (addf (addf (addf (addf (addf (addf (addf (broadcastInDim S2x64x64x128 ![0, 1, 2, 3] bcast_S2x1x1x128_S2x64x64x128_0_1_2_3 (broadcastInDim S2x1x1x128 ![0, 3] bcast_S2x128_S2x1x1x128_0_3 b)) (mulf (extractStridedSlice S2x64x64x128 ![0, 0, 0, 0] p slices_S2x66x66x128_S2x64x64x128_0_0_0_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 0, 0] k slices_S2x128x3x3_S2x128x1x1_0_0_0_0) shapeCasts_S2x128x1x1_S2x128))))) (mulf (extractStridedSlice S2x64x64x128 ![0, 0, 1, 0] p slices_S2x66x66x128_S2x64x64x128_0_0_1_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 0, 1] k slices_S2x128x3x3_S2x128x1x1_0_0_0_1) shapeCasts_S2x128x1x1_S2x128))))) (mulf (extractStridedSlice S2x64x64x128 ![0, 0, 2, 0] p slices_S2x66x66x128_S2x64x64x128_0_0_2_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 0, 2] k slices_S2x128x3x3_S2x128x1x1_0_0_0_2) shapeCasts_S2x128x1x1_S2x128))))) (mulf (extractStridedSlice S2x64x64x128 ![0, 1, 0, 0] p slices_S2x66x66x128_S2x64x64x128_0_1_0_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 1, 0] k slices_S2x128x3x3_S2x128x1x1_0_0_1_0) shapeCasts_S2x128x1x1_S2x128))))) (mulf (extractStridedSlice S2x64x64x128 ![0, 1, 1, 0] p slices_S2x66x66x128_S2x64x64x128_0_1_1_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 1, 1] k slices_S2x128x3x3_S2x128x1x1_0_0_1_1) shapeCasts_S2x128x1x1_S2x128))))) (mulf (extractStridedSlice S2x64x64x128 ![0, 1, 2, 0] p slices_S2x66x66x128_S2x64x64x128_0_1_2_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 1, 2] k slices_S2x128x3x3_S2x128x1x1_0_0_1_2) shapeCasts_S2x128x1x1_S2x128))))) (mulf (extractStridedSlice S2x64x64x128 ![0, 2, 0, 0] p slices_S2x66x66x128_S2x64x64x128_0_2_0_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 2, 0] k slices_S2x128x3x3_S2x128x1x1_0_0_2_0) shapeCasts_S2x128x1x1_S2x128))))) (mulf (extractStridedSlice S2x64x64x128 ![0, 2, 1, 0] p slices_S2x66x66x128_S2x64x64x128_0_2_1_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 2, 1] k slices_S2x128x3x3_S2x128x1x1_0_0_2_1) shapeCasts_S2x128x1x1_S2x128))))) (mulf (extractStridedSlice S2x64x64x128 ![0, 2, 2, 0] p slices_S2x66x66x128_S2x64x64x128_0_2_2_0) (broadcastInDim S2x64x64x128 ![0, 1, 2, 3] bcast_S2x1x1x128_S2x64x64x128_0_1_2_3 (broadcastInDim S2x1x1x128 ![0, 3] bcast_S2x128_S2x1x1x128_0_3 (shapeCast _ (extractStridedSlice S2x128x1x1 ![0, 0, 2, 2] k slices_S2x128x3x3_S2x128x1x1_0_0_2_2) shapeCasts_S2x128x1x1_S2x128))))
/-- The gated sums. -/
def gated (y : FVec Ideal S2x64x64x128 .f32) : FVec Ideal S2x64x64x128 .f32 :=
  mulf y (Host.divf (broadcastInDim S2x64x64x128 ![] bcast_S_S2x64x64x128 (constant S_ .f32 0x3F800000#32)) (addf (broadcastInDim S2x64x64x128 ![] bcast_S_S2x64x64x128 (constant S_ .f32 0x3F800000#32)) (Host.exp (Host.negf y))))

theorem xz_at (x0 x1 : FVec Ideal S1x64x64x64 .f32) (w0 w1 : FVec Ideal S256x64 .f32) (s : Fin 2) (h j : Fin 64) (q : Fin 256) :
    xz x0 x1 w0 w1 (ix4 s h j q) = proj (fun h j e => if s = 0 then x0 (ix4 0 h j e) else x1 (ix4 0 h j e))
      (fun q e => if s = 0 then w0 (ix2 q e) else w1 (ix2 q e)) q h j := by
  unfold xz proj
  obtain rfl | rfl : s = 0 ∨ s = 1 := by omega
  · pointwise []
  · pointwise []
theorem padded_at (u : FVec Ideal S2x64x64x256 .f32) (s : Fin 2) (a b : Fin 3) (h j : Fin 64) (d : Fin 128) :
    padded u (ix4 s (⟨a.val + h.val, by omega⟩ : Fin 66) (⟨b.val + j.val, by omega⟩ : Fin 66) d)
      = tap (fun h j => u (ix4 s h j (lo d))) a.val b.val h j := by
  have z : FloatOps.sitofp (F := Ideal) FTy.f32 (0#32) = 0 := by
    show (((0#32 : BitVec 32).toInt : ℝ) : EReal) = 0
    simp
  unfold padded tap shift lo
  pointwise []
  rw [z]
  split_ifs <;> first
    | rfl
    | (exfalso; omega)
    | exact congrArg u (by congr 1 <;> exact Fin.ext (by dsimp only; omega))
theorem factors_at (k0 k1 : FVec Ideal S128x1x3x3 .f32) (s : Fin 2) (d : Fin 128) (a b : Fin 3) :
    factors k0 k1 (ix4 s d a b) = if s = 0 then k0 (ix4 d 0 a b) else k1 (ix4 d 0 a b) := by
  unfold factors
  obtain rfl | rfl : s = 0 ∨ s = 1 := by omega
  · pointwise []
  · pointwise []
theorem terms_at (b0 b1 : FVec Ideal S128 .f32) (s : Fin 2) (d : Fin 128) :
    terms b0 b1 (ix2 s d) = if s = 0 then b0 (ix1 d) else b1 (ix1 d) := by
  unfold terms
  obtain rfl | rfl : s = 0 ∨ s = 1 := by omega
  · pointwise []
  · pointwise []
/-- A product of the nine. -/
def term (p : FVec Ideal S2x66x66x128 .f32) (k : FVec Ideal S2x128x3x3 .f32) (s : Fin 2) (h j : Fin 64) (d : Fin 128) (a b : Fin 3) : EReal :=
  p (ix4 s (⟨a.val + h.val, by omega⟩ : Fin 66) (⟨b.val + j.val, by omega⟩ : Fin 66) d) * k (ix4 s d a b)
theorem sums_at (p : FVec Ideal S2x66x66x128 .f32) (k : FVec Ideal S2x128x3x3 .f32) (b : FVec Ideal S2x128 .f32) (s : Fin 2) (h j : Fin 64) (d : Fin 128) :
    sums p k b (ix4 s h j d) = b (ix2 s d) + term p k s h j d 0 0 + term p k s h j d 0 1 + term p k s h j d 0 2
      + term p k s h j d 1 0 + term p k s h j d 1 1 + term p k s h j d 1 2
      + term p k s h j d 2 0 + term p k s h j d 2 1 + term p k s h j d 2 2 := by
  unfold sums term
  pointwise []
theorem gated_at (y : FVec Ideal S2x64x64x128 .f32) (s : Fin 2) (h j : Fin 64) (d : Fin 128) :
    gated y (ix4 s h j d) = gate (y (ix4 s h j d)) := by
  unfold gated gate
  pointwise []

/-! ## The terms of eight arrays -/

section arrays
variable (x0 x1 : FVec Ideal S1x64x64x64 .f32) (w0 w1 : FVec Ideal S256x64 .f32) (k0 : FVec Ideal S128x1x3x3 .f32) (b0 : FVec Ideal S128 .f32)
  (k1 : FVec Ideal S128x1x3x3 .f32) (b1 : FVec Ideal S128 .f32)

/-- The arrays' entries. -/
def entries : Ar where
  x0 h j e := x0 (ix4 0 h j e)
  x1 h j e := x1 (ix4 0 h j e)
  w0 q e := w0 (ix2 q e)
  w1 q e := w1 (ix2 q e)
  k0 n d := k0 (ix4 d 0 (row3 n) (col3 n))
  b0 d := b0 (ix1 d)
  k1 n d := k1 (ix4 d 0 (row3 n) (col3 n))
  b1 d := b1 (ix1 d)

/-- The gated sums. -/
def total : FVec Ideal S2x64x64x128 .f32 := gated (sums (padded (xz x0 x1 w0 w1)) (factors k0 k1) (terms b0 b1))

theorem xz_entries (s : Fin 2) (h j : Fin 64) (q : Fin 256) :
    xz x0 x1 w0 w1 (ix4 s h j q) = proj ((entries x0 x1 w0 w1 k0 b0 k1 b1).x s) ((entries x0 x1 w0 w1 k0 b0 k1 b1).w s) q h j := by
  rw [xz_at]
  rfl
theorem term_at (s : Fin 2) (h j : Fin 64) (d : Fin 128) (a b : Fin 3) (n : Fin 9) (ha : row3 n = a) (hb : col3 n = b) :
    term (padded (xz x0 x1 w0 w1)) (factors k0 k1) s h j d a b
      = tap (proj ((entries x0 x1 w0 w1 k0 b0 k1 b1).x s) ((entries x0 x1 w0 w1 k0 b0 k1 b1).w s) (lo d)) a.val b.val h j
        * (entries x0 x1 w0 w1 k0 b0 k1 b1).k s n d := by
  subst ha hb
  unfold term
  rw [padded_at, factors_at]
  simp only [xz_entries x0 x1 w0 w1 k0 b0 k1 b1]
  rfl
theorem total_at (s : Fin 2) (h j : Fin 64) (d : Fin 128) :
    total x0 x1 w0 w1 k0 b0 k1 b1 (ix4 s h j d) = (entries x0 x1 w0 w1 k0 b0 k1 b1).act s h j d := by
  have t := term_at x0 x1 w0 w1 k0 b0 k1 b1 s h j d
  unfold total
  rw [gated_at, sums_at, terms_at, t 0 0 0 rfl rfl, t 0 1 1 rfl rfl, t 0 2 2 rfl rfl, t 1 0 3 rfl rfl, t 1 1 4 rfl rfl, t 1 2 5 rfl rfl,
    t 2 0 6 rfl rfl, t 2 1 7 rfl rfl, t 2 2 8 rfl rfl]
  rfl
end arrays

variable (V : Valuation τ sig (Elt Ideal))

/-! ## The stretches, as these terms -/

theorem v4_eq : after hostOps0 V (Proc.devRef .tc main_v4) = xz (V (Proc.devRef .tc main_arg0)) (V (Proc.devRef .tc main_arg1)) (V (Proc.devRef .tc main_arg2)) (V (Proc.devRef .tc main_arg3)) := by
  after_results; rfl
theorem v6_eq : after hostOps0 V (Proc.devRef .tc main_v6) = (extractStridedSlice S2x64x64x128 ![0, 0, 0, 128] (xz (V (Proc.devRef .tc main_arg0)) (V (Proc.devRef .tc main_arg1)) (V (Proc.devRef .tc main_arg2)) (V (Proc.devRef .tc main_arg3))) slices_S2x64x64x256_S2x64x64x128_0_0_0_128 : FVec Ideal S2x64x64x128 .f32) := by
  after_results; rfl
theorem v10_eq : after hostOps0 V (Proc.devRef .tc main_v10) = factors (V (Proc.devRef .tc main_arg4)) (V (Proc.devRef .tc main_arg6)) := by
  after_results; rfl
theorem v13_eq : after hostOps0 V (Proc.devRef .tc main_v13) = terms (V (Proc.devRef .tc main_arg5)) (V (Proc.devRef .tc main_arg7)) := by
  after_results; rfl
theorem v14_eq : after hostOps0_1 (after hostOps0 V) (Proc.devRef .tc main_v14) = padded (after hostOps0 V (Proc.devRef .tc main_v4)) := by
  after_results; rfl
set_option maxHeartbeats 40000000 in
theorem v79_eq : after hostOps0_2 V (Proc.devRef .tc main_v79) = sums (V (Proc.devRef .tc main_v14)) (V (Proc.devRef .tc main_v10)) (V (Proc.devRef .tc main_v13)) := by
  after_results; rfl
theorem v80_eq : after hostOps0_3 V (Proc.devRef .tc main_v80) = gated (V (Proc.devRef .tc main_v79)) := by
  after_results; rfl
theorem v81_eq : after hostOps0_4 V (Proc.devRef .tc main_v81) = (shapeCast S2x4096x128 (V (Proc.devRef .tc main_v80) : FVec Ideal S2x64x64x128 .f32) shapeCasts_S2x64x64x128_S2x4096x128 : FVec Ideal S2x4096x128 .f32) := by
  after_results; rfl
theorem v83_eq : after hostOps0_4 V (Proc.devRef .tc main_v83) = (shapeCast S2x4096x128 (transpose S2x64x64x128 [0, 2, 1, 3] (V (Proc.devRef .tc main_v80) : FVec Ideal S2x64x64x128 .f32) transposes_S2x64x64x128_S2x64x64x128_0_2_1_3) shapeCasts_S2x64x64x128_S2x4096x128 : FVec Ideal S2x4096x128 .f32) := by
  after_results; rfl
theorem v84_eq : after hostOps0_4 V (Proc.devRef .tc main_v84) = (shapeCast S2x4096x128 (V (Proc.devRef .tc main_v6) : FVec Ideal S2x64x64x128 .f32) shapeCasts_S2x64x64x128_S2x4096x128 : FVec Ideal S2x4096x128 .f32) := by
  after_results; rfl

/-! ## The two orderings and the gate's input, at an index -/

/-- The arguments, of the buffers the program starts with. -/
def args : Ar where
  x0 h j e := ent S1x64x64x64 (V (Proc.devRef .tc main_arg0)) (ix4 0 h j e)
  x1 h j e := ent S1x64x64x64 (V (Proc.devRef .tc main_arg1)) (ix4 0 h j e)
  w0 q e := ent S256x64 (V (Proc.devRef .tc main_arg2)) (ix2 q e)
  w1 q e := ent S256x64 (V (Proc.devRef .tc main_arg3)) (ix2 q e)
  k0 n d := ent S128x1x3x3 (V (Proc.devRef .tc main_arg4)) (ix4 d 0 (row3 n) (col3 n))
  b0 d := ent S128 (V (Proc.devRef .tc main_arg5)) (ix1 d)
  k1 n d := ent S128x1x3x3 (V (Proc.devRef .tc main_arg6)) (ix4 d 0 (row3 n) (col3 n))
  b1 d := ent S128 (V (Proc.devRef .tc main_arg7)) (ix1 d)

/-- The projection of the arguments. -/
def us : FVec Ideal S2x64x64x256 .f32 :=
  xz (V (Proc.devRef .tc main_arg0)) (V (Proc.devRef .tc main_arg1)) (V (Proc.devRef .tc main_arg2)) (V (Proc.devRef .tc main_arg3))
/-- The gated sums of the arguments. -/
def acts : FVec Ideal S2x64x64x128 .f32 :=
  gated (sums (padded (us V)) (factors (V (Proc.devRef .tc main_arg4)) (V (Proc.devRef .tc main_arg6)))
    (terms (V (Proc.devRef .tc main_arg5)) (V (Proc.devRef .tc main_arg7))))

theorem us_at (s : Fin 2) (h j : Fin 64) (q : Fin 256) : us V (ix4 s h j q) = proj ((args V).x s) ((args V).w s) q h j :=
  xz_entries _ _ _ _ (V (Proc.devRef .tc main_arg4)) (V (Proc.devRef .tc main_arg5)) (V (Proc.devRef .tc main_arg6)) (V (Proc.devRef .tc main_arg7)) s h j q
theorem acts_at (s : Fin 2) (h j : Fin 64) (d : Fin 128) : acts V (ix4 s h j d) = (args V).act s h j d :=
  total_at (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) s h j d

/-- The buffers after the gate. -/
def Y : Valuation τ sig (Elt Ideal) := after hostOps0_3 (after hostOps0_2 (after hostOps0_1 (after hostOps0 V)))

theorem Y80 : Y V (Proc.devRef .tc main_v80) = acts V := by
  unfold Y
  rw [v80_eq, v79_eq, v14_eq, after_of_writes_sub hostOps0_1 _ hostOps0_1_writes (show main_v10 ∉ hostOps0_1_W by decide +kernel),
    after_of_writes_sub hostOps0_1 _ hostOps0_1_writes (show main_v13 ∉ hostOps0_1_W by decide +kernel), v4_eq, v10_eq, v13_eq]
  rfl
theorem Y6 : Y V (Proc.devRef .tc main_v6) = (extractStridedSlice S2x64x64x128 ![0, 0, 0, 128] (us V) slices_S2x64x64x256_S2x64x64x128_0_0_0_128 : FVec Ideal S2x64x64x128 .f32) := by
  unfold Y
  rw [after_of_writes_sub hostOps0_3 _ hostOps0_3_writes (show main_v6 ∉ hostOps0_3_W by decide +kernel),
    after_of_writes_sub hostOps0_2 _ hostOps0_2_writes (show main_v6 ∉ hostOps0_2_W by decide +kernel),
    after_of_writes_sub hostOps0_1 _ hostOps0_1_writes (show main_v6 ∉ hostOps0_1_W by decide +kernel), v6_eq]
  rfl

/-- The gated sums by rows. -/
theorem v81_at (s : Fin 2) (l : Fin 4096) (d : Fin 128) :
    ent S2x4096x128 (after hostOps0_4 (Y V) (Proc.devRef .tc main_v81)) (ix3 s l d) = (args V).act s (row l) (col l) d := by
  rw [← acts_at, v81_eq, Y80]
  unfold ent row col
  generalize acts V = u
  pointwise []
/-- The gated sums by columns. -/
theorem v83_at (s : Fin 2) (l : Fin 4096) (d : Fin 128) :
    ent S2x4096x128 (after hostOps0_4 (Y V) (Proc.devRef .tc main_v83)) (ix3 s l d) = (args V).act s (col l) (row l) d := by
  rw [← acts_at, v83_eq, Y80]
  unfold ent row col
  generalize acts V = u
  pointwise []
/-- The gate's input. -/
theorem v84_at (s : Fin 2) (l : Fin 4096) (d : Fin 128) :
    ent S2x4096x128 (after hostOps0_4 (Y V) (Proc.devRef .tc main_v84)) (ix3 s l d) = (args V).z s (row l) (col l) d := by
  unfold Ar.z
  rw [← us_at, v84_eq, Y6]
  unfold ent row col hi
  generalize us V = u
  pointwise []

end Cert.ReferenceIdeal.Conv
-- ==== Proof.NormMath.lean ====
/- What one block of the last call computes, over the extended reals. -/
module

public import proofs.«01_k».proof.Proof.NormRun
public import Idealize.ShloMosaic.Lib.Pointwise
public import Idealize.ShloMosaic.Lib.WordCmp
public import Idealize.ShloMosaic.Lib.Pipeline.Value
public import Idealize.ShloMosaic.Lib.Pipeline.ValueKit

@[expose] public section

set_option maxRecDepth 16384

noncomputable section

namespace Cert.KernelIdeal.Norm

open Cert.KernelIdeal Cert.KernelIdeal.Gen
open Idealize.ShloMosaic Idealize.ShloMosaic.TcCoe

/-! ## A row's norm, its gate and its product -/

/-- How many channels a row has, as the programs' literal. -/
def width : EReal := Ideal.ofBits .f32 0x43000000#32
/-- What is added to the variance, as the programs' literal. -/
def small : EReal := Ideal.ofBits .f32 0x3727C5AC#32

/-- A row's mean. -/
def mean (x : Fin 128 → EReal) : EReal := Ideal.div (∑ d, x d) width
/-- A row's variance. -/
def vari (x : Fin 128 → EReal) : EReal := Ideal.div (∑ d, (x d - mean x) * (x d - mean x)) width
/-- A row's norm, divided by the root. -/
def norm (x g b : Fin 128 → EReal) (d : Fin 128) : EReal :=
  Ideal.div (x d - mean x) (Ideal.sqrt (vari x + small)) * g d + b d
/-- The gate. -/
def gate (z : EReal) : EReal := z * Ideal.div 1 (1 + Ideal.exp (-z))
/-- An entry of the result, from its row and its row of weights. -/
def entry (x g b z w : Fin 128 → EReal) : EReal := ∑ d, norm x g b d * gate (z d) * w d

/-! ## A product with the root's inverse is a quotient -/

theorem width_eq : width = ((128 : ℝ) : EReal) := by
  simp [width, Ideal.ofBits, Ideal.ieee]
  norm_num
  exact_mod_cast (by norm_num : (8388608 : ℝ) * (1 / 65536) = 128)
theorem small_pos : 0 < small := by
  simp [small, Ideal.ofBits, Ideal.ieee]
  norm_num
  exact_mod_cast (by norm_num : (0 : ℝ) < 10995116 * (1 / 1099511627776))

theorem sq_nonneg' (x : EReal) : 0 ≤ x * x := by
  rcases le_total 0 x with h | h
  · exact mul_nonneg h h
  · have h' : 0 ≤ -x := by simpa using EReal.neg_le_neg_iff.2 h
    simpa using mul_nonneg h' h'

/-- A variance isn't negative. -/
theorem vari_nonneg (x : Fin 128 → EReal) : 0 ≤ vari x := by
  have h0 : ((128 : ℝ) : EReal) ≠ 0 := by exact_mod_cast (by norm_num : (128 : ℝ) ≠ 0)
  unfold vari Ideal.div
  rw [width_eq, if_neg h0]
  refine mul_nonneg (Finset.sum_nonneg fun d _ => sq_nonneg' _) ?_
  rw [← EReal.coe_inv]
  exact_mod_cast (by norm_num : (0 : ℝ) ≤ (128 : ℝ)⁻¹)

/-- Of a positive number, to multiply by the inverse of the root is to divide by the root. -/
theorem mul_root (x y : EReal) (h : 0 < y) : x * Ideal.rsqrt y = Ideal.div x (Ideal.sqrt y) := by
  induction y with
  | bot => exact absurd h (by simp)
  | top => rw [Ideal.rsqrt_top, Ideal.sqrt_top]; simp [Ideal.div]
  | coe r =>
    have hr : 0 < r := by exact_mod_cast h
    have h1 : ¬ r < 0 := not_lt.2 hr.le
    have h2 : r ≠ 0 := hr.ne'
    have h3 : Real.sqrt r ≠ 0 := (Real.sqrt_pos.2 hr).ne'
    have h4 : ((Real.sqrt r : ℝ) : EReal) ≠ 0 := by exact_mod_cast h3
    rw [Ideal.rsqrt_coe, Ideal.sqrt_coe, if_neg h1, if_neg h1, if_neg h2, Ideal.div, if_neg h4, EReal.coe_inv]

theorem norm_eq (x g b : Fin 128 → EReal) (d : Fin 128) :
    (x d - mean x) * Ideal.rsqrt (vari x + small) * g d + b d = norm x g b d := by
  rw [mul_root _ _ (lt_of_lt_of_le small_pos (le_add_of_nonneg_left (vari_nonneg x)))]; rfl

/-! ## The payloads at an index -/

/-- A row of a block: the sum of the four directions. -/
def rowSum (y : FVec Ideal S1x2x1024x128 .f32) (u : FVec Ideal S1x2x64x16x128 .f32) (t : Fin 1024) (d : Fin 128) : EReal :=
  ∑ e : Fin 2, y (ix4 0 e t d) + ∑ e : Fin 2, u (ix5 0 e (⟨t.val % 64, by omega⟩ : Fin 64) (⟨t.val / 64, by omega⟩ : Fin 16) d)

/-- A block's rows after the norm. -/
theorem norm_at (y : FVec Ideal S1x2x1024x128 .f32) (u : FVec Ideal S1x2x64x16x128 .f32) (g b : FVec Ideal S1x1x128 .f32) (t : Fin 1024) (d : Fin 128) :
    k2_pay2 (F := Ideal) y u g b (ix2 t d) = norm (rowSum y u t) (fun d => g (ix3 0 0 d)) (fun d => b (ix3 0 0 d)) d := by
  rw [← norm_eq]
  unfold vari mean width small rowSum
  pointwise [k2_pay2]

/-- An entry of a block's result. -/
theorem out_at (v : FVec Ideal S1024x128 .f32) (z : FVec Ideal S1x1024x128 .f32) (w : FVec Ideal S1x64x128 .f32) (t : Fin 1024) (o : Fin 64) :
    k2_pay1 (F := Ideal) v z w (ix3 0 t o) = ∑ d : Fin 128, v (ix2 t d) * gate (z (ix3 0 t d)) * w (ix3 0 o d) := by
  pointwise [k2_pay1, gate]
  simp only [zero_sub]

end Cert.KernelIdeal.Norm
-- ==== Proof.NormValue.lean ====
/- The array that the last call returns, from its arguments. -/
module

public import proofs.«01_k».proof.Proof.NormMath
public import proofs.«01_k».proof.Proof.Gen.KernelIdeal.Regions
public import Idealize.ShloMosaic.Lib.Claim

@[expose] public section

set_option maxRecDepth 16384

noncomputable section

namespace Cert.KernelIdeal.Norm

open Cert.KernelIdeal Cert.KernelIdeal.Gen
open Idealize.ShloMosaic Idealize.ShloMosaic.TcCoe

/-! ## The call's mathematics over its arguments -/

/-- The call's arguments: both arrays of the scan, the gate's input, the norm's factors and terms, the weights. -/
structure Ar where
  yf : Fin 2 → Fin 2 → Fin 4096 → Fin 128 → EReal
  yt : Fin 2 → Fin 2 → Fin 4096 → Fin 128 → EReal
  z : Fin 2 → Fin 4096 → Fin 128 → EReal
  g0 : Fin 128 → EReal
  b0 : Fin 128 → EReal
  g1 : Fin 128 → EReal
  b1 : Fin 128 → EReal
  w0 : Fin 64 → Fin 128 → EReal
  w1 : Fin 64 → Fin 128 → EReal

/-- A place's partner, when the image is read by columns. -/
def turn (l : Fin 4096) : Fin 4096 := ⟨l.val % 64 * 64 + l.val / 64, by omega⟩

namespace Ar
variable (a : Ar)
/-- The four directions' sum at a place. -/
def row (s : Fin 2) (l : Fin 4096) (d : Fin 128) : EReal := ∑ e, a.yf s e l d + ∑ e, a.yt s e (turn l) d
/-- A branch's factors. -/
def g (s : Fin 2) (d : Fin 128) : EReal := if s = 0 then a.g0 d else a.g1 d
/-- A branch's terms. -/
def b (s : Fin 2) (d : Fin 128) : EReal := if s = 0 then a.b0 d else a.b1 d
/-- A branch's weights. -/
def w (s : Fin 2) (o : Fin 64) (d : Fin 128) : EReal := if s = 0 then a.w0 o d else a.w1 o d
/-- An entry of the result. -/
def out (s : Fin 2) (l : Fin 4096) (o : Fin 64) : EReal := entry (a.row s l) (a.g s) (a.b s) (a.z s l) (a.w s o)
end Ar

variable (W : Dev nD → Valuation τ sig (Elt Ideal)) (c : Dev nD)

/-- The buffers as the call is entered, of those its part of the program starts with. -/
abbrev V (c : Dev nD) (b : Ref sig .tc) : Buf (Elt Ideal) ((c : Thread nD τ).loc b) := StableHlo.after hostOps2 (W c) b
/-- A buffer the part's host operations do not write is as it was. -/
theorem V_keeps (r : Ref sig .tc) (h : r ∉ hostOps2_W) : V W c r = W c (Proc.devRef .tc r) :=
  StableHlo.after_of_writes_sub hostOps2 _ hostOps2_writes h

/-- The arguments, of the buffers the part starts with. -/
def args : Ar where
  yf s e l d := W c (Proc.devRef .tc main_v28_0) (ix4 s e l d)
  yt s e l d := W c (Proc.devRef .tc main_v28_1) (ix4 s e l d)
  z s l d := W c (Proc.devRef .tc main_v19_2) (ix3 s l d)
  g0 d := W c (Proc.devRef .tc main_arg18) (ix1 d)
  b0 d := W c (Proc.devRef .tc main_arg19) (ix1 d)
  g1 d := W c (Proc.devRef .tc main_arg20) (ix1 d)
  b1 d := W c (Proc.devRef .tc main_arg21) (ix1 d)
  w0 o d := W c (Proc.devRef .tc main_arg22) (ix2 o d)
  w1 o d := W c (Proc.devRef .tc main_arg23) (ix2 o d)

/-! ## The points and their blocks -/

/-- A point's branch. -/
def sOf (t : Fin cfg2.N) : Fin 2 := ⟨t.val / 4, by have : t.val < 8 := t.isLt; omega⟩
/-- A row of a point's blocks in the arrays. -/
def rowAt (t : Fin cfg2.N) (p : Fin 1024) : Fin 4096 := ⟨1024 * (t.val % 4) + p.val, by omega⟩

theorem index0 : ∀ t : Fin cfg2.N, win2_0.index t = ![t.val / 4, 0, t.val % 4, 0] := (by decide +kernel : ∀ t : Fin grid2.N, _)
theorem index1 : ∀ t : Fin cfg2.N, win2_1.index t = ![t.val / 4, 0, 0, t.val % 4, 0] := (by decide +kernel : ∀ t : Fin grid2.N, _)
theorem index2 : ∀ t : Fin cfg2.N, win2_2.index t = ![t.val / 4, t.val % 4, 0] := (by decide +kernel : ∀ t : Fin grid2.N, _)
theorem index3 : ∀ t : Fin cfg2.N, win2_3.index t = ![t.val / 4, 0, 0] := (by decide +kernel : ∀ t : Fin grid2.N, _)
theorem index4 : ∀ t : Fin cfg2.N, win2_4.index t = ![t.val / 4, 0, 0] := (by decide +kernel : ∀ t : Fin grid2.N, _)
theorem index5 : ∀ t : Fin cfg2.N, win2_5.index t = ![t.val / 4, 0, 0] := (by decide +kernel : ∀ t : Fin grid2.N, _)
theorem index6 : ∀ t : Fin cfg2.N, win2_6.index t = ![t.val / 4, t.val % 4, 0] := (by decide +kernel : ∀ t : Fin grid2.N, _)

theorem blk0 (t : Fin cfg2.N) (e : Fin 2) (p : Fin 1024) (d : Fin 128) : iblk2 (V W) c 0 t (ix4 0 e p d) = (args W c).yf (sOf t) e (rowAt t p) d := by
  blk_simp [iblk2]
  rw [V_keeps W c main_v28_0 (by decide)]
  refine congrArg (W c (Proc.devRef .tc main_v28_0)) (?_ : _ = ix4 (sOf t) e (rowAt t p) d)
  blk_ext [index0, rowAt, sOf]
theorem V_v0 (s e : Fin 2) (q h : Fin 64) (d : Fin 128) :
    V W c main_v29 (ix5 s e q h d) = W c (Proc.devRef .tc main_v28_1) (ix4 s e (⟨q.val * 64 + h.val, by omega⟩ : Fin 4096) d) := by
  entry_read; pointwise []
theorem blk1 (t : Fin cfg2.N) (e : Fin 2) (p : Fin 1024) (d : Fin 128) :
    iblk2 (V W) c 1 t (ix5 0 e (⟨p.val % 64, by omega⟩ : Fin 64) (⟨p.val / 64, by omega⟩ : Fin 16) d) = (args W c).yt (sOf t) e (turn (rowAt t p)) d := by
  blk_simp [iblk2]
  refine (congrArg (V W c main_v29) (?_ : _ = ix5 (sOf t) e (⟨p.val % 64, by omega⟩ : Fin 64) (⟨16 * (t.val % 4) + p.val / 64, by omega⟩ : Fin 64) d)).trans ?_
  · blk_ext [index1, sOf]
  · refine (V_v0 W c _ _ _ _ d).trans (congrArg (W c (Proc.devRef .tc main_v28_1)) ?_)
    refine congrArg (fun l => ix4 (sOf t) e l d) (Fin.ext ?_)
    unfold turn rowAt
    dsimp only
    omega
theorem blk2 (t : Fin cfg2.N) (p : Fin 1024) (d : Fin 128) : iblk2 (V W) c 2 t (ix3 0 p d) = (args W c).z (sOf t) (rowAt t p) d := by
  blk_simp [iblk2]
  rw [V_keeps W c main_v19_2 (by decide)]
  refine congrArg (W c (Proc.devRef .tc main_v19_2)) (?_ : _ = ix3 (sOf t) (rowAt t p) d)
  blk_ext [index2, rowAt, sOf]
theorem V_v4 (s : Fin 2) (d : Fin 128) : V W c main_v33 (ix3 s 0 d) = (args W c).g s d := by
  obtain rfl | rfl : s = 0 ∨ s = 1 := by omega
  all_goals (unfold Ar.g args; entry_read; pointwise []; try rfl)
theorem blk3 (t : Fin cfg2.N) (d : Fin 128) : iblk2 (V W) c 3 t (ix3 0 0 d) = (args W c).g (sOf t) d := by
  blk_simp [iblk2]
  refine (congrArg (V W c main_v33) (?_ : _ = ix3 (sOf t) 0 d)).trans (V_v4 W c _ d)
  blk_ext [index3, sOf]
theorem V_v8 (s : Fin 2) (d : Fin 128) : V W c main_v37 (ix3 s 0 d) = (args W c).b s d := by
  obtain rfl | rfl : s = 0 ∨ s = 1 := by omega
  all_goals (unfold Ar.b args; entry_read; pointwise []; try rfl)
theorem blk4 (t : Fin cfg2.N) (d : Fin 128) : iblk2 (V W) c 4 t (ix3 0 0 d) = (args W c).b (sOf t) d := by
  blk_simp [iblk2]
  refine (congrArg (V W c main_v37) (?_ : _ = ix3 (sOf t) 0 d)).trans (V_v8 W c _ d)
  blk_ext [index4, sOf]
theorem V_v11 (s : Fin 2) (o : Fin 64) (d : Fin 128) : V W c main_v40 (ix3 s o d) = (args W c).w s o d := by
  obtain rfl | rfl : s = 0 ∨ s = 1 := by omega
  all_goals (unfold Ar.w args; entry_read; pointwise []; try rfl)
theorem blk5 (t : Fin cfg2.N) (o : Fin 64) (d : Fin 128) : iblk2 (V W) c 5 t (ix3 0 o d) = (args W c).w (sOf t) o d := by
  blk_simp [iblk2]
  refine (congrArg (V W c main_v40) (?_ : _ = ix3 (sOf t) o d)).trans (V_v11 W c _ o d)
  blk_ext [index5, sOf]

/-! ## The result -/

/-- A block of the result, from the blocks it is computed of. -/
theorem out6_at (x0 : Vec Ideal S1x2x1024x128 .f32) (x1 : Vec Ideal S1x2x64x16x128 .f32) (x2 : Vec Ideal S1x1024x128 .f32) (x3 x4 : Vec Ideal S1x1x128 .f32)
    (x5 : Vec Ideal S1x64x128 .f32) (p : Fin 1024) (o : Fin 64) :
    out2_6 (F := Ideal) x0 x1 x2 x3 x4 x5 (ix3 0 p o)
      = entry (rowSum x0 x1 p) (fun d => x3 (ix3 0 0 d)) (fun d => x4 (ix3 0 0 d)) (fun d => x2 (ix3 0 p d)) (fun d => x5 (ix3 0 o d)) := by
  have z3 : (![0, 0, 0] : Fin 3 → ℕ) = fun _ => 0 := by funext a; fin_cases a <;> rfl
  have z4 : (![0, 0, 0, 0] : Fin 4 → ℕ) = fun _ => 0 := by funext a; fin_cases a <;> rfl
  have z5 : (![0, 0, 0, 0, 0] : Fin 5 → ℕ) = fun _ => 0 := by funext a; fin_cases a <;> rfl
  unfold out2_6
  have e : (ix3 0 p o : S1x1024x64.Idx) = r2_5.emb (ix3 0 p o) := by blk_ext
  have h1 := View.canon_cons_emb r2_5 (k2_pay1 (F := Ideal) (k2_pay2 (View.ld x0 r2_0) (View.ld x1 r2_1) (View.ld x3 r2_2) (View.ld x4 r2_2)) (View.ld x2 r2_3) (View.ld x5 r2_4))
    ([] : List (View.Piece (Elt Ideal) S1x1024x64 .f32)) (ix3 0 p o)
  rw [← e] at h1
  refine h1.trans ((out_at _ _ _ p o).trans ?_)
  unfold entry
  refine Finset.sum_congr rfl fun d _ => ?_
  rw [norm_at, View.ld_unit_zero z4, View.ld_unit_zero z5, View.ld_unit_zero z3, View.ld_unit_zero z3, View.ld_unit_zero z3, View.ld_unit_zero z3]

set_option maxHeartbeats 2000000 in
/-- The array after the run. -/
theorem final6 : (dat2 (V W) c).arrAt 6 cfg2.N = fun i : S2x4096x64.Idx => (args W c).out (i 0) (i 1) (i 2) := by
  refine (dat2 (V W) c).arrAt_eq_of_covers 6 _ (by decide +kernel) fun t hf y => ?_
  blk_simp
  rw [after2_6]
  change S1x1024x64.Idx at y
  obtain ⟨p, o, rfl⟩ : ∃ (p : Fin 1024) (o : Fin 64), y = ix3 0 p o := ⟨y 1, y 2, by idx_ext⟩
  refine (out6_at _ _ _ _ _ _ p o).trans ?_
  have e : (win2_6.blk t).view.emb (ix3 0 p o) = ix3 (sOf t) (rowAt t p) o := by
    blk_ext [index6, rowAt, sOf]
  rw [e]
  show entry _ _ _ _ _ = (args W c).out (sOf t) (rowAt t p) o
  unfold Ar.out
  congr 1
  · funext d; unfold rowSum Ar.row; simp only [blk0, blk1]
  · funext d; exact blk3 W c t d
  · funext d; exact blk4 W c t d
  · funext d; exact blk2 W c t p d
  · funext d; exact blk5 W c t o d

end Cert.KernelIdeal.Norm
-- ==== Proof.ScanRefStep.lean ====
module

public import proofs.«01_k».proof.Proof.ScanRefRead

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo

open Cert.ReferenceIdeal.Value

/-! ## Reading and writing one place of a stacked array -/

/-- The first coordinate `t`, the others zero. -/
def beg (t : ℕ) : Fin 5 → ℕ := ![t, 0, 0, 0, 0]

theorem beg_fits (t : ℕ) (ht : t < 4096) : S4096x2x4x128x16.Slices (beg t) S1x2x4x128x16 := by
  refine ⟨rfl, fun a => ?_⟩
  fin_cases a
  · show t + 1 ≤ 4096
    omega
  · exact show 0 + 2 ≤ 2 by decide
  · exact show 0 + 4 ≤ 4 by decide
  · exact show 0 + 128 ≤ 128 by decide
  · exact show 0 + 16 ≤ 16 by decide

/-- The state read at place `t` of a stacked array. -/
theorem dslice_at {α : Type} (x : S4096x2x4x128x16.Idx → α) (t : ℕ) (ht : t < 4096) (start : Fin 5 → Int)
    (h : S4096x2x4x128x16.Slices (fun _ => 0) S1x2x4x128x16) (hs : S1x2x4x128x16.ShapeCasts S2x4x128x16)
    (e : ∀ a, start a = (beg t a : Int)) (s : Fin 2) (k : Fin 4) (d : Fin 128) (n : Fin 16) :
    shapeCast S2x4x128x16 (Host.dynamicSlice S1x2x4x128x16 x start h) hs (ix4 s k d n) = x (ix5 ⟨t, ht⟩ s k d n) := by
  rw [WordCmp.dynamicSlice_eq_extract S1x2x4x128x16 x start h (beg t) (beg_fits t ht) e]
  pointwise []
  all_goals simp [beg]

/-- A stacked array with the state at place `t` written over. -/
theorem dupdate_at {α : Type} (x : S4096x2x4x128x16.Idx → α) (z : S1x2x4x128x16.Idx → α) (t : ℕ) (ht : t < 4096) (start : Fin 5 → Int)
    (h : S4096x2x4x128x16.Slices (fun _ => 0) S1x2x4x128x16)
    (e : ∀ a, start a = (beg t a : Int)) (l : Fin 4096) (s : Fin 2) (k : Fin 4) (d : Fin 128) (n : Fin 16) :
    Host.dynamicUpdateSlice x z start h (ix5 l s k d n) = if l.val = t then z (ix5 0 s k d n) else x (ix5 l s k d n) := by
  rw [WordCmp.dynamicUpdateSlice_eq_update x z start h (beg t) (beg_fits t ht) e]
  pointwise []
  simp [beg]
  by_cases h : l.val = t
  · subst h
    simp
  · rw [dif_neg (by omega), if_neg h]

/-- The starts of the trip at counter `t`. -/
theorem starts (w : S_.Idx → BitVec 32) (t : ℕ) (ht : t < 4096) (hw : w = fun _ => BitVec.ofNat 32 t) (a : Fin 5) :
    ((![w, constantI S_ 32 0#32, constantI S_ 32 0#32, constantI S_ 32 0#32, constantI S_ 32 0#32] : Fin 5 → S_.Idx → BitVec 32) a (Shape.Idx.first h_S_)).toInt
      = (beg t a : Int) := by
  subst hw
  fin_cases a
  · exact WordCmp.toInt_ofNat_of_lt (by omega)
  all_goals rfl

variable (V : Valuation τ sig (Elt Ideal))

/-! ## One trip of the loop, at an index -/

/-- The state after a trip at counter `t`: the trip's factor times the state plus the trip's addend. -/
theorem res_at (t : ℕ) (ht : t < 4096) (hc : V (Proc.devRef .tc main_v137_2) = fun _ => BitVec.ofNat 32 t)
    (s : Fin 2) (k : Fin 4) (d : Fin 128) (n : Fin 16) :
    ent S2x4x128x16 (res_main_while0b_v218 V) (ix4 s k d n)
      = ent S4096x2x4x128x16 (V (Proc.devRef .tc main_v137_0)) (ix5 ⟨t, ht⟩ s k d n) * ent S2x4x128x16 (V (Proc.devRef .tc main_v137_3)) (ix4 s k d n)
        + ent S4096x2x4x128x16 (V (Proc.devRef .tc main_v137_1)) (ix5 ⟨t, ht⟩ s k d n) := by
  unfold ent res_main_while0b_v218
  refine congrArg₂ (· + ·) (congrArg (· * _) ?_) ?_
  · exact dslice_at _ t ht _ _ _ (starts _ t ht hc) s k d n
  · exact dslice_at _ t ht _ _ _ (starts _ t ht hc) s k d n
/-- The stacked states after a trip at counter `t`: place `t` holds the new state, the rest stay. -/
theorem stack_at (t : ℕ) (ht : t < 4096) (hc : V (Proc.devRef .tc main_v137_2) = fun _ => BitVec.ofNat 32 t)
    (l : Fin 4096) (s : Fin 2) (k : Fin 4) (d : Fin 128) (n : Fin 16) :
    ent S4096x2x4x128x16 (step_main_v137_4 V) (ix5 l s k d n)
      = if l.val = t then ent S2x4x128x16 (res_main_while0b_v218 V) (ix4 s k d n) else ent S4096x2x4x128x16 (V (Proc.devRef .tc main_v137_4)) (ix5 l s k d n) := by
  unfold ent step_main_v137_4
  generalize hz : res_main_while0b_v218 V = z
  refine (dupdate_at _ _ t ht _ _ (starts _ t ht hc) l s k d n).trans ?_
  pointwise []

/-! ## The loop from its entry -/

/-- What the loop carries after `t` trips, for factors `f`, addends `g` and a zero state at the entry. -/
theorem iter_at (f g : Fin 4096 → Fin 2 → Fin 4 → Fin 128 → Fin 16 → EReal)
    (h0 : ∀ l s k d n, ent S4096x2x4x128x16 (V (Proc.devRef .tc main_v137_0)) (ix5 l s k d n) = f l s k d n)
    (h1 : ∀ l s k d n, ent S4096x2x4x128x16 (V (Proc.devRef .tc main_v137_1)) (ix5 l s k d n) = g l s k d n)
    (h2 : V (Proc.devRef .tc main_v137_2) = fun _ => BitVec.ofNat 32 0)
    (h3 : ∀ s k d n, ent S2x4x128x16 (V (Proc.devRef .tc main_v137_3)) (ix4 s k d n) = 0)
    (H : Fin 2 → Fin 4 → Fin 128 → Fin 16 → ℕ → EReal) (H0 : ∀ s k d n, H s k d n 0 = 0)
    (HS : ∀ s k d n t (ht : t < 4096), H s k d n (t + 1) = f ⟨t, ht⟩ s k d n * H s k d n t + g ⟨t, ht⟩ s k d n) :
    ∀ t, t ≤ 4096 →
      (∀ l s k d n, ent S4096x2x4x128x16 ((STEP^[t] V) (Proc.devRef .tc main_v137_0)) (ix5 l s k d n) = f l s k d n)
      ∧ (∀ l s k d n, ent S4096x2x4x128x16 ((STEP^[t] V) (Proc.devRef .tc main_v137_1)) (ix5 l s k d n) = g l s k d n)
      ∧ ((STEP^[t] V) (Proc.devRef .tc main_v137_2) = fun _ => BitVec.ofNat 32 t)
      ∧ (∀ s k d n, ent S2x4x128x16 ((STEP^[t] V) (Proc.devRef .tc main_v137_3)) (ix4 s k d n) = H s k d n t)
      ∧ (∀ (l : Fin 4096) s k d n, l.val < t → ent S4096x2x4x128x16 ((STEP^[t] V) (Proc.devRef .tc main_v137_4)) (ix5 l s k d n) = H s k d n (l.val + 1))
  | 0, _ => ⟨h0, h1, h2, fun s k d n => (h3 s k d n).trans (H0 s k d n).symm, fun l s k d n hl => absurd hl (by omega)⟩
  | t + 1, ht => by
    obtain ⟨i0, i1, i2, i3, i4⟩ := iter_at f g h0 h1 h2 h3 H H0 HS t (by omega)
    have hr : ∀ s k d n, ent S2x4x128x16 (res_main_while0b_v218 (STEP^[t] V)) (ix4 s k d n) = H s k d n (t + 1) := fun s k d n => by
      rw [res_at (STEP^[t] V) t (by omega) i2, i0, i1, i3, HS s k d n t (by omega)]
    rw [Function.iterate_succ_apply']
    refine ⟨?_, ?_, ?_, ?_, ?_⟩
    · rw [STEP_main_v137_0]; exact i0
    · rw [STEP_main_v137_1]; exact i1
    · rw [STEP_main_v137_2]
      unfold step_main_v137_2
      rw [i2]
      funext i
      exact BitVec.ofNat_add_ofNat ..
    · rw [STEP_main_v137_3]; exact hr
    · intro l s k d n hl
      rw [STEP_main_v137_4, stack_at (STEP^[t] V) t (by omega) i2]
      split_ifs with h
      · rw [hr, h]
      · exact i4 l s k d n (by omega)

end Cert.ReferenceIdeal.Scan

end
-- ==== Proof.ScanMath.lean ====
module

public import proofs.«01_k».proof.Proof.ScanBody
public import Idealize.ShloMosaic.Lib.Pointwise
public import Idealize.ShloMosaic.Lib.WordCmp
public import Idealize.ShloMosaic.Lib.Pipeline.Value
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe

/-! ## The payloads at an index, over the extended reals -/

/-- The softplus as the kernel computes it. -/
def sp (z : EReal) : EReal := max z 0 + Ideal.log (1 + Ideal.exp (0 - FloatOps.absf (F := Ideal) (φ := .f32) z))

/-- The projection of a place's input. -/
theorem proj_at (u : FVec Ideal S1x256x128 .f32) (w : FVec Ideal S1x36x128 .f32) (t : Fin 256) (q : Fin 36) :
    k1_pay7 (F := Ideal) u w (ix2 t q) = ∑ d : Fin 128, u (ix3 0 t d) * w (ix3 0 q d) := by
  pointwise [k1_pay7, k1_pay5]

/-- The steps. -/
theorem step_at (u : FVec Ideal S1x256x128 .f32) (w : FVec Ideal S1x36x128 .f32) (tw : FVec Ideal S1x128x4 .f32) (tb : FVec Ideal S1x1x128 .f32) (t : Fin 256) (d : Fin 128) :
    k1_pay9 (F := Ideal) u w tw tb (ix2 t d)
      = sp (∑ r : Fin 4, k1_pay7 (F := Ideal) u w (ix2 t ⟨r.val, by omega⟩) * tw (ix3 0 d r) + tb (ix3 0 0 d)) := by
  pointwise [k1_pay9, k1_pay8, sp]

/-- The decay rates. -/
theorem dec_at (al : FVec Ideal S1x16x128 .f32) (n : Fin 16) (d : Fin 128) :
    k1_pay12 (F := Ideal) al (ix2 n d) = 0 - Ideal.exp (al (ix3 0 n d)) := by
  pointwise [k1_pay12]

/-- The decay factors. -/
theorem da_at (st : FVec Ideal S256x128 .f32) (de : FVec Ideal S16x128 .f32) (t : Fin 256) (n : Fin 16) (d : Fin 128) :
    k1_pay21 (F := Ideal) st de (ix3 t n d) = Ideal.exp (st (ix2 t d) * de (ix2 n d)) := by
  pointwise [k1_pay21]

/-- The input terms. -/
theorem db_at (u st : FVec Ideal S256x128 .f32) (B : FVec Ideal S256x16x128 .f32) (t : Fin 256) (n : Fin 16) (d : Fin 128) :
    k1_pay25 (F := Ideal) u st B (ix3 t n d) = st (ix2 t d) * u (ix2 t d) * B (ix3 t n d) := by
  pointwise [k1_pay25]

/-- A result's entry. -/
theorem out_at (u : FVec Ideal S256x128 .f32) (C h : FVec Ideal S256x16x128 .f32) (dd : FVec Ideal S1x1x128 .f32) (t : Fin 256) (d : Fin 128) :
    k1_pay53 (F := Ideal) u C h dd (ix4 0 0 t d)
      = ∑ n : Fin 16, h (ix3 t n d) * C (ix3 t n d) + u (ix2 t d) * dd (ix3 0 0 d) := by
  pointwise [k1_pay53]

/-- Sixteen divides the walk's rows: the state's number is the row's remainder. -/
theorem and_fifteen (t : Fin 256) (n : Fin 16) : IntOp.andi (BitVec.ofNat 32 (t.val * 16 + n.val)) 15#32 = BitVec.ofNat 32 n.val := by
  revert t n; decide +kernel

/-- A select by a comparison that holds. -/
theorem sel_one {x y : EReal} {c : BitVec 1} (h : c = 1#1) : Scalar.select c x y = x := by subst h; rfl
/-- A select by a comparison that fails. -/
theorem sel_zero {x y : EReal} {c : BitVec 1} (h : c = 0#1) : Scalar.select c x y = y := by subst h; rfl

/-- A column picked out of a row by its number. -/
theorem pick (f : Fin 36 → EReal) (k : Fin 36) (c : Fin 36 → BitVec 1) (h1 : c k = 1#1) (h0 : ∀ x, x ≠ k → c x = 0#1) :
    ∑ x : Fin 36, Scalar.select (c x) (f x) 0 = f k := by
  rw [Finset.sum_eq_single k (fun x _ hx => sel_zero (h0 x hx)) (fun h => absurd (Finset.mem_univ k) h)]
  exact sel_one h1

set_option maxHeartbeats 1000000 in
/-- The input weights along the channels. -/
theorem B_at (p : FVec Ideal S256x36 .f32) (t : Fin 256) (n : Fin 16) (d : Fin 128) :
    k1_pay19 (F := Ideal) (k1_pay14 p) (iota .tc S4096x36 32 [1] iota_S4096x36_d1_w32) (k1_pay16 p) k1_pay17 (ix3 t n d) = p (ix2 t ⟨4 + n.val, by omega⟩) := by
  pointwise [k1_pay19, k1_pay18, k1_pay14, k1_pay15, k1_pay16, k1_pay17]
  simp only [and_fifteen]
  have e1 : ∀ x : Fin 36, IntOp.xori (IntOp.xori (IntOp.cmpi CmpIPredicate.slt (BitVec.ofNat 32 x.val) 36#32)
      (IntOp.cmpi CmpIPredicate.slt (BitVec.ofNat 32 d.val) 128#32)) 1#1 = 1#1 := by revert d; decide +kernel
  have e2 : ∀ x : Fin 36, IntOp.xori (IntOp.xori (IntOp.cmpi CmpIPredicate.slt (BitVec.ofNat 32 (36 + x.val)) 36#32)
      (IntOp.cmpi CmpIPredicate.slt (BitVec.ofNat 32 d.val) 128#32)) 1#1 = 0#1 := by revert d; decide +kernel
  simp only [e1, e2]
  have z : ∑ x : Fin 36, Scalar.select (0#1 : BitVec 1) (Scalar.select
            (IntOp.cmpi CmpIPredicate.eq (BitVec.ofNat 32 x.val) (IntOp.addi (IntOp.addi (BitVec.ofNat 32 n.val) 4#32) 16#32)) (p (ix2 t x)) (0 : EReal)) (0 : EReal) = 0 :=
    Finset.sum_eq_zero fun x _ => sel_zero rfl
  refine (congrArg₂ (· + ·) (pick (fun x => p (ix2 t x)) ⟨4 + n.val, by omega⟩
    (fun x => IntOp.cmpi CmpIPredicate.eq (BitVec.ofNat 32 x.val) (IntOp.addi (BitVec.ofNat 32 n.val) 4#32)) ?_ ?_) z).trans (add_zero _)
  · clear z; revert n; decide +kernel
  · clear z; revert n; decide +kernel

set_option maxHeartbeats 1000000 in
/-- The output weights along the channels. -/
theorem C_at (p : FVec Ideal S256x36 .f32) (t : Fin 256) (n : Fin 16) (d : Fin 128) :
    k1_pay20 (F := Ideal) (k1_pay14 p) (iota .tc S4096x36 32 [1] iota_S4096x36_d1_w32) (k1_pay16 p) k1_pay17 (ix3 t n d) = p (ix2 t ⟨20 + n.val, by omega⟩) := by
  pointwise [k1_pay20, k1_pay18, k1_pay14, k1_pay15, k1_pay16, k1_pay17]
  simp only [and_fifteen]
  have e1 : ∀ x : Fin 36, IntOp.xori (IntOp.xori (IntOp.cmpi CmpIPredicate.slt (BitVec.ofNat 32 x.val) 36#32)
      (IntOp.cmpi CmpIPredicate.slt (BitVec.ofNat 32 (128 + d.val)) 128#32)) 1#1 = 0#1 := by revert d; decide +kernel
  have e2 : ∀ x : Fin 36, IntOp.xori (IntOp.xori (IntOp.cmpi CmpIPredicate.slt (BitVec.ofNat 32 (36 + x.val)) 36#32)
      (IntOp.cmpi CmpIPredicate.slt (BitVec.ofNat 32 (128 + d.val)) 128#32)) 1#1 = 1#1 := by revert d; decide +kernel
  simp only [e1, e2]
  have z : ∑ x : Fin 36, Scalar.select (0#1 : BitVec 1) (Scalar.select
            (IntOp.cmpi CmpIPredicate.eq (BitVec.ofNat 32 x.val) (IntOp.addi (BitVec.ofNat 32 n.val) 4#32)) (p (ix2 t x)) (0 : EReal)) (0 : EReal) = 0 :=
    Finset.sum_eq_zero fun x _ => sel_zero rfl
  refine (congrArg₂ (· + ·) z (pick (fun x => p (ix2 t x)) ⟨20 + n.val, by omega⟩
    (fun x => IntOp.cmpi CmpIPredicate.eq (BitVec.ofNat 32 x.val) (IntOp.addi (IntOp.addi (BitVec.ofNat 32 n.val) 4#32) 16#32)) ?_ ?_)).trans (zero_add _)
  · clear z; revert n; decide +kernel
  · clear z; revert n; decide +kernel

/-! ## The two orderings' words are the same functions -/

namespace Blk
variable {F : FTy → Type} [FloatOps F] (b : Blk F)

theorem v44_eq : b.v44 = k1_pay9 b.v3 b.v7 b.v28 b.v31 := rfl
theorem v54_eq : b.v54 = k1_pay12 b.v50 := rfl
theorem v130_eq : b.v130 = k1_pay7 b.v124 b.v128 := rfl
theorem v148_eq : b.v148 = k1_pay9 b.v124 b.v128 b.v132 b.v135 := rfl
theorem v165_eq : b.v165 = k1_pay9 b.v124 b.v128 b.v149 b.v152 := rfl
theorem v170_eq : b.v170 = k1_pay12 b.v166 := rfl
theorem v175_eq : b.v175 = k1_pay12 b.v171 := rfl
theorem v210_eq : b.v210 = k1_pay19 (k1_pay14 b.v130) (iota .tc S4096x36 32 [1] iota_S4096x36_d1_w32) (k1_pay16 b.v130) k1_pay17 := rfl
theorem v212_eq : b.v212 = k1_pay20 (k1_pay14 b.v130) (iota .tc S4096x36 32 [1] iota_S4096x36_d1_w32) (k1_pay16 b.v130) k1_pay17 := rfl
theorem v89_eq : b.v89 = k1_pay19 (k1_pay14 b.v9) (iota .tc S4096x36 32 [1] iota_S4096x36_d1_w32) (k1_pay16 b.v9) k1_pay17 := rfl
theorem v91_eq : b.v91 = k1_pay20 (k1_pay14 b.v9) (iota .tc S4096x36 32 [1] iota_S4096x36_d1_w32) (k1_pay16 b.v9) k1_pay17 := rfl
/-- The four scratches' halves. -/
theorem d15_eq : b.d15 = View.canon
  [⟨Rect.unit (s := S256x16x256) ![0, 0, 128] S256x16x128.size inb_S256x16x256_S256x16x128_0_0_128, k1_pay21 b.v148 b.v170⟩,
   ⟨Rect.unit (s := S256x16x256) ![0, 0, 0] S256x16x128.size inb_S256x16x256_S256x16x128_0_0_0, k1_pay21 b.v27 b.v49⟩] := rfl
theorem d16_eq : b.d16 = View.canon
  [⟨Rect.unit (s := S256x16x256) ![0, 0, 128] S256x16x128.size inb_S256x16x256_S256x16x128_0_0_128, k1_pay25 b.v125 b.v148 b.v210⟩,
   ⟨Rect.unit (s := S256x16x256) ![0, 0, 0] S256x16x128.size inb_S256x16x256_S256x16x128_0_0_0, k1_pay25 b.v4 b.v27 b.v89⟩] := rfl
theorem d17_eq : b.d17 = View.canon
  [⟨Rect.unit (s := S256x16x256) ![0, 0, 128] S256x16x128.size inb_S256x16x256_S256x16x128_0_0_128, k1_pay21 b.v165 b.v175⟩,
   ⟨Rect.unit (s := S256x16x256) ![0, 0, 0] S256x16x128.size inb_S256x16x256_S256x16x128_0_0_0, k1_pay21 b.v44 b.v54⟩] := rfl
theorem d18_eq : b.d18 = View.canon
  [⟨Rect.unit (s := S256x16x256) ![0, 0, 128] S256x16x128.size inb_S256x16x256_S256x16x128_0_0_128, k1_pay25 b.v127 b.v165 b.v210⟩,
   ⟨Rect.unit (s := S256x16x256) ![0, 0, 0] S256x16x128.size inb_S256x16x256_S256x16x128_0_0_0, k1_pay25 b.v6 b.v44 b.v89⟩] := rfl

end Blk

/-- Two halves of the columns. -/
theorem cols_at (p q : FVec Ideal S256x16x128 .f32) (t : Fin 256) (n : Fin 16) (j : Fin 2) (d : Fin 128) :
    View.canon (Val := Elt Ideal) (s := S256x16x256) (e := .f32)
     [⟨Rect.unit (s := S256x16x256) ![0, 0, 128] S256x16x128.size inb_S256x16x256_S256x16x128_0_0_128, p⟩,
      ⟨Rect.unit (s := S256x16x256) ![0, 0, 0] S256x16x128.size inb_S256x16x256_S256x16x128_0_0_0, q⟩] (ix3 t n ⟨j.val * 128 + d.val, by omega⟩)
      = if j = 0 then q (ix3 t n d) else p (ix3 t n d) := by
  obtain rfl | rfl : j = 0 ∨ j = 1 := by omega
  · rw [if_pos rfl, View.canon_cons_of_not_mem]
    · have e : (ix3 t n ⟨(0 : Fin 2).val * 128 + d.val, by simp; omega⟩ : S256x16x256.Idx) = (Rect.unit (s := S256x16x256) ![0, 0, 0] S256x16x128.size inb_S256x16x256_S256x16x128_0_0_0).emb (ix3 t n d) := by
        blk_ext
      have h1 := View.canon_cons_emb (Rect.unit (s := S256x16x256) ![0, 0, 0] S256x16x128.size inb_S256x16x256_S256x16x128_0_0_0) q ([] : List (View.Piece (Elt Ideal) S256x16x256 .f32)) (ix3 t n d)
      rw [← e] at h1
      exact h1
    · rw [Rect.mem_set_unit]
      intro h
      have := (h 2).1
      simp at this
      omega
  · rw [if_neg (by decide)]
    have e : (ix3 t n ⟨(1 : Fin 2).val * 128 + d.val, by simp; omega⟩ : S256x16x256.Idx) = (Rect.unit (s := S256x16x256) ![0, 0, 128] S256x16x128.size inb_S256x16x256_S256x16x128_0_0_128).emb (ix3 t n d) := by
      blk_ext
    have h1 := View.canon_cons_emb (Rect.unit (s := S256x16x256) ![0, 0, 128] S256x16x128.size inb_S256x16x256_S256x16x128_0_0_128) p
      ([⟨Rect.unit (s := S256x16x256) ![0, 0, 0] S256x16x128.size inb_S256x16x256_S256x16x128_0_0_0, q⟩] : List (View.Piece (Elt Ideal) S256x16x256 .f32)) (ix3 t n d)
    rw [← e] at h1
    exact h1

/-- The two branches of a result's block. -/
theorem halves_at (p q : FVec Ideal S1x1x256x128 .f32) (s : Fin 2) (t : Fin 256) (d : Fin 128) :
    View.canon (Val := Elt Ideal) (s := S2x1x256x128) (e := .f32)
      [⟨Rect.unit (s := S2x1x256x128) ![1, 0, 0, 0] S1x1x256x128.size inb_S2x1x256x128_S1x1x256x128_1_0_0_0, p⟩,
       ⟨Rect.unit (s := S2x1x256x128) ![0, 0, 0, 0] S1x1x256x128.size inb_S2x1x256x128_S1x1x256x128_0_0_0_0, q⟩] (ix4 s 0 t d)
      = if s = 0 then q (ix4 0 0 t d) else p (ix4 0 0 t d) := by
  obtain rfl | rfl : s = 0 ∨ s = 1 := by omega
  · rw [if_pos rfl, View.canon_cons_of_not_mem]
    · have e : (ix4 0 0 t d : S2x1x256x128.Idx) = (Rect.unit (s := S2x1x256x128) ![0, 0, 0, 0] S1x1x256x128.size inb_S2x1x256x128_S1x1x256x128_0_0_0_0).emb (ix4 0 0 t d) := by
        blk_ext
      have h1 := View.canon_cons_emb (Rect.unit (s := S2x1x256x128) ![0, 0, 0, 0] S1x1x256x128.size inb_S2x1x256x128_S1x1x256x128_0_0_0_0) q ([] : List (View.Piece (Elt Ideal) S2x1x256x128 .f32)) (ix4 0 0 t d)
      rw [← e] at h1
      exact h1
    · rw [Rect.mem_set_unit]
      intro h
      have := (h 0).1
      simp at this
  · rw [if_neg (by decide)]
    have e : (ix4 1 0 t d : S2x1x256x128.Idx) = (Rect.unit (s := S2x1x256x128) ![1, 0, 0, 0] S1x1x256x128.size inb_S2x1x256x128_S1x1x256x128_1_0_0_0).emb (ix4 0 0 t d) := by
      blk_ext
    have h1 := View.canon_cons_emb (Rect.unit (s := S2x1x256x128) ![1, 0, 0, 0] S1x1x256x128.size inb_S2x1x256x128_S1x1x256x128_1_0_0_0) p
      ([⟨Rect.unit (s := S2x1x256x128) ![0, 0, 0, 0] S1x1x256x128.size inb_S2x1x256x128_S1x1x256x128_0_0_0_0, q⟩] : List (View.Piece (Elt Ideal) S2x1x256x128 .f32)) (ix4 0 0 t d)
    rw [← e] at h1
    exact h1

end Cert.KernelIdeal.Scan
-- ==== Proof.ScanSpec.lean ====
module

public import proofs.«01_k».proof.Proof.ScanMath

@[expose] public section

set_option maxRecDepth 16384

noncomputable section

namespace Cert.KernelIdeal.Scan

open Cert.KernelIdeal Cert.KernelIdeal.Gen
open Idealize.ShloMosaic Idealize.ShloMosaic.TcCoe

/-! ## A point's blocks in closed form -/

namespace Blk
variable (b : Blk Ideal)

theorem v3_at (t : Fin 256) (d : Fin 128) : b.v3 (ix3 0 t d) = b.x2 (ix3 0 t d) := by pointwise [Blk.v3]
theorem v5_at (t : Fin 256) (d : Fin 128) : b.v5 (ix3 0 t d) = b.x2 (ix3 1 t d) := by pointwise [Blk.v5]
theorem v124_at (t : Fin 256) (d : Fin 128) : b.v124 (ix3 0 t d) = b.x3 (ix3 0 t d) := by pointwise [Blk.v124]
theorem v126_at (t : Fin 256) (d : Fin 128) : b.v126 (ix3 0 t d) = b.x3 (ix3 1 t d) := by pointwise [Blk.v126]
theorem v7_at (q : Fin 36) (d : Fin 128) : b.v7 (ix3 0 q d) = b.x4 (ix3 0 q d) := by pointwise [Blk.v7]
theorem v128_at (q : Fin 36) (d : Fin 128) : b.v128 (ix3 0 q d) = b.x4 (ix3 1 q d) := by pointwise [Blk.v128]
theorem v11_at (d : Fin 128) (r : Fin 4) : b.v11 (ix3 0 d r) = b.x6 (ix3 0 d r) := by pointwise [Blk.v11]
theorem v14_at (d : Fin 128) : b.v14 (ix3 0 0 d) = b.x8 (ix3 0 0 d) := by pointwise [Blk.v14]
theorem v28_at (d : Fin 128) (r : Fin 4) : b.v28 (ix3 0 d r) = b.x5 (ix3 0 d r) := by pointwise [Blk.v28]
theorem v31_at (d : Fin 128) : b.v31 (ix3 0 0 d) = b.x7 (ix3 0 0 d) := by pointwise [Blk.v31]
theorem v45_at (n : Fin 16) (d : Fin 128) : b.v45 (ix3 0 n d) = b.x10 (ix3 0 n d) := by pointwise [Blk.v45]
theorem v50_at (n : Fin 16) (d : Fin 128) : b.v50 (ix3 0 n d) = b.x9 (ix3 0 n d) := by pointwise [Blk.v50]
theorem v132_at (d : Fin 128) (r : Fin 4) : b.v132 (ix3 0 d r) = b.x6 (ix3 1 d r) := by pointwise [Blk.v132]
theorem v135_at (d : Fin 128) : b.v135 (ix3 0 0 d) = b.x8 (ix3 1 0 d) := by pointwise [Blk.v135]
theorem v149_at (d : Fin 128) (r : Fin 4) : b.v149 (ix3 0 d r) = b.x5 (ix3 1 d r) := by pointwise [Blk.v149]
theorem v152_at (d : Fin 128) : b.v152 (ix3 0 0 d) = b.x7 (ix3 1 0 d) := by pointwise [Blk.v152]
theorem v166_at (n : Fin 16) (d : Fin 128) : b.v166 (ix3 0 n d) = b.x10 (ix3 1 n d) := by pointwise [Blk.v166]
theorem v171_at (n : Fin 16) (d : Fin 128) : b.v171 (ix3 0 n d) = b.x9 (ix3 1 n d) := by pointwise [Blk.v171]
theorem v262_at (d : Fin 128) : b.v262 (ix3 0 0 d) = b.x12 (ix3 0 0 d) := by pointwise [Blk.v262]
theorem v270_at (d : Fin 128) : b.v270 (ix3 0 0 d) = b.x11 (ix3 0 0 d) := by pointwise [Blk.v270]
theorem v284_at (d : Fin 128) : b.v284 (ix3 0 0 d) = b.x12 (ix3 1 0 d) := by pointwise [Blk.v284]
theorem v292_at (d : Fin 128) : b.v292 (ix3 0 0 d) = b.x11 (ix3 1 0 d) := by pointwise [Blk.v292]

/-- The input of branch `s` in ordering `j`. -/
def U (s j : Fin 2) (t : Fin 256) (d : Fin 128) : EReal := if j = 0 then b.x2 (ix3 s t d) else b.x3 (ix3 s t d)
/-- The projected input of branch 0. -/
def PR (j : Fin 2) (t : Fin 256) (q : Fin 36) : EReal := ∑ d : Fin 128, b.U 0 j t d * b.x4 (ix3 j q d)
/-- The step weights that branch `s` is scanned with: those of the other branch. -/
def TW (s j : Fin 2) (d : Fin 128) (r : Fin 4) : EReal := if s = 0 then b.x6 (ix3 j d r) else b.x5 (ix3 j d r)
/-- The step bias. -/
def TB (s j : Fin 2) (d : Fin 128) : EReal := if s = 0 then b.x8 (ix3 j 0 d) else b.x7 (ix3 j 0 d)
/-- The logarithms of the decay rates. -/
def AL (s j : Fin 2) (n : Fin 16) (d : Fin 128) : EReal := if s = 0 then b.x10 (ix3 j n d) else b.x9 (ix3 j n d)
/-- The skip weights. -/
def DD (s j : Fin 2) (d : Fin 128) : EReal := if s = 0 then b.x12 (ix3 j 0 d) else b.x11 (ix3 j 0 d)
/-- The step. -/
def ST (s j : Fin 2) (t : Fin 256) (d : Fin 128) : EReal := sp (∑ r : Fin 4, b.PR j t ⟨r.val, by omega⟩ * b.TW s j d r + b.TB s j d)
/-- The decay factor. -/
def DA (s j : Fin 2) (t : Fin 256) (n : Fin 16) (d : Fin 128) : EReal := Ideal.exp (b.ST s j t d * (0 - Ideal.exp (b.AL s j n d)))
/-- The input term. -/
def DB (s j : Fin 2) (t : Fin 256) (n : Fin 16) (d : Fin 128) : EReal := b.ST s j t d * b.U s j t d * b.PR j t ⟨4 + n.val, by omega⟩

theorem v4_at (t : Fin 256) (d : Fin 128) : b.v4 (ix2 t d) = b.U 0 0 t d := by pointwise [Blk.v4, k1_pay5, Blk.v3, U]
theorem v6_at (t : Fin 256) (d : Fin 128) : b.v6 (ix2 t d) = b.U 1 0 t d := by pointwise [Blk.v6, k1_pay6, Blk.v5, U]
theorem v125_at (t : Fin 256) (d : Fin 128) : b.v125 (ix2 t d) = b.U 0 1 t d := by pointwise [Blk.v125, k1_pay26, Blk.v124, U]
theorem v127_at (t : Fin 256) (d : Fin 128) : b.v127 (ix2 t d) = b.U 1 1 t d := by pointwise [Blk.v127, k1_pay27, Blk.v126, U]
theorem v9_at (t : Fin 256) (q : Fin 36) : b.v9 (ix2 t q) = b.PR 0 t q := by
  rw [show b.v9 = k1_pay7 b.v3 b.v7 from rfl, proj_at]; simp only [v3_at, v7_at, PR, U]; rfl
theorem v130_at (t : Fin 256) (q : Fin 36) : b.v130 (ix2 t q) = b.PR 1 t q := by
  rw [show b.v130 = k1_pay7 b.v124 b.v128 from rfl, proj_at]; simp only [v124_at, v128_at, PR, U]; rfl
theorem v27_at (t : Fin 256) (d : Fin 128) : b.v27 (ix2 t d) = b.ST 0 0 t d := by
  rw [show b.v27 = k1_pay9 b.v3 b.v7 b.v11 b.v14 from rfl, step_at, show k1_pay7 b.v3 b.v7 = b.v9 from rfl]
  simp only [v9_at, v11_at, v14_at, ST, TW, TB]; rfl
theorem v44_at (t : Fin 256) (d : Fin 128) : b.v44 (ix2 t d) = b.ST 1 0 t d := by
  rw [show b.v44 = k1_pay9 b.v3 b.v7 b.v28 b.v31 from rfl, step_at, show k1_pay7 b.v3 b.v7 = b.v9 from rfl]
  simp only [v9_at, v28_at, v31_at, ST, TW, TB]; rfl
theorem v148_at (t : Fin 256) (d : Fin 128) : b.v148 (ix2 t d) = b.ST 0 1 t d := by
  rw [show b.v148 = k1_pay9 b.v124 b.v128 b.v132 b.v135 from rfl, step_at, show k1_pay7 b.v124 b.v128 = b.v130 from rfl]
  simp only [v130_at, v132_at, v135_at, ST, TW, TB]; rfl
theorem v165_at (t : Fin 256) (d : Fin 128) : b.v165 (ix2 t d) = b.ST 1 1 t d := by
  rw [show b.v165 = k1_pay9 b.v124 b.v128 b.v149 b.v152 from rfl, step_at, show k1_pay7 b.v124 b.v128 = b.v130 from rfl]
  simp only [v130_at, v149_at, v152_at, ST, TW, TB]; rfl
theorem v49_at (n : Fin 16) (d : Fin 128) : b.v49 (ix2 n d) = 0 - Ideal.exp (b.AL 0 0 n d) := by
  rw [show b.v49 = k1_pay12 b.v45 from rfl, dec_at]; simp only [v45_at, AL]; rfl
theorem v54_at (n : Fin 16) (d : Fin 128) : b.v54 (ix2 n d) = 0 - Ideal.exp (b.AL 1 0 n d) := by
  rw [show b.v54 = k1_pay12 b.v50 from rfl, dec_at]; simp only [v50_at, AL]; rfl
theorem v170_at (n : Fin 16) (d : Fin 128) : b.v170 (ix2 n d) = 0 - Ideal.exp (b.AL 0 1 n d) := by
  rw [show b.v170 = k1_pay12 b.v166 from rfl, dec_at]; simp only [v166_at, AL]; rfl
theorem v175_at (n : Fin 16) (d : Fin 128) : b.v175 (ix2 n d) = 0 - Ideal.exp (b.AL 1 1 n d) := by
  rw [show b.v175 = k1_pay12 b.v171 from rfl, dec_at]; simp only [v171_at, AL]; rfl
theorem v89_at (t : Fin 256) (n : Fin 16) (d : Fin 128) : b.v89 (ix3 t n d) = b.PR 0 t ⟨4 + n.val, by omega⟩ := by
  rw [v89_eq, B_at, v9_at]
theorem v210_at (t : Fin 256) (n : Fin 16) (d : Fin 128) : b.v210 (ix3 t n d) = b.PR 1 t ⟨4 + n.val, by omega⟩ := by
  rw [v210_eq, B_at, v130_at]
theorem v91_at (t : Fin 256) (n : Fin 16) (d : Fin 128) : b.v91 (ix3 t n d) = b.PR 0 t ⟨20 + n.val, by omega⟩ := by
  rw [v91_eq, C_at, v9_at]
theorem v212_at (t : Fin 256) (n : Fin 16) (d : Fin 128) : b.v212 (ix3 t n d) = b.PR 1 t ⟨20 + n.val, by omega⟩ := by
  rw [v212_eq, C_at, v130_at]

/-- The decay factors of branch 0. -/
theorem d15_at (t : Fin 256) (n : Fin 16) (j : Fin 2) (d : Fin 128) : b.d15 (ix3 t n ⟨j.val * 128 + d.val, by omega⟩) = b.DA 0 j t n d := by
  rw [d15_eq]; refine (cols_at _ _ t n j d).trans ?_
  obtain rfl | rfl : j = 0 ∨ j = 1 := by omega
  · rw [if_pos rfl, da_at, v27_at, v49_at]; rfl
  · rw [if_neg (by decide), da_at, v148_at, v170_at]; rfl
/-- The decay factors of branch 1. -/
theorem d17_at (t : Fin 256) (n : Fin 16) (j : Fin 2) (d : Fin 128) : b.d17 (ix3 t n ⟨j.val * 128 + d.val, by omega⟩) = b.DA 1 j t n d := by
  rw [d17_eq]; refine (cols_at _ _ t n j d).trans ?_
  obtain rfl | rfl : j = 0 ∨ j = 1 := by omega
  · rw [if_pos rfl, da_at, v44_at, v54_at]; rfl
  · rw [if_neg (by decide), da_at, v165_at, v175_at]; rfl
/-- The input terms of branch 0. -/
theorem d16_at (t : Fin 256) (n : Fin 16) (j : Fin 2) (d : Fin 128) : b.d16 (ix3 t n ⟨j.val * 128 + d.val, by omega⟩) = b.DB 0 j t n d := by
  rw [d16_eq]; refine (cols_at _ _ t n j d).trans ?_
  obtain rfl | rfl : j = 0 ∨ j = 1 := by omega
  · rw [if_pos rfl, db_at, v4_at, v27_at, v89_at]; rfl
  · rw [if_neg (by decide), db_at, v125_at, v148_at, v210_at]; rfl
/-- The input terms of branch 1. -/
theorem d18_at (t : Fin 256) (n : Fin 16) (j : Fin 2) (d : Fin 128) : b.d18 (ix3 t n ⟨j.val * 128 + d.val, by omega⟩) = b.DB 1 j t n d := by
  rw [d18_eq]; refine (cols_at _ _ t n j d).trans ?_
  obtain rfl | rfl : j = 0 ∨ j = 1 := by omega
  · rw [if_pos rfl, db_at, v6_at, v44_at, v89_at]; rfl
  · rw [if_neg (by decide), db_at, v127_at, v165_at, v210_at]; rfl

end Blk

/-! ## The recurrence at an entry -/

/-- The recurrence `h ↦ a k * h + u k`, `n` steps from `h`. -/
def hS (a u : ℕ → EReal) (h : EReal) : ℕ → EReal
  | 0 => h
  | k + 1 => a k * hS a u h k + u k

/-- The row of a chunk that trip `k` takes in direction `c`. -/
def rowOf (c k : ℕ) : Fin 256 := ⟨(if c = 0 then k else 255 - k) % 256, Nat.mod_lt _ (by decide)⟩
/-- The trip that takes a row. -/
def tripAt (c : ℕ) (t : Fin 256) : ℕ := if c = 0 then t.val else 255 - t.val

theorem tripAt_lt (c : ℕ) (t : Fin 256) : tripAt c t < 256 := by unfold tripAt; split <;> omega
theorem rowOf_tripAt (c : ℕ) (t : Fin 256) : rowOf c (tripAt c t) = t := by
  apply Fin.ext; unfold rowOf tripAt; dsimp only; split <;> omega

/-- The row's place in a scratch. -/
theorem row_emb (i : grid1.Coords) (k : Fin k1_t1_loop.trips) (n : Fin 16) (e : Fin 256) :
    (rowRect i k).emb (ix3 0 n e : S1x16x256.Idx) = (ix3 (rowOf (i 0).val k.val) n e : S256x16x256.Idx) := by
  have hk : k.val < 256 := Nat.lt_of_lt_of_eq k.isLt trips_eq
  funext a
  apply Fin.ext
  show k1_off1 i k a + 1 * ((ix3 0 n e : S1x16x256.Idx) a).val = ((ix3 (rowOf (i 0).val k.val) n e : S256x16x256.Idx) a).val
  rw [off_eq]
  fin_cases a
  · show (if (i 0).val = 0 then k.val else 255 - k.val) + 1 * 0 = (if (i 0).val = 0 then k.val else 255 - k.val) % 256
    split <;> omega
  · show 0 + 1 * n.val = n.val; omega
  · show 0 + 1 * e.val = e.val; omega

/-- One step of the recurrence at an entry. -/
theorem pay47_at (h : FVec Ideal S16x256 .f32) (a u : FVec Ideal S1x16x256 .f32) (n : Fin 16) (e : Fin 256) :
    k1_pay47 (F := Ideal) h a u (ix2 n e) = a (ix3 0 n e) * h (ix2 n e) + u (ix3 0 n e) := by pointwise [k1_pay47]
theorem pay49_at (h : FVec Ideal S16x256 .f32) (a u : FVec Ideal S1x16x256 .f32) (n : Fin 16) (e : Fin 256) :
    k1_pay49 (F := Ideal) h a u (ix3 0 n e) = k1_pay47 (F := Ideal) h a u (ix2 n e) := by pointwise [k1_pay49]
theorem pay51_at (h : FVec Ideal S16x256 .f32) (n : Fin 16) (e : Fin 256) :
    k1_pay51 (F := Ideal) h (ix2 n e) = h (ix2 n e) := by pointwise [k1_pay51]

/-- The two states go by the same recurrence. -/
theorem hB_eq (i : grid1.Coords) (d u : Vec Ideal S256x16x256 .f32) (h : Vec Ideal S16x256 .f32) : ∀ k, hB i d u h k = hA i d u h k
  | 0 => rfl
  | k + 1 => by unfold hB hA; rw [hB_eq i d u h k]; rfl

/-- A state at an entry. -/
theorem hA_at (i : grid1.Coords) (d u : Vec Ideal S256x16x256 .f32) (h : Vec Ideal S16x256 .f32) (n : Fin 16) (e : Fin 256) :
    ∀ k, k ≤ k1_t1_loop.trips → hA i d u h k (ix2 n e)
      = hS (fun k => d (ix3 (rowOf (i 0).val k) n e)) (fun k => u (ix3 (rowOf (i 0).val k) n e)) (h (ix2 n e)) k
  | 0, _ => rfl
  | k + 1, hk => by
    rw [show hA i d u h (k + 1) = _ from dif_pos hk]
    refine (pay47_at _ _ _ n e).trans ?_
    rw [hA_at i d u h n e k (Nat.le_of_lt hk)]
    show d ((rowRect i ⟨k, hk⟩).emb (ix3 0 n e)) * _ + u ((rowRect i ⟨k, hk⟩).emb (ix3 0 n e)) = _
    rw [row_emb]; rfl

/-- A record's entry. -/
theorem rec_at (i : grid1.Coords) (d u : Vec Ideal S256x16x256 .f32) (h : Vec Ideal S16x256 .f32) (t : Fin 256) (n : Fin 16) (e : Fin 256) :
    View.canon (Val := Elt Ideal) (s := S256x16x256) (e := .f32) (rowsL i (rowA i d u h) k1_t1_loop.trips) (ix3 t n e)
      = hA i d u h (tripAt (i 0).val t + 1) (ix2 n e) := by
  have hk : tripAt (i 0).val t < k1_t1_loop.trips := Nat.lt_of_lt_of_eq (tripAt_lt _ _) trips_eq.symm
  have h1 := rowsL_emb i (rowA i d u h) ⟨_, hk⟩ (ix3 0 n e) k1_t1_loop.trips hk
  rw [row_emb, rowOf_tripAt] at h1
  refine h1.trans ((pay49_at _ _ _ n e).trans ?_)
  rw [show hA i d u h (tripAt (i 0).val t + 1) = _ from dif_pos hk]

/-- The second state's record is the first's of its own terms. -/
theorem rowB_eq (i : grid1.Coords) (d u : Vec Ideal S256x16x256 .f32) (h : Vec Ideal S16x256 .f32) : rowB i d u h = rowA i d u h := by
  funext k; unfold rowB rowA; rw [hB_eq]; rfl

namespace Blk
variable (b : Blk Ideal) (i : grid1.Coords) (h g : Vec Ideal S16x256 .f32)

/-- The state of branch `s`, ordering `j` after `k` steps of the chunk, from `h0`. -/
def HS (c : ℕ) (h0 : EReal) (s j : Fin 2) (n : Fin 16) (d : Fin 128) (k : ℕ) : EReal :=
  hS (fun k => b.DA s j (rowOf c k) n d) (fun k => b.DB s j (rowOf c k) n d) h0 k

/-- The first state's record. -/
theorem recA_at (t : Fin 256) (n : Fin 16) (j : Fin 2) (d : Fin 128) : b.recA i h (ix3 t n ⟨j.val * 128 + d.val, by omega⟩)
    = b.HS (i 0).val (inA i h (ix2 n ⟨j.val * 128 + d.val, by omega⟩)) 0 j n d (tripAt (i 0).val t + 1) := by
  have h1 := (rec_at i b.d15 b.d16 (inA i h) t n ⟨j.val * 128 + d.val, by omega⟩).trans
    (hA_at i b.d15 b.d16 (inA i h) n ⟨j.val * 128 + d.val, by omega⟩ _ (Nat.succ_le_of_lt (Nat.lt_of_lt_of_eq (tripAt_lt _ _) trips_eq.symm)))
  simp only [d15_at, d16_at] at h1
  exact h1
/-- The second state's record. -/
theorem recB_at (t : Fin 256) (n : Fin 16) (j : Fin 2) (d : Fin 128) : b.recB i g (ix3 t n ⟨j.val * 128 + d.val, by omega⟩)
    = b.HS (i 0).val (inB i g (ix2 n ⟨j.val * 128 + d.val, by omega⟩)) 1 j n d (tripAt (i 0).val t + 1) := by
  have h1 := (rec_at i b.d17 b.d18 (inB i g) t n ⟨j.val * 128 + d.val, by omega⟩).trans
    (hA_at i b.d17 b.d18 (inB i g) n ⟨j.val * 128 + d.val, by omega⟩ _ (Nat.succ_le_of_lt (Nat.lt_of_lt_of_eq (tripAt_lt _ _) trips_eq.symm)))
  simp only [d17_at, d18_at] at h1
  unfold recB; rw [rowB_eq]; exact h1
/-- What the chunk leaves of the first state. -/
theorem outA_at (n : Fin 16) (j : Fin 2) (d : Fin 128) : b.outA i h (ix2 n ⟨j.val * 128 + d.val, by omega⟩)
    = b.HS (i 0).val (inA i h (ix2 n ⟨j.val * 128 + d.val, by omega⟩)) 0 j n d 256 := by
  have h1 := (pay51_at (hA i b.d15 b.d16 (inA i h) k1_t1_loop.trips) n ⟨j.val * 128 + d.val, by omega⟩).trans
    (hA_at i b.d15 b.d16 (inA i h) n ⟨j.val * 128 + d.val, by omega⟩ _ (le_refl _))
  simp only [d15_at, d16_at] at h1
  refine h1.trans ?_
  rw [trips_eq]; rfl
/-- What the chunk leaves of the second state. -/
theorem outB_at (n : Fin 16) (j : Fin 2) (d : Fin 128) : b.outB i g (ix2 n ⟨j.val * 128 + d.val, by omega⟩)
    = b.HS (i 0).val (inB i g (ix2 n ⟨j.val * 128 + d.val, by omega⟩)) 1 j n d 256 := by
  have h1 := (pay51_at (hA i b.d17 b.d18 (inB i g) k1_t1_loop.trips) n ⟨j.val * 128 + d.val, by omega⟩).trans
    (hA_at i b.d17 b.d18 (inB i g) n ⟨j.val * 128 + d.val, by omega⟩ _ (le_refl _))
  simp only [d17_at, d18_at] at h1
  unfold outB; rw [hB_eq]
  refine h1.trans ?_
  rw [trips_eq]; rfl

/-- The states the chunk is entered with, at an entry. -/
def H0 (s j : Fin 2) (n : Fin 16) (d : Fin 128) : EReal :=
  if s = 0 then inA i h (ix2 n ⟨j.val * 128 + d.val, by omega⟩) else inB i g (ix2 n ⟨j.val * 128 + d.val, by omega⟩)

/-- A result's entry over the chunk. -/
def Y (s j : Fin 2) (t : Fin 256) (d : Fin 128) : EReal :=
  ∑ n : Fin 16, b.HS (i 0).val (H0 i h g s j n d) s j n d (tripAt (i 0).val t + 1) * b.PR j t ⟨20 + n.val, by omega⟩ + b.U s j t d * b.DD s j d

/-- The block of result 0. -/
theorem out13_at (s : Fin 2) (t : Fin 256) (d : Fin 128) : b.out13 i h g (ix4 s 0 t d) = Y b i h g s 0 t d := by
  unfold out13
  refine (halves_at _ _ s t d).trans ?_
  have ld : ∀ (X : Vec Ideal S256x16x256 .f32) (n : Fin 16), View.ld X (Rect.unit (s := S256x16x256) ![0, 0, 0] S256x16x128.size inb_S256x16x256_S256x16x128_0_0_0) (ix3 t n d) = X (ix3 t n ⟨(0 : Fin 2).val * 128 + d.val, by simp; omega⟩) := by
    intro X n; pointwise []; first | done | rfl | (congr 1)
  obtain rfl | rfl : s = 0 ∨ s = 1 := by omega
  · rw [if_pos rfl]
    refine (out_at b.v4 b.v91 _ b.v262 t d).trans ?_
    simp only [v4_at, v91_at, v262_at]
    unfold Y H0 DD
    have e : ∀ n : Fin 16, View.ld (b.recA i h) (Rect.unit (s := S256x16x256) ![0, 0, 0] S256x16x128.size inb_S256x16x256_S256x16x128_0_0_0) (ix3 t n d) = _ := fun n => (ld _ n).trans (recA_at b i h t n 0 d)
    simp only [e]
    rfl
  · rw [if_neg (by decide)]
    refine (out_at b.v6 b.v91 _ b.v270 t d).trans ?_
    simp only [v6_at, v91_at, v270_at]
    unfold Y H0 DD
    have e : ∀ n : Fin 16, View.ld (b.recB i g) (Rect.unit (s := S256x16x256) ![0, 0, 0] S256x16x128.size inb_S256x16x256_S256x16x128_0_0_0) (ix3 t n d) = _ := fun n => (ld _ n).trans (recB_at b i g t n 0 d)
    simp only [e]
    rfl
/-- The block of result 1. -/
theorem out14_at (s : Fin 2) (t : Fin 256) (d : Fin 128) : b.out14 i h g (ix4 s 0 t d) = Y b i h g s 1 t d := by
  unfold out14
  refine (halves_at _ _ s t d).trans ?_
  have ld : ∀ (X : Vec Ideal S256x16x256 .f32) (n : Fin 16), View.ld X (Rect.unit (s := S256x16x256) ![0, 0, 128] S256x16x128.size inb_S256x16x256_S256x16x128_0_0_128) (ix3 t n d) = X (ix3 t n ⟨(1 : Fin 2).val * 128 + d.val, by simp; omega⟩) := by
    intro X n; pointwise []; first | done | rfl | (congr 1)
  obtain rfl | rfl : s = 0 ∨ s = 1 := by omega
  · rw [if_pos rfl]
    refine (out_at b.v125 b.v212 _ b.v284 t d).trans ?_
    simp only [v125_at, v212_at, v284_at]
    unfold Y H0 DD
    have e : ∀ n : Fin 16, View.ld (b.recA i h) (Rect.unit (s := S256x16x256) ![0, 0, 128] S256x16x128.size inb_S256x16x256_S256x16x128_0_0_128) (ix3 t n d) = _ := fun n => (ld _ n).trans (recA_at b i h t n 1 d)
    simp only [e]
    rfl
  · rw [if_neg (by decide)]
    refine (out_at b.v127 b.v212 _ b.v292 t d).trans ?_
    simp only [v127_at, v212_at, v292_at]
    unfold Y H0 DD
    have e : ∀ n : Fin 16, View.ld (b.recB i g) (Rect.unit (s := S256x16x256) ![0, 0, 128] S256x16x128.size inb_S256x16x256_S256x16x128_0_0_128) (ix3 t n d) = _ := fun n => (ld _ n).trans (recB_at b i g t n 1 d)
    simp only [e]
    rfl

end Blk

end Cert.KernelIdeal.Scan
-- ==== Proof.ScanTarget.lean ====
module

public import proofs.«01_k».proof.Proof.ScanSpec

@[expose] public section

set_option maxRecDepth 16384

noncomputable section

namespace Cert.KernelIdeal.Scan

open Cert.KernelIdeal Cert.KernelIdeal.Gen
open Idealize.ShloMosaic Idealize.ShloMosaic.TcCoe

/-! ## The mathematics of the scan, over the extended reals -/

/-- The arrays: the two orderings' inputs, the projection, and per branch the step weights and biases, the logarithms
    of the decay rates and the skip weights. -/
structure Ar where
  xf : Fin 2 → Fin 4096 → Fin 128 → EReal
  xt : Fin 2 → Fin 4096 → Fin 128 → EReal
  w : Fin 4 → Fin 36 → Fin 128 → EReal
  tw0 : Fin 4 → Fin 128 → Fin 4 → EReal
  tw1 : Fin 4 → Fin 128 → Fin 4 → EReal
  tb0 : Fin 4 → Fin 128 → EReal
  tb1 : Fin 4 → Fin 128 → EReal
  al0 : Fin 512 → Fin 16 → EReal
  al1 : Fin 512 → Fin 16 → EReal
  dd0 : Fin 512 → EReal
  dd1 : Fin 512 → EReal

/-- The scan of direction `c` and ordering `j` among the four. -/
def kk (c j : Fin 2) : Fin 4 := ⟨2 * c.val + j.val, by omega⟩
/-- The array row of a place in the scan of direction `c`. -/
def row (c : ℕ) (l : ℕ) : Fin 4096 := ⟨(if c = 0 then l else 4095 - l) % 4096, Nat.mod_lt _ (by decide)⟩
/-- The place of an array row in the scan of direction `c`. -/
def place (c : ℕ) (p : Fin 4096) : ℕ := if c = 0 then p.val else 4095 - p.val

namespace Ar
variable (a : Ar)

/-- The input of branch `s` in ordering `j`. -/
def U (s j : Fin 2) (p : Fin 4096) (d : Fin 128) : EReal := if j = 0 then a.xf s p d else a.xt s p d
/-- The projected input of branch 0. -/
def PR (c j : Fin 2) (p : Fin 4096) (q : Fin 36) : EReal := ∑ d : Fin 128, a.U 0 j p d * a.w (kk c j) q d
/-- The step weights that branch `s` is scanned with. -/
def TW (s : Fin 2) (k : Fin 4) (d : Fin 128) (r : Fin 4) : EReal := if s = 0 then a.tw1 k d r else a.tw0 k d r
/-- The step bias. -/
def TB (s : Fin 2) (k : Fin 4) (d : Fin 128) : EReal := if s = 0 then a.tb1 k d else a.tb0 k d
/-- The logarithms of the decay rates. -/
def AL (s : Fin 2) (k : Fin 4) (n : Fin 16) (d : Fin 128) : EReal :=
  if s = 0 then a.al1 ⟨k.val * 128 + d.val, by omega⟩ n else a.al0 ⟨k.val * 128 + d.val, by omega⟩ n
/-- The skip weights. -/
def DD (s : Fin 2) (k : Fin 4) (d : Fin 128) : EReal :=
  if s = 0 then a.dd1 ⟨k.val * 128 + d.val, by omega⟩ else a.dd0 ⟨k.val * 128 + d.val, by omega⟩
/-- The step. -/
def ST (s c j : Fin 2) (p : Fin 4096) (d : Fin 128) : EReal :=
  sp (∑ r : Fin 4, a.PR c j p ⟨r.val, by omega⟩ * a.TW s (kk c j) d r + a.TB s (kk c j) d)
/-- The decay factor. -/
def DA (s c j : Fin 2) (p : Fin 4096) (n : Fin 16) (d : Fin 128) : EReal := Ideal.exp (a.ST s c j p d * (0 - Ideal.exp (a.AL s (kk c j) n d)))
/-- The input term. -/
def DB (s c j : Fin 2) (p : Fin 4096) (n : Fin 16) (d : Fin 128) : EReal := a.ST s c j p d * a.U s j p d * a.PR c j p ⟨4 + n.val, by omega⟩
/-- The state after `l` places. -/
def HH (s c j : Fin 2) (n : Fin 16) (d : Fin 128) (l : ℕ) : EReal :=
  hS (fun l => a.DA s c j (row c.val l) n d) (fun l => a.DB s c j (row c.val l) n d) 0 l
/-- The scan's result. -/
def Y (s c j : Fin 2) (p : Fin 4096) (d : Fin 128) : EReal :=
  ∑ n : Fin 16, a.HH s c j n d (place c.val p + 1) * a.PR c j p ⟨20 + n.val, by omega⟩ + a.U s j p d * a.DD s (kk c j) d

end Ar

/-- Equal terms, equal recurrences. -/
theorem hS_congr {a u a' u' : ℕ → EReal} (h : EReal) : ∀ n, (∀ k, k < n → a k = a' k ∧ u k = u' k) → hS a u h n = hS a' u' h n
  | 0, _ => rfl
  | n + 1, hk => by
    show a n * hS a u h n + u n = a' n * hS a' u' h n + u' n
    rw [hS_congr h n fun k hl => hk k (Nat.lt_succ_of_lt hl), (hk n (Nat.lt_succ_self n)).1, (hk n (Nat.lt_succ_self n)).2]

/-- The recurrence taken up after `p` steps. -/
theorem hS_add (a u : ℕ → EReal) (h : EReal) (p : ℕ) : ∀ n, hS (fun k => a (p + k)) (fun k => u (p + k)) (hS a u h p) n = hS a u h (p + n)
  | 0 => rfl
  | n + 1 => by
    show a (p + n) * hS _ _ _ n + u (p + n) = a (p + n) * hS a u h (p + n) + u (p + n)
    rw [hS_add a u h p n]

end Cert.KernelIdeal.Scan
-- ==== Proof.ScanRefVal.lean ====
module

public import proofs.«01_k».proof.Proof.ScanRefStep
public import proofs.«01_k».proof.Proof.ScanTarget

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo

open Cert.ReferenceIdeal.Value
open Cert.KernelIdeal.Scan (Ar kk row place hS sp)

/-! ## What each stretch leaves alone -/

/-- The buffers that stretch 10 of the reference writes. -/
abbrev hostOps0_10_W : List (Ref sig .tc) := [main_v138, main_v139, main_v140, main_v141, main_v142, main_v143, main_v144, main_v145, main_v146, main_v147]
theorem hostOps0_10_writes {F : FTy → Type} [FloatOps F] : (hostOps0_10 : List (HloOp τ sig (Elt F))).Forall fun op => op.writes ⊆ (hostOps0_10_W.map (Proc.devRef (τ := τ) .tc)).toFinset :=
  StableHlo.forall_writes_sub_of_map rfl
/-- The buffers that stretch 11 of the reference writes. -/
abbrev hostOps0_11_W : List (Ref sig .tc) := [main_v148]
theorem hostOps0_11_writes {F : FTy → Type} [FloatOps F] : (hostOps0_11 : List (HloOp τ sig (Elt F))).Forall fun op => op.writes ⊆ (hostOps0_11_W.map (Proc.devRef (τ := τ) .tc)).toFinset :=
  StableHlo.forall_writes_sub_of_map rfl
/-- The buffers that stretch 12 of the reference writes. -/
abbrev hostOps0_12_W : List (Ref sig .tc) := [main_v149, main_v150, main_v151, main_v152, main_v153, main_v154, main_v155]
theorem hostOps0_12_writes {F : FTy → Type} [FloatOps F] : (hostOps0_12 : List (HloOp τ sig (Elt F))).Forall fun op => op.writes ⊆ (hostOps0_12_W.map (Proc.devRef (τ := τ) .tc)).toFinset :=
  StableHlo.forall_writes_sub_of_map rfl
/-- The buffers that stretch 13 of the reference writes. -/
abbrev hostOps0_13_W : List (Ref sig .tc) := [main_v156]
theorem hostOps0_13_writes {F : FTy → Type} [FloatOps F] : (hostOps0_13 : List (HloOp τ sig (Elt F))).Forall fun op => op.writes ⊆ (hostOps0_13_W.map (Proc.devRef (τ := τ) .tc)).toFinset :=
  StableHlo.forall_writes_sub_of_map rfl
/-- The buffers that stretch 14 of the reference writes. -/
abbrev hostOps0_14_W : List (Ref sig .tc) := [main_v157, main_v158, main_v159, main_v160, main_v161, main_v162, main_v163, main_v164, main_v165, main_v166, main_v167, main_v168, main_v169, main_v170, main_v171, main_v172, main_v173, main_cst_2, main_v174, main_v175, main_cst_3, main_v176, main_v177, main_v178, main_v179, main_v180, main_cst_4, main_v181, main_v182, main_cst_5, main_v183, main_v184, main_v185, main_v186, main_v187, main_v188, main_v189, main_v190, main_v191, main_v192, main_v193, main_v194, main_cst_6, main_v195, main_v196, main_v197, main_v198, main_v199, main_v200, main_v201, main_v202, main_v203]
theorem hostOps0_14_writes {F : FTy → Type} [FloatOps F] : (hostOps0_14 : List (HloOp τ sig (Elt F))).Forall fun op => op.writes ⊆ (hostOps0_14_W.map (Proc.devRef (τ := τ) .tc)).toFinset :=
  StableHlo.forall_writes_sub_of_map rfl
/-- The buffers that stretch 15 of the reference writes. -/
abbrev hostOps0_15_W : List (Ref sig .tc) := [main_call10_v0, main_call10_v1, main_call10_cst, main_call10_v2, main_call10_v3, main_call10_cst_0, main_call10_v4, main_call10_v5, main_v204]
theorem hostOps0_15_writes {F : FTy → Type} [FloatOps F] : (hostOps0_15 : List (HloOp τ sig (Elt F))).Forall fun op => op.writes ⊆ (hostOps0_15_W.map (Proc.devRef (τ := τ) .tc)).toFinset :=
  StableHlo.forall_writes_sub_of_map rfl
/-- The buffers that stretch 16 of the reference writes. -/
abbrev hostOps0_16_W : List (Ref sig .tc) := [main_v205, main_v206, main_v207, main_v208, main_v209, main_v210, main_v211, main_v212, main_v213, main_v214]
theorem hostOps0_16_writes {F : FTy → Type} [FloatOps F] : (hostOps0_16 : List (HloOp τ sig (Elt F))).Forall fun op => op.writes ⊆ (hostOps0_16_W.map (Proc.devRef (τ := τ) .tc)).toFinset :=
  StableHlo.forall_writes_sub_of_map rfl

/-- What the stretches before the loop write. -/
abbrev preW : List (Ref sig .tc) := hostOps0_W ++ (hostOps0_1_W ++ (hostOps0_2_W ++ (hostOps0_3_W ++ (hostOps0_4_W ++ (hostOps0_5_W ++ (hostOps0_6_W ++ (hostOps0_7_W ++ (hostOps0_8_W ++ (hostOps0_9_W)))))))))
/-- What the loop writes. -/
abbrev loopW : List (Ref sig .tc) := condOps_W ++ (while0Ops0_W ++ (while0Ops0_1_W ++ (while0Ops0_2_W ++ (while0Ops0_3_W ++ (while0Ops0_4_W)))))
/-- What the stretches after the loop write. -/
abbrev postW : List (Ref sig .tc) := hostOps0_10_W ++ (hostOps0_11_W ++ (hostOps0_12_W ++ (hostOps0_13_W ++ (hostOps0_14_W ++ (hostOps0_15_W ++ (hostOps0_16_W))))))

section Keep
variable {F : FTy → Type} [FloatOps F] (V : Valuation τ sig (Elt F)) (r : Ref sig .tc)

theorem pre_keeps (h : r ∉ preW) : afterL preI V (Proc.devRef .tc r) = V (Proc.devRef .tc r) := by
  simp only [preW, List.mem_append, not_or] at h
  obtain ⟨h0, h1, h2, h3, h4, h5, h6, h7, h8, h9⟩ := h
  simp only [afterL_cons, afterL_nil]
  rw [after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

theorem post_keeps (h : r ∉ postW) : afterL postI V (Proc.devRef .tc r) = V (Proc.devRef .tc r) := by
  simp only [postW, List.mem_append, not_or] at h
  obtain ⟨h0, h1, h2, h3, h4, h5, h6⟩ := h
  simp only [afterL_cons, afterL_nil]
  rw [after_of_writes_sub hostOps0_16 _ hostOps0_16_writes h6, after_of_writes_sub hostOps0_15 _ hostOps0_15_writes h5, after_of_writes_sub hostOps0_14 _ hostOps0_14_writes h4, after_of_writes_sub hostOps0_13 _ hostOps0_13_writes h3, after_of_writes_sub hostOps0_12 _ hostOps0_12_writes h2, after_of_writes_sub hostOps0_11 _ hostOps0_11_writes h1, after_of_writes_sub hostOps0_10 _ hostOps0_10_writes h0]

theorem trip_keeps (h : r ∉ loopW) : afterL bodyI (after condOps V) (Proc.devRef .tc r) = V (Proc.devRef .tc r) := by
  simp only [loopW, List.mem_append, not_or] at h
  obtain ⟨hc, h0, h1, h2, h3, h4⟩ := h
  simp only [afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, after_of_writes_sub condOps _ condOps_writes hc]

theorem cond_keeps' (h : r ∉ loopW) : after condOps V (Proc.devRef .tc r) = V (Proc.devRef .tc r) :=
  after_of_writes_sub condOps V condOps_writes fun hr => h (List.mem_append_left _ hr)

variable (m : (ℓ : Loc nD τ sig) → Buf (Elt F) ℓ) (c : Dev nD)

theorem loop_keeps (h : r ∉ loopW) : ∀ t, atK m t c (Proc.devRef .tc r) = entryContents preI m c (Proc.devRef .tc r)
  | 0 => rfl
  | t + 1 => (trip_keeps (atK m t c) r h).trans (loop_keeps h t)

/-- A buffer that nothing writes ends as it was. -/
theorem final_keeps (h0 : r ∉ preW) (h1 : r ∉ loopW) (h2 : r ∉ postW) :
    finalContents condOps preI bodyI postI 4096 m c (Proc.devRef .tc r) = m ((c : Thread nD τ).loc r) := by
  show afterL postI (after condOps (atK m 4096 c)) (Proc.devRef .tc r) = _
  rw [post_keeps _ r h2, cond_keeps' _ r h1, loop_keeps r m c h1]
  exact pre_keeps (launchContents m c) r h0
end Keep

/-! ## The arrays, and the places of an ordering -/

variable (V : Valuation τ sig (Elt Ideal))

/-- The arrays as the reference's buffers hold them. -/
def ar : Ar where
  xf s p d := ent S2x4096x128 (V (Proc.devRef .tc main_v81)) (ix3 s p d)
  xt s p d := ent S2x4096x128 (V (Proc.devRef .tc main_v83)) (ix3 s p d)
  w k q d := ent S4x36x128 (V (Proc.devRef .tc main_arg8)) (ix3 k q d)
  tw0 k d r := ent S4x128x4 (V (Proc.devRef .tc main_arg10)) (ix3 k d r)
  tw1 k d r := ent S4x128x4 (V (Proc.devRef .tc main_arg11)) (ix3 k d r)
  tb0 k d := ent S4x128 (V (Proc.devRef .tc main_arg12)) (ix2 k d)
  tb1 k d := ent S4x128 (V (Proc.devRef .tc main_arg13)) (ix2 k d)
  al0 e n := ent S512x16 (V (Proc.devRef .tc main_arg14)) (ix2 e n)
  al1 e n := ent S512x16 (V (Proc.devRef .tc main_arg15)) (ix2 e n)
  dd0 e := ent S512 (V (Proc.devRef .tc main_arg16)) (ix1 e)
  dd1 e := ent S512 (V (Proc.devRef .tc main_arg17)) (ix1 e)

/-- The direction of a scan among the four. -/
def cOf (k : Fin 4) : Fin 2 := ⟨k.val / 2, by omega⟩
/-- The ordering of a scan among the four. -/
def jOf (k : Fin 4) : Fin 2 := ⟨k.val % 2, by omega⟩
theorem kk_of (k : Fin 4) : kk (cOf k) (jOf k) = k := by revert k; decide
theorem row_zero (l : Fin 4096) : row 0 l.val = l := by
  unfold row
  refine Fin.ext ?_
  show (if (0 : ℕ) = 0 then l.val else _) % 4096 = _
  rw [if_pos rfl]
  omega
theorem row_one (l : Fin 4096) : row 1 l.val = l.rev := by
  unfold row
  refine Fin.ext ?_
  show (if (1 : ℕ) = 0 then l.val else _) % 4096 = 4096 - (l.val + 1)
  rw [if_neg (by decide)]
  omega

/-! ## The stretches before the loop -/

/-- The buffers after the projections. -/
def X3 : Valuation τ sig (Elt Ideal) := after hostOps0_7 (after hostOps0_6 (after hostOps0_5 V))
/-- The buffers after the steps. -/
def X4 : Valuation τ sig (Elt Ideal) := after hostOps0_8 (X3 V)
/-- The buffers at the loop's entry. -/
def X5 : Valuation τ sig (Elt Ideal) := after hostOps0_9 (X4 V)

theorem arg_keeps (r : Ref sig .tc) (h0 : r ∉ hostOps0_5_W) (h1 : r ∉ hostOps0_6_W) :
    after hostOps0_6 (after hostOps0_5 V) (Proc.devRef .tc r) = V (Proc.devRef .tc r) := by
  rw [after_of_writes_sub hostOps0_6 _ hostOps0_6_writes h1, after_of_writes_sub hostOps0_5 _ hostOps0_5_writes h0]

/-- The four orderings' inputs. -/
theorem X3_u (s : Fin 2) (k : Fin 4) (l : Fin 4096) (d : Fin 128) :
    ent S2x4x4096x128 (X3 V (Proc.devRef .tc main_v91)) (ix4 s k l d) = (ar V).U s (jOf k) (row (cOf k).val l.val) d := by
  unfold X3
  rw [v91_at, arg_keeps V main_v81 (by decide +kernel) (by decide +kernel), arg_keeps V main_v83 (by decide +kernel) (by decide +kernel), v86_at,
    after_of_writes_sub hostOps0_6 _ hostOps0_6_writes (show main_v85 ∉ hostOps0_6_W by decide +kernel), v85_at,
    after_of_writes_sub hostOps0_5 _ hostOps0_5_writes (show main_v83 ∉ hostOps0_5_W by decide +kernel)]
  unfold Ar.U ar
  obtain ⟨k, hk⟩ := k
  interval_cases k
  · rw [show (cOf ⟨0, hk⟩).val = 0 by simp [cOf], row_zero]; simp [jOf]
  · rw [show (cOf ⟨1, hk⟩).val = 0 by simp [cOf], row_zero]; simp [jOf]
  · rw [show (cOf ⟨2, hk⟩).val = 1 by simp [cOf], row_one]; simp [jOf]
  · rw [show (cOf ⟨3, hk⟩).val = 1 by simp [cOf], row_one]; simp [jOf]

/-- The projections. -/
theorem X3_pr (k : Fin 4) (l : Fin 4096) (q : Fin 36) :
    ent S4x4096x36 (X3 V (Proc.devRef .tc main_v94)) (ix3 k l q) = (ar V).PR (cOf k) (jOf k) (row (cOf k).val l.val) q := by
  unfold Ar.PR
  refine (v94_at _ k l q).trans (Finset.sum_congr rfl fun d _ => ?_)
  have e := X3_u V 0 k l d
  unfold X3 at e
  rw [e, arg_keeps V main_arg8 (by decide +kernel) (by decide +kernel), kk_of]
  rfl

theorem X3_b (k : Fin 4) (l : Fin 4096) (n : Fin 16) :
    ent S4x4096x16 (X3 V (Proc.devRef .tc main_v96)) (ix3 k l n) = (ar V).PR (cOf k) (jOf k) (row (cOf k).val l.val) ⟨4 + n.val, by omega⟩ :=
  (v96_at _ k l n).trans (X3_pr V k l _)
theorem X3_c (k : Fin 4) (l : Fin 4096) (n : Fin 16) :
    ent S4x4096x16 (X3 V (Proc.devRef .tc main_v97)) (ix3 k l n) = (ar V).PR (cOf k) (jOf k) (row (cOf k).val l.val) ⟨20 + n.val, by omega⟩ :=
  (v97_at _ k l n).trans (X3_pr V k l _)

/-- The decay rates. -/
theorem X3_a (s : Fin 2) (k : Fin 4) (d : Fin 128) (n : Fin 16) :
    ent S2x4x128x16 (X3 V (Proc.devRef .tc main_v108)) (ix4 s k d n) = 0 - Ideal.exp ((ar V).AL s (kk (cOf k) (jOf k)) n d) := by
  unfold X3
  rw [v108_at, arg_keeps V main_arg14 (by decide +kernel) (by decide +kernel), arg_keeps V main_arg15 (by decide +kernel) (by decide +kernel), kk_of, zero_sub]
  unfold Ar.AL ar
  obtain ⟨s, hs⟩ := s
  interval_cases s <;> rfl

/-- The skip weights. -/
theorem X3_d (s : Fin 2) (k : Fin 4) (d : Fin 128) :
    ent S2x4x128 (X3 V (Proc.devRef .tc main_v112)) (ix3 s k d) = (ar V).DD s (kk (cOf k) (jOf k)) d := by
  unfold X3
  rw [v112_at, arg_keeps V main_arg16 (by decide +kernel) (by decide +kernel), arg_keeps V main_arg17 (by decide +kernel) (by decide +kernel), kk_of]
  unfold Ar.DD ar
  obtain ⟨s, hs⟩ := s
  interval_cases s <;> rfl

/-- The steps before the softplus. -/
theorem X3_s (s : Fin 2) (k : Fin 4) (l : Fin 4096) (d : Fin 128) :
    ent S2x4x4096x128 (X3 V (Proc.devRef .tc main_v118)) (ix4 s k l d)
      = ∑ r : Fin 4, (ar V).PR (cOf k) (jOf k) (row (cOf k).val l.val) ⟨r.val, by omega⟩ * (ar V).TW s (kk (cOf k) (jOf k)) d r
        + (ar V).TB s (kk (cOf k) (jOf k)) d := by
  have e : ∀ q, ent S4x4096x36 (after hostOps0_7 (after hostOps0_6 (after hostOps0_5 V)) (Proc.devRef .tc main_v94)) (ix3 k l q) = _ := X3_pr V k l
  unfold X3
  rw [v118_at, arg_keeps V main_arg10 (by decide +kernel) (by decide +kernel), arg_keeps V main_arg11 (by decide +kernel) (by decide +kernel),
    arg_keeps V main_arg12 (by decide +kernel) (by decide +kernel), arg_keeps V main_arg13 (by decide +kernel) (by decide +kernel), kk_of]
  simp only [e]
  refine congrArg₂ (· + ·) (Finset.sum_congr rfl fun r _ => ?_) ?_
  · rw [mul_comm]
    unfold Ar.TW
    obtain ⟨s, hs⟩ := s
    interval_cases s <;> rfl
  · unfold Ar.TB
    obtain ⟨s, hs⟩ := s
    interval_cases s <;> rfl

theorem log1p_eq (x : EReal) : Ideal.log1p x = Ideal.log (1 + x) := rfl

/-- The steps. -/
theorem X4_st (s : Fin 2) (k : Fin 4) (l : Fin 4096) (d : Fin 128) :
    ent S2x4x4096x128 (X4 V (Proc.devRef .tc main_v119)) (ix4 s k l d) = (ar V).ST s (cOf k) (jOf k) (row (cOf k).val l.val) d := by
  unfold X4
  rw [v119_at, X3_s, log1p_eq]
  unfold Ar.ST sp
  rw [zero_sub]

theorem X4_keeps (r : Ref sig .tc) (h : r ∉ hostOps0_8_W) : X4 V (Proc.devRef .tc r) = X3 V (Proc.devRef .tc r) :=
  after_of_writes_sub hostOps0_8 _ hostOps0_8_writes h
theorem X5_keeps (r : Ref sig .tc) (h : r ∉ hostOps0_8_W) (h' : r ∉ hostOps0_9_W) : X5 V (Proc.devRef .tc r) = X3 V (Proc.devRef .tc r) :=
  (after_of_writes_sub hostOps0_9 _ hostOps0_9_writes h').trans (X4_keeps V r h)

/-- The decay factors. -/
theorem X5_da (l : Fin 4096) (s : Fin 2) (k : Fin 4) (d : Fin 128) (n : Fin 16) :
    ent S4096x2x4x128x16 (X5 V (Proc.devRef .tc main_v137_0)) (ix5 l s k d n) = (ar V).DA s (cOf k) (jOf k) (row (cOf k).val l.val) n d := by
  unfold X5
  rw [c0_at, X4_st, X4_keeps V main_v108 (by decide +kernel), X3_a]
  rfl
/-- The input terms. -/
theorem X5_db (l : Fin 4096) (s : Fin 2) (k : Fin 4) (d : Fin 128) (n : Fin 16) :
    ent S4096x2x4x128x16 (X5 V (Proc.devRef .tc main_v137_1)) (ix5 l s k d n) = (ar V).DB s (cOf k) (jOf k) (row (cOf k).val l.val) n d := by
  unfold X5
  rw [c1_at, X4_st, X4_keeps V main_v91 (by decide +kernel), X3_u, X4_keeps V main_v96 (by decide +kernel), X3_b]
  rfl

/-! ## The loop -/

/-- The stacked states after the loop. -/
theorem loop_h (W : Valuation τ sig (Elt Ideal)) (hW : Agree W (STEP^[4096] (X5 V))) (hctr : X5 V (Proc.devRef .tc main_v137_2) = fun _ => BitVec.ofNat 32 0)
    (l : Fin 4096) (s : Fin 2) (k : Fin 4) (d : Fin 128) (n : Fin 16) :
    ent S4096x2x4x128x16 (W (Proc.devRef .tc main_v137_4)) (ix5 l s k d n) = (ar V).HH s (cOf k) (jOf k) n d (l.val + 1) := by
  rw [hW main_v137_4 (by decide)]
  exact (iter_at (X5 V) (fun l s k d n => (ar V).DA s (cOf k) (jOf k) (row (cOf k).val l.val) n d)
    (fun l s k d n => (ar V).DB s (cOf k) (jOf k) (row (cOf k).val l.val) n d)
    (X5_da V) (X5_db V) hctr (fun s k d n => c3_at (X4 V) s k d n) (fun s k d n t => (ar V).HH s (cOf k) (jOf k) n d t)
    (fun _ _ _ _ => rfl) (fun _ _ _ _ _ _ => rfl) 4096 le_rfl).2.2.2.2 l s k d n l.isLt

/-! ## The stretches after the loop -/

/-- The scan's result at place `l` of scan `k`. -/
theorem after_y (W : Valuation τ sig (Elt Ideal)) (h6 : W (Proc.devRef .tc main_v91) = X3 V (Proc.devRef .tc main_v91)) (h12 : W (Proc.devRef .tc main_v97) = X3 V (Proc.devRef .tc main_v97)) (h27 : W (Proc.devRef .tc main_v112) = X3 V (Proc.devRef .tc main_v112))
    (h4 : ∀ l s k d n, ent S4096x2x4x128x16 (W (Proc.devRef .tc main_v137_4)) (ix5 l s k d n) = (ar V).HH s (cOf k) (jOf k) n d (l.val + 1))
    (s : Fin 2) (k : Fin 4) (l : Fin 4096) (d : Fin 128) :
    ent S2x4x4096x128 (after hostOps0_10 W (Proc.devRef .tc main_v143)) (ix4 s k l d)
      = ∑ n : Fin 16, (ar V).HH s (cOf k) (jOf k) n d (l.val + 1) * (ar V).PR (cOf k) (jOf k) (row (cOf k).val l.val) ⟨20 + n.val, by omega⟩
        + (ar V).U s (jOf k) (row (cOf k).val l.val) d * (ar V).DD s (kk (cOf k) (jOf k)) d := by
  rw [v143_at, h6, h12, h27, X3_u, X3_d]
  refine congrArg (· + _) (Finset.sum_congr rfl fun n _ => ?_)
  exact (congrArg₂ (· * ·) (X3_c V k l n) (h4 l s k d n)).trans (mul_comm _ _)

/-- The same at an array row. -/
theorem y_row (a : Ar) (s : Fin 2) (k : Fin 4) (c : Fin 2) (j : Fin 2) (hc : cOf k = c) (hj : jOf k = j) (l p : Fin 4096) (hp : row c.val l.val = p) (hl : l.val = place c.val p) (d : Fin 128) :
    ∑ n : Fin 16, a.HH s (cOf k) (jOf k) n d (l.val + 1) * a.PR (cOf k) (jOf k) (row (cOf k).val l.val) ⟨20 + n.val, by omega⟩
        + a.U s (jOf k) (row (cOf k).val l.val) d * a.DD s (kk (cOf k) (jOf k)) d = a.Y s c j p d := by
  subst hc hj
  unfold Ar.Y
  rw [hp, hl]

section Final
variable (m : (ℓ : Loc nD τ sig) → Buf (Elt Ideal) ℓ) (c : Dev nD)

/-- The buffers as the flips begin. -/
def start : Valuation τ sig (Elt Ideal) :=
  after hostOps0_4 (after hostOps0_3 (after hostOps0_2 (after hostOps0_1 (after hostOps0 (launchContents m c)))))

/-- The buffers after the loop. -/
def W0 : Valuation τ sig (Elt Ideal) := after condOps (atK m 4096 c)

theorem W0_keeps (r : Ref sig .tc) (h : r ∉ loopW) (h' : r ∉ hostOps0_8_W) (h'' : r ∉ hostOps0_9_W) :
    W0 m c (Proc.devRef .tc r) = X3 (start m c) (Proc.devRef .tc r) :=
  (cond_keeps' _ r h).trans ((loop_keeps r m c h 4096).trans (X5_keeps (start m c) r h' h''))

theorem W0_h (l : Fin 4096) (s : Fin 2) (k : Fin 4) (d : Fin 128) (n : Fin 16) :
    ent S4096x2x4x128x16 (W0 m c (Proc.devRef .tc main_v137_4)) (ix5 l s k d n) = (ar (start m c)).HH s (cOf k) (jOf k) n d (l.val + 1) :=
  loop_h (start m c) (W0 m c) (fun r hr => (cond_keeps (atK m 4096 c) r hr).trans (atK_agree m c 4096 r hr)) (ctr_entry m c) l s k d n

theorem W1_y (s : Fin 2) (k : Fin 4) (l : Fin 4096) (d : Fin 128) :
    ent S2x4x4096x128 (after hostOps0_10 (W0 m c) (Proc.devRef .tc main_v143)) (ix4 s k l d)
      = ∑ n : Fin 16, (ar (start m c)).HH s (cOf k) (jOf k) n d (l.val + 1) * (ar (start m c)).PR (cOf k) (jOf k) (row (cOf k).val l.val) ⟨20 + n.val, by omega⟩
        + (ar (start m c)).U s (jOf k) (row (cOf k).val l.val) d * (ar (start m c)).DD s (kk (cOf k) (jOf k)) d := after_y (start m c) (W0 m c)
  (W0_keeps m c main_v91 (by decide +kernel) (by decide +kernel) (by decide +kernel)) (W0_keeps m c main_v97 (by decide +kernel) (by decide +kernel) (by decide +kernel))
  (W0_keeps m c main_v112 (by decide +kernel) (by decide +kernel) (by decide +kernel)) (W0_h m c) s k l d

theorem rev_place (p : Fin 4096) : p.rev.val = place 1 p := by
  show 4096 - (p.val + 1) = 4095 - p.val
  omega
theorem row_rev (p : Fin 4096) : row 1 p.rev.val = p := by
  rw [row_one]; exact Fin.rev_rev p

/-- The buffers as the two orderings' results are stacked. -/
def mid : Valuation τ sig (Elt Ideal) := after hostOps0_13 (after hostOps0_12 (after hostOps0_11 (after hostOps0_10 (W0 m c))))

/-- The scans of the first ordering. -/
theorem mid151 (s e : Fin 2) (p : Fin 4096) (d : Fin 128) :
    ent S2x2x4096x128 (mid m c (Proc.devRef .tc main_v151)) (ix4 s e p d) = (ar (start m c)).Y s e 0 p d := by
  unfold mid
  rw [after_of_writes_sub hostOps0_13 _ hostOps0_13_writes (by decide +kernel), v151_at,
    v148_at, after_of_writes_sub hostOps0_11 _ hostOps0_11_writes (show main_v145 ∉ hostOps0_11_W by decide +kernel), v145_at, v147_at, W1_y, W1_y]
  obtain ⟨e, he⟩ := e
  interval_cases e
  · rw [if_pos (show (0 : ℕ) < 1 by decide)]
    exact y_row _ s 0 0 0 rfl rfl p p (row_zero p) rfl d
  · rw [if_neg (show ¬(1 : ℕ) < 1 by decide)]
    exact y_row _ s 2 1 0 rfl rfl p.rev p (row_rev p) (rev_place p) d
/-- The forward scan of the second. -/
theorem mid153 (s : Fin 2) (p : Fin 4096) (d : Fin 128) :
    ent S2x4096x128 (mid m c (Proc.devRef .tc main_v153)) (ix3 s p d) = (ar (start m c)).Y s 0 1 p d := by
  unfold mid
  rw [after_of_writes_sub hostOps0_13 _ hostOps0_13_writes (by decide +kernel), v153_at,
    after_of_writes_sub hostOps0_11 _ hostOps0_11_writes (show main_v143 ∉ hostOps0_11_W by decide +kernel), W1_y]
  exact y_row _ s 1 0 1 rfl rfl p p (row_zero p) rfl d
/-- The backward scan of the second. -/
theorem mid156 (s : Fin 2) (p : Fin 4096) (d : Fin 128) :
    ent S2x4096x128 (mid m c (Proc.devRef .tc main_v156)) (ix3 s p d) = (ar (start m c)).Y s 1 1 p d := by
  unfold mid
  rw [v156_at, v155_at, after_of_writes_sub hostOps0_11 _ hostOps0_11_writes (show main_v143 ∉ hostOps0_11_W by decide +kernel), W1_y]
  exact y_row _ s 3 1 1 rfl rfl p.rev p (row_rev p) (rev_place p) d
/-- What neither the scan nor what it is stacked by writes is as the flips began. -/
theorem mid_keeps (r : Ref sig .tc) (h : r ∉ hostOps0_5_W ++ (hostOps0_6_W ++ (hostOps0_7_W ++ (hostOps0_8_W ++ hostOps0_9_W)))) (hl : r ∉ loopW)
    (h' : r ∉ hostOps0_10_W ++ (hostOps0_11_W ++ (hostOps0_12_W ++ hostOps0_13_W))) :
    mid m c (Proc.devRef .tc r) = start m c (Proc.devRef .tc r) := by
  simp only [List.mem_append, not_or] at h h'
  obtain ⟨h5, h6, h7, h8, h9⟩ := h
  obtain ⟨h10, h11, h12, h13⟩ := h'
  unfold mid W0
  rw [after_of_writes_sub hostOps0_13 _ hostOps0_13_writes h13, after_of_writes_sub hostOps0_12 _ hostOps0_12_writes h12,
    after_of_writes_sub hostOps0_11 _ hostOps0_11_writes h11, after_of_writes_sub hostOps0_10 _ hostOps0_10_writes h10, cond_keeps' _ r hl, loop_keeps r m c hl]
  refine (X5_keeps (start m c) r h8 h9).trans ?_
  unfold X3
  rw [after_of_writes_sub hostOps0_7 _ hostOps0_7_writes h7, arg_keeps (start m c) r h5 h6]

end Final

end Cert.ReferenceIdeal.Scan

end
-- ==== Proof.RefNorm.lean ====
/- The last third of the plain mathematics, from the scans to the result, read at an index. -/
module

public import proofs.«01_k».proof.Proof.NormValue
public import proofs.«01_k».proof.Proof.ScanRefVal

@[expose] public section

set_option maxRecDepth 16384

noncomputable section

namespace Cert.ReferenceIdeal.Norm

open Cert.ReferenceIdeal Cert.ReferenceIdeal.Gen Cert.ReferenceIdeal.Value
open Idealize.ShloMosaic Idealize.ShloMosaic.TcCoe Idealize.ShloMosaic.StableHlo
open Cert.KernelIdeal.Norm (Ar turn entry mean vari gate width small)
open Cert.ReferenceIdeal.Scan (ent hostOps0_14_W hostOps0_14_writes hostOps0_15_W hostOps0_15_writes)

/-! ## The stretches' terms -/

/-- The array by columns, read back by rows. -/
def turned (yt : FVec Ideal S2x2x4096x128 .f32) : FVec Ideal S2x2x4096x128 .f32 :=
  shapeCast _ (transpose S2x2x64x64x128 [0, 1, 3, 2, 4] (shapeCast _ yt shapeCasts_S2x2x4096x128_S2x2x64x64x128) transposes_S2x2x64x64x128_S2x2x64x64x128_0_1_3_2_4) shapeCasts_S2x2x64x64x128_S2x2x4096x128
/-- The four directions' sums, given both arrays by rows. -/
def rows (yf t : FVec Ideal S2x2x4096x128 .f32) : FVec Ideal S2x4096x128 .f32 :=
  addf (addf (addf (shapeCast _ (extractStridedSlice S2x1x4096x128 ![0, 0, 0, 0] yf slices_S2x2x4096x128_S2x1x4096x128_0_0_0_0) shapeCasts_S2x1x4096x128_S2x4096x128) (shapeCast _ (extractStridedSlice S2x1x4096x128 ![0, 1, 0, 0] yf slices_S2x2x4096x128_S2x1x4096x128_0_1_0_0) shapeCasts_S2x1x4096x128_S2x4096x128)) (shapeCast _ (extractStridedSlice S2x1x4096x128 ![0, 0, 0, 0] t slices_S2x2x4096x128_S2x1x4096x128_0_0_0_0) shapeCasts_S2x1x4096x128_S2x4096x128)) (shapeCast _ (extractStridedSlice S2x1x4096x128 ![0, 1, 0, 0] t slices_S2x2x4096x128_S2x1x4096x128_0_1_0_0) shapeCasts_S2x1x4096x128_S2x4096x128)
/-- The means over the channels. -/
def means (x : FVec Ideal S2x4096x128 .f32) : FVec Ideal S2x4096x1 .f32 :=
  Host.divf (broadcastInDim S2x4096x1 ![0, 1] bcast_S2x4096_S2x4096x1_0_1 (Host.reduceAdd x (constant S_ .f32 0x00000000#32) reducesTo_S2x4096x128_S2x4096_d2 h_S_)) (broadcastInDim S2x4096x1 ![] bcast_S_S2x4096x1 (constant S_ .f32 0x43000000#32))
/-- The variances, given the means. -/
def varis (x : FVec Ideal S2x4096x128 .f32) (u : FVec Ideal S2x4096x1 .f32) : FVec Ideal S2x4096x1 .f32 :=
  Host.divf (broadcastInDim S2x4096x1 ![0, 1] bcast_S2x4096_S2x4096x1_0_1 (Host.reduceAdd (mulf (subf x (broadcastInDim S2x4096x128 ![0, 1, 2] bcast_S2x4096x1_S2x4096x128_0_1_2 u)) (subf x (broadcastInDim S2x4096x128 ![0, 1, 2] bcast_S2x4096x1_S2x4096x128_0_1_2 u))) (constant S_ .f32 0x00000000#32) reducesTo_S2x4096x128_S2x4096_d2 h_S_)) (broadcastInDim S2x4096x1 ![] bcast_S_S2x4096x1 (constant S_ .f32 0x43000000#32))
/-- The normed rows, given the means and the variances. -/
def normed (g0 b0 g1 b1 : FVec Ideal S128 .f32) (x : FVec Ideal S2x4096x128 .f32) (u v : FVec Ideal S2x4096x1 .f32) : FVec Ideal S2x4096x128 .f32 :=
  addf (mulf (Host.divf (subf x (broadcastInDim S2x4096x128 ![0, 1, 2] bcast_S2x4096x1_S2x4096x128_0_1_2 u)) (broadcastInDim S2x4096x128 ![0, 1, 2] bcast_S2x4096x1_S2x4096x128_0_1_2 (Host.sqrt (addf v (broadcastInDim S2x4096x1 ![] bcast_S_S2x4096x1 (constant S_ .f32 0x3727C5AC#32)))))) (broadcastInDim S2x4096x128 ![0, 1, 2] bcast_S2x1x128_S2x4096x128_0_1_2 (broadcastInDim S2x1x128 ![0, 2] bcast_S2x128_S2x1x128_0_2 (concatenate S2x128 0 [⟨S1x128, (broadcastInDim S1x128 ![1] bcast_S128_S1x128_1 g0)⟩, ⟨S1x128, (broadcastInDim S1x128 ![1] bcast_S128_S1x128_1 g1)⟩] concatenates_S1x128_S1x128_S2x128_d0)))) (broadcastInDim S2x4096x128 ![0, 1, 2] bcast_S2x1x128_S2x4096x128_0_1_2 (broadcastInDim S2x1x128 ![0, 2] bcast_S2x128_S2x1x128_0_2 (concatenate S2x128 0 [⟨S1x128, (broadcastInDim S1x128 ![1] bcast_S128_S1x128_1 b0)⟩, ⟨S1x128, (broadcastInDim S1x128 ![1] bcast_S128_S1x128_1 b1)⟩] concatenates_S1x128_S1x128_S2x128_d0)))
/-- The gate. -/
def gates (z : FVec Ideal S2x4096x128 .f32) : FVec Ideal S2x4096x128 .f32 :=
  mulf z (Host.divf (broadcastInDim S2x4096x128 ![] bcast_S_S2x4096x128 (constant S_ .f32 0x3F800000#32)) (addf (broadcastInDim S2x4096x128 ![] bcast_S_S2x4096x128 (constant S_ .f32 0x3F800000#32)) (Host.exp (Host.negf z))))
/-- The last product. -/
def outs (w0 w1 : FVec Ideal S64x128 .f32) (y z : FVec Ideal S2x4096x128 .f32) : FVec Ideal S2x4096x64 .f32 :=
  Host.dotGeneral dot_S2x4096x128_S2x64x128_S2x4096x64_2_2_1_1_0_0 none (mulf y z) (concatenate S2x64x128 0 [⟨S1x64x128, (broadcastInDim S1x64x128 ![1, 2] bcast_S64x128_S1x64x128_1_2 w0)⟩, ⟨S1x64x128, (broadcastInDim S1x64x128 ![1, 2] bcast_S64x128_S1x64x128_1_2 w1)⟩] concatenates_S1x64x128_S1x64x128_S2x64x128_d0)
/-- Two arrays stacked. -/
def stacked (p q : FVec Ideal S2x4096x128 .f32) : FVec Ideal S2x2x4096x128 .f32 :=
  concatenate S2x2x4096x128 1 [⟨S2x1x4096x128, (broadcastInDim S2x1x4096x128 ![0, 2, 3] bcast_S2x4096x128_S2x1x4096x128_0_2_3 p)⟩, ⟨S2x1x4096x128, (broadcastInDim S2x1x4096x128 ![0, 2, 3] bcast_S2x4096x128_S2x1x4096x128_0_2_3 q)⟩] concatenates_S2x1x4096x128_S2x1x4096x128_S2x2x4096x128_d1

theorem turned_at (yt : FVec Ideal S2x2x4096x128 .f32) (s e : Fin 2) (l : Fin 4096) (d : Fin 128) :
    turned yt (ix4 s e l d) = yt (ix4 s e (turn l) d) := by
  unfold turned turn
  pointwise []

theorem rows_at (yf t : FVec Ideal S2x2x4096x128 .f32) (s : Fin 2) (l : Fin 4096) (d : Fin 128) :
    rows yf t (ix3 s l d) = ∑ e, yf (ix4 s e l d) + ∑ e, t (ix4 s e l d) := by
  rw [Fin.sum_univ_two, Fin.sum_univ_two, ← add_assoc]
  unfold rows
  pointwise []

theorem means_at (x : FVec Ideal S2x4096x128 .f32) (s : Fin 2) (l : Fin 4096) : means x (ix3 s l 0) = mean fun d => x (ix3 s l d) := by
  unfold means mean width
  pointwise []

theorem varis_at (x : FVec Ideal S2x4096x128 .f32) (s : Fin 2) (l : Fin 4096) : varis x (means x) (ix3 s l 0) = vari fun d => x (ix3 s l d) := by
  unfold vari
  rw [← means_at]
  generalize means x = u
  unfold varis width
  pointwise []

theorem normed_at (g0 b0 g1 b1 : FVec Ideal S128 .f32) (x : FVec Ideal S2x4096x128 .f32) (u v : FVec Ideal S2x4096x1 .f32) (s : Fin 2) (l : Fin 4096) (d : Fin 128) :
    normed g0 b0 g1 b1 x u v (ix3 s l d) = Ideal.div (x (ix3 s l d) - u (ix3 s l 0)) (Ideal.sqrt (v (ix3 s l 0) + small))
        * (if s = 0 then g0 (ix1 d) else g1 (ix1 d)) + (if s = 0 then b0 (ix1 d) else b1 (ix1 d)) := by
  unfold normed small
  obtain rfl | rfl : s = 0 ∨ s = 1 := by omega
  · pointwise []
  · pointwise []
theorem gates_at (z : FVec Ideal S2x4096x128 .f32) (s : Fin 2) (l : Fin 4096) (d : Fin 128) : gates z (ix3 s l d) = gate (z (ix3 s l d)) := by
  unfold gates gate
  pointwise []
theorem outs_at (w0 w1 : FVec Ideal S64x128 .f32) (y z : FVec Ideal S2x4096x128 .f32) (s : Fin 2) (l : Fin 4096) (o : Fin 64) :
    outs w0 w1 y z (ix3 s l o) = ∑ d, y (ix3 s l d) * z (ix3 s l d) * (if s = 0 then w0 (ix2 o d) else w1 (ix2 o d)) := by
  unfold outs
  obtain rfl | rfl : s = 0 ∨ s = 1 := by omega
  · pointwise []
  · pointwise []
theorem stacked_at (p q : FVec Ideal S2x4096x128 .f32) (s e : Fin 2) (l : Fin 4096) (d : Fin 128) :
    stacked p q (ix4 s e l d) = if e = 0 then p (ix3 s l d) else q (ix3 s l d) := by
  unfold stacked
  obtain rfl | rfl : e = 0 ∨ e = 1 := by omega
  · pointwise []
  · pointwise []

variable (V : Valuation τ sig (Elt Ideal))

/-! ## The stretches, as these terms -/

theorem v173_eq : after hostOps0_14 V (Proc.devRef .tc main_v173)
    = rows (V (Proc.devRef .tc main_v151)) (turned (stacked (V (Proc.devRef .tc main_v153)) (V (Proc.devRef .tc main_v156)))) := by
  after_results; rfl
theorem v177_eq : after hostOps0_14 V (Proc.devRef .tc main_v177) = means (after hostOps0_14 V (Proc.devRef .tc main_v173)) := by
  after_results; rfl
set_option maxHeartbeats 4000000 in
theorem v184_eq : after hostOps0_14 V (Proc.devRef .tc main_v184)
    = varis (after hostOps0_14 V (Proc.devRef .tc main_v173)) (after hostOps0_14 V (Proc.devRef .tc main_v177)) := by
  after_results; rfl
set_option maxHeartbeats 40000000 in
theorem v203_eq : after hostOps0_14 V (Proc.devRef .tc main_v203)
    = normed (V (Proc.devRef .tc main_arg18)) (V (Proc.devRef .tc main_arg19)) (V (Proc.devRef .tc main_arg20)) (V (Proc.devRef .tc main_arg21))
      (after hostOps0_14 V (Proc.devRef .tc main_v173)) (after hostOps0_14 V (Proc.devRef .tc main_v177)) (after hostOps0_14 V (Proc.devRef .tc main_v184)) := by
  after_results; rfl
theorem v204_eq : after hostOps0_15 V (Proc.devRef .tc main_v204) = gates (V (Proc.devRef .tc main_v84)) := by
  after_results; rfl
theorem v209_eq : after hostOps0_16 V (Proc.devRef .tc main_v209)
    = outs (V (Proc.devRef .tc main_arg22)) (V (Proc.devRef .tc main_arg23)) (V (Proc.devRef .tc main_v203)) (V (Proc.devRef .tc main_v204)) := by
  after_results; rfl

/-! ## The result at an index -/

/-- The arguments, of the buffers these stretches start with. -/
def args : Ar where
  yf s e l d := ent S2x2x4096x128 (V (Proc.devRef .tc main_v151)) (ix4 s e l d)
  yt s e l d := if e = 0 then ent S2x4096x128 (V (Proc.devRef .tc main_v153)) (ix3 s l d) else ent S2x4096x128 (V (Proc.devRef .tc main_v156)) (ix3 s l d)
  z s l d := ent S2x4096x128 (V (Proc.devRef .tc main_v84)) (ix3 s l d)
  g0 d := ent S128 (V (Proc.devRef .tc main_arg18)) (ix1 d)
  b0 d := ent S128 (V (Proc.devRef .tc main_arg19)) (ix1 d)
  g1 d := ent S128 (V (Proc.devRef .tc main_arg20)) (ix1 d)
  b1 d := ent S128 (V (Proc.devRef .tc main_arg21)) (ix1 d)
  w0 o d := ent S64x128 (V (Proc.devRef .tc main_arg22)) (ix2 o d)
  w1 o d := ent S64x128 (V (Proc.devRef .tc main_arg23)) (ix2 o d)

/-- The four directions' sums. -/
def xs : FVec Ideal S2x4096x128 .f32 :=
  rows (V (Proc.devRef .tc main_v151)) (turned (stacked (V (Proc.devRef .tc main_v153)) (V (Proc.devRef .tc main_v156))))

theorem xs_at (s : Fin 2) (l : Fin 4096) (d : Fin 128) : xs V (ix3 s l d) = (args V).row s l d := by
  unfold xs
  rw [rows_at]
  simp only [turned_at, stacked_at]
  rfl

/-- The buffers before the last product. -/
def Z : Valuation τ sig (Elt Ideal) := after hostOps0_15 (after hostOps0_14 V)

theorem Z203 : Z V (Proc.devRef .tc main_v203)
    = normed (V (Proc.devRef .tc main_arg18)) (V (Proc.devRef .tc main_arg19)) (V (Proc.devRef .tc main_arg20)) (V (Proc.devRef .tc main_arg21))
      (xs V) (means (xs V)) (varis (xs V) (means (xs V))) := by
  unfold Z xs
  rw [after_of_writes_sub hostOps0_15 _ hostOps0_15_writes (show main_v203 ∉ hostOps0_15_W by decide +kernel), v203_eq, v184_eq, v177_eq, v173_eq]
theorem Z204 : Z V (Proc.devRef .tc main_v204) = gates (V (Proc.devRef .tc main_v84)) := by
  unfold Z
  rw [v204_eq, after_of_writes_sub hostOps0_14 _ hostOps0_14_writes (show main_v84 ∉ hostOps0_14_W by decide +kernel)]
theorem Z_keeps (r : Ref sig .tc) (h : r ∉ hostOps0_14_W) (h' : r ∉ hostOps0_15_W) : Z V (Proc.devRef .tc r) = V (Proc.devRef .tc r) := by
  unfold Z
  rw [after_of_writes_sub hostOps0_15 _ hostOps0_15_writes h', after_of_writes_sub hostOps0_14 _ hostOps0_14_writes h]

/-- The result. -/
theorem v209_at (s : Fin 2) (l : Fin 4096) (o : Fin 64) :
    ent S2x4096x64 (after hostOps0_16 (Z V) (Proc.devRef .tc main_v209)) (ix3 s l o) = (args V).out s l o := by
  rw [v209_eq, Z203, Z204, Z_keeps V main_arg22 (by decide +kernel) (by decide +kernel), Z_keeps V main_arg23 (by decide +kernel) (by decide +kernel)]
  unfold ent
  rw [outs_at]
  simp only [normed_at, gates_at]
  rw [varis_at, means_at]
  simp only [xs_at]
  rfl

/-! ## The two results -/

/-- A place of the image among the rows. -/
def spot (h j : Fin 64) : Fin 4096 := ⟨h.val * 64 + j.val, by omega⟩

/-- The first branch's image. -/
def half0 (x : FVec Ideal S2x4096x64 .f32) : FVec Ideal S1x64x64x64 .f32 :=
  shapeCast _ (extractStridedSlice S1x1x64x64x64 ![0, 0, 0, 0, 0] (shapeCast S2x1x64x64x64 x shapeCasts_S2x4096x64_S2x1x64x64x64) slices_S2x1x64x64x64_S1x1x64x64x64_0_0_0_0_0) shapeCasts_S1x1x64x64x64_S1x64x64x64
/-- The second branch's. -/
def half1 (x : FVec Ideal S2x4096x64 .f32) : FVec Ideal S1x64x64x64 .f32 :=
  shapeCast _ (extractStridedSlice S1x1x64x64x64 ![1, 0, 0, 0, 0] (shapeCast S2x1x64x64x64 x shapeCasts_S2x4096x64_S2x1x64x64x64) slices_S2x1x64x64x64_S1x1x64x64x64_1_0_0_0_0) shapeCasts_S1x1x64x64x64_S1x64x64x64

theorem half0_at (x : FVec Ideal S2x4096x64 .f32) (h j o : Fin 64) : half0 x (ix4 0 h j o) = x (ix3 0 (spot h j) o) := by
  unfold half0 spot
  pointwise []
theorem half1_at (x : FVec Ideal S2x4096x64 .f32) (h j o : Fin 64) : half1 x (ix4 0 h j o) = x (ix3 1 (spot h j) o) := by
  unfold half1 spot
  pointwise []

theorem v212_eq : after hostOps0_16 V (Proc.devRef .tc main_v212) = half0 (after hostOps0_16 V (Proc.devRef .tc main_v209)) := by
  after_results; rfl
theorem v214_eq : after hostOps0_16 V (Proc.devRef .tc main_v214) = half1 (after hostOps0_16 V (Proc.devRef .tc main_v209)) := by
  after_results; rfl

/-- The first result. -/
theorem v212_at (h j o : Fin 64) :
    ent S1x64x64x64 (after hostOps0_16 (Z V) (Proc.devRef .tc main_v212)) (ix4 0 h j o) = (args V).out 0 (spot h j) o := by
  rw [v212_eq]
  exact (half0_at _ h j o).trans (v209_at V 0 (spot h j) o)
/-- The second. -/
theorem v214_at (h j o : Fin 64) :
    ent S1x64x64x64 (after hostOps0_16 (Z V) (Proc.devRef .tc main_v214)) (ix4 0 h j o) = (args V).out 1 (spot h j) o := by
  rw [v214_eq]
  exact (half1_at _ h j o).trans (v209_at V 1 (spot h j) o)

end Cert.ReferenceIdeal.Norm
-- ==== Proof.RefRun.lean ====
/- The plain mathematics' run: its result by the three thirds' readings, its arguments and counters as they were. -/
module

public import proofs.«01_k».proof.Proof.RefConv
public import proofs.«01_k».proof.Proof.RefNorm
public import proofs.«01_k».proof.Proof.ScanRefVal
public import Idealize.ShloMosaic.Lib.Quiescent

@[expose] public section

set_option maxRecDepth 16384

noncomputable section

namespace Cert.ReferenceIdeal.Whole

open Cert.ReferenceIdeal Cert.ReferenceIdeal.Gen Cert.ReferenceIdeal.Value
open Cert.ReferenceIdeal.Scan
open Idealize.ShloMosaic Idealize.ShloMosaic.TcCoe Idealize.ShloMosaic.StableHlo
open Idealize.SL.Sem

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem args_pre : ∀ a ∈ argRefs, a ∉ preW := ListAll.forall_mem_of_all_decide (by decide +kernel)
theorem args_loop : ∀ a ∈ argRefs, a ∉ loopW := ListAll.forall_mem_of_all_decide (by decide +kernel)
theorem args_post : ∀ a ∈ argRefs, a ∉ postW := ListAll.forall_mem_of_all_decide (by decide +kernel)
theorem args_kept : ∀ a ∈ argRefs, (Proc.devRef .tc a : DevRef τ sig).isScoped = false := ListAll.forall_mem_of_all_decide (by decide +kernel)

variable (m : (ℓ : Loc nD τ sig) → Buf (Elt Ideal) ℓ) (c : Dev nD)

/-- An argument is as launched when the scans start. -/
theorem start_args (a : Ref sig .tc) (ha : a ∈ argRefs) : start m c (Proc.devRef .tc a) = m ((c : Thread nD τ).loc a) := by
  have h := args_pre a ha
  simp only [List.mem_append, not_or] at h
  obtain ⟨h0, h1, h2, h3, h4, -⟩ := h
  unfold start
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]
/-- So when they end. -/
theorem mid_args (a : Ref sig .tc) (ha : a ∈ argRefs) : mid m c (Proc.devRef .tc a) = m ((c : Thread nD τ).loc a) := by
  have h := args_pre a ha
  have h' := args_post a ha
  simp only [List.mem_append, not_or] at h h'
  obtain ⟨-, -, -, -, -, h5, h6, h7, h8, h9⟩ := h
  obtain ⟨h10, h11, h12, h13, -⟩ := h'
  refine (mid_keeps m c a ?_ (args_loop a ha) ?_).trans (start_args m c a ha)
  · simp only [List.mem_append, not_or]
    exact ⟨h5, h6, h7, h8, h9⟩
  · simp only [List.mem_append, not_or]
    exact ⟨h10, h11, h12, h13⟩

/-- The gated sums by rows, as the scans start. -/
theorem start81 (s : Fin 2) (l : Fin 4096) (d : Fin 128) :
    ent S2x4096x128 (start m c (Proc.devRef .tc main_v81)) (ix3 s l d)
      = (Conv.args (launchContents m c)).act s (Cert.KernelIdeal.Conv.row l) (Cert.KernelIdeal.Conv.col l) d :=
  Conv.v81_at (launchContents m c) s l d
/-- The gated sums by columns. -/
theorem start83 (s : Fin 2) (l : Fin 4096) (d : Fin 128) :
    ent S2x4096x128 (start m c (Proc.devRef .tc main_v83)) (ix3 s l d)
      = (Conv.args (launchContents m c)).act s (Cert.KernelIdeal.Conv.col l) (Cert.KernelIdeal.Conv.row l) d :=
  Conv.v83_at (launchContents m c) s l d
/-- The gate's input, as the scans end. -/
theorem mid84 (s : Fin 2) (l : Fin 4096) (d : Fin 128) :
    ent S2x4096x128 (mid m c (Proc.devRef .tc main_v84)) (ix3 s l d)
      = (Conv.args (launchContents m c)).z s (Cert.KernelIdeal.Conv.row l) (Cert.KernelIdeal.Conv.col l) d := by
  rw [mid_keeps m c main_v84 (by decide +kernel) (by decide +kernel) (by decide +kernel)]
  exact Conv.v84_at (launchContents m c) s l d

/-- An index is its coordinates, the first of which is zero. -/
theorem eta4 (i : S1x64x64x64.Idx) : i = ix4 0 (i 1) (i 2) (i 3) := by
  funext a
  fin_cases a
  · exact Subsingleton.elim (α := Fin 1) _ _
  all_goals rfl

/-- Every run of the reference ends with the two results holding the normed, gated and multiplied sums, its arguments as they were,
    and every counter at zero. -/
theorem run_ref (ρ : Dev nD → PrngReg) : θ_run (defs (F := Ideal)) (onTc (τ := τ) (main (F := Ideal))) ⟨m, fun _ => 0, ρ⟩ (fun r =>
    (∀ c : Dev nD,
      (r.2.mem ((c.tc : Thread nD τ).loc main_v212) = fun i : S1x64x64x64.Idx => (Norm.args (mid m c)).out 0 (Norm.spot (i 1) (i 2)) (i 3))
      ∧ (r.2.mem ((c.tc : Thread nD τ).loc main_v214) = fun i : S1x64x64x64.Idx => (Norm.args (mid m c)).out 1 (Norm.spot (i 1) (i 2)) (i 3))
      ∧ ∀ a ∈ argRefs, r.2.mem ((c.tc : Thread nD τ).loc a) = m ((c.tc : Thread nD τ).loc a))
    ∧ r.2.sem = fun _ => 0) := by
  refine (θ_run _ _ _).mono (fun r h => ⟨fun c => ⟨?_, ?_, fun a ha => ?_⟩, sem_eq_zero_of_no_sems rfl r.2⟩) (run_fold m ρ)
  · refine (h c main_v212 (by decide)).trans (funext fun i => ?_)
    have e := Norm.v212_at (mid m c) (i 1) (i 2) (i 3)
    exact (congrArg (finalContents condOps preI bodyI postI 4096 m c (Proc.devRef .tc main_v212)) (eta4 i)).trans e
  · refine (h c main_v214 (by decide)).trans (funext fun i => ?_)
    have e := Norm.v214_at (mid m c) (i 1) (i 2) (i 3)
    exact (congrArg (finalContents condOps preI bodyI postI 4096 m c (Proc.devRef .tc main_v214)) (eta4 i)).trans e
  · exact (h c a (args_kept a ha)).trans (final_keeps a m c (args_pre a ha) (args_loop a ha) (args_post a ha))

end Cert.ReferenceIdeal.Whole

end
-- ==== Proof.ScanValue.lean ====
module

public import proofs.«01_k».proof.Proof.ScanTarget
public import proofs.«01_k».proof.Proof.ScanPipe
public import proofs.«01_k».proof.Proof.Gen.KernelIdeal.Regions
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe

variable (W : Dev nD → Valuation τ sig (Elt Ideal)) (c : Dev nD)

/-- The buffers as the call is entered, of those its part of the program starts with. -/
abbrev V (c : Dev nD) (b : Ref sig .tc) : Buf (Elt Ideal) ((c : Thread nD τ).loc b) := StableHlo.after hostOps1 (W c) b
/-- A buffer the part's host operations do not write is as it was. -/
theorem V_keeps (r : Ref sig .tc) (h : r ∉ hostOps1_W) : V W c r = W c (Proc.devRef .tc r) :=
  StableHlo.after_of_writes_sub hostOps1 _ hostOps1_writes h

/-- The arguments, of the buffers the part starts with. -/
def args : Ar where
  xf s p d := W c (Proc.devRef .tc main_v19_0) (ix3 s p d)
  xt s p d := W c (Proc.devRef .tc main_v19_1) (ix3 s p d)
  w k q d := W c (Proc.devRef .tc main_arg8) (ix3 k q d)
  tw0 k d r := W c (Proc.devRef .tc main_arg10) (ix3 k d r)
  tw1 k d r := W c (Proc.devRef .tc main_arg11) (ix3 k d r)
  tb0 k d := W c (Proc.devRef .tc main_arg12) (ix2 k d)
  tb1 k d := W c (Proc.devRef .tc main_arg13) (ix2 k d)
  al0 e n := W c (Proc.devRef .tc main_arg14) (ix2 e n)
  al1 e n := W c (Proc.devRef .tc main_arg15) (ix2 e n)
  dd0 e := W c (Proc.devRef .tc main_arg16) (ix1 e)
  dd1 e := W c (Proc.devRef .tc main_arg17) (ix1 e)

/-! ## The points and their blocks -/

/-- A point's direction. -/
def dirOf (t : Fin cfg1.N) : Fin 2 := ⟨t.val / 16, by have : t.val < 32 := t.isLt; omega⟩
/-- The block of rows a point takes. -/
def chunkOf (t : Fin cfg1.N) : ℕ := if t.val / 16 = 0 then t.val % 16 else 15 - t.val % 16
/-- A row of a point's blocks in the arrays. -/
def rowAt (t : Fin cfg1.N) (p : Fin 256) : Fin 4096 :=
  ⟨256 * chunkOf t + p.val, by have : t.val < 32 := t.isLt; unfold chunkOf; split <;> omega⟩

theorem coords0 : ∀ t : Fin cfg1.N, (grid1.coords t 0).val = t.val / 16 := (by decide +kernel : ∀ t : Fin grid1.N, _)
theorem starts_iff : ∀ t : Fin cfg1.N, starts (grid1.coords t) ↔ t.val % 16 = 0 :=
  (by decide +kernel : ∀ t : Fin grid1.N, starts (grid1.coords t) ↔ t.val % 16 = 0)

theorem index0 : ∀ t : Fin cfg1.N, win1_0.index t = ![0, chunkOf t, 0] := (by decide +kernel : ∀ t : Fin grid1.N, _)
theorem index1 : ∀ t : Fin cfg1.N, win1_1.index t = ![0, chunkOf t, 0] := (by decide +kernel : ∀ t : Fin grid1.N, _)
theorem index2 : ∀ t : Fin cfg1.N, win1_2.index t = ![t.val / 16, 0, 0] := (by decide +kernel : ∀ t : Fin grid1.N, _)
theorem index3 : ∀ t : Fin cfg1.N, win1_3.index t = ![t.val / 16, 0, 0] := (by decide +kernel : ∀ t : Fin grid1.N, _)
theorem index4 : ∀ t : Fin cfg1.N, win1_4.index t = ![t.val / 16, 0, 0] := (by decide +kernel : ∀ t : Fin grid1.N, _)
theorem index5 : ∀ t : Fin cfg1.N, win1_5.index t = ![t.val / 16, 0, 0] := (by decide +kernel : ∀ t : Fin grid1.N, _)
theorem index6 : ∀ t : Fin cfg1.N, win1_6.index t = ![t.val / 16, 0, 0] := (by decide +kernel : ∀ t : Fin grid1.N, _)
theorem index7 : ∀ t : Fin cfg1.N, win1_7.index t = ![t.val / 16, 0, 0] := (by decide +kernel : ∀ t : Fin grid1.N, _)
theorem index8 : ∀ t : Fin cfg1.N, win1_8.index t = ![t.val / 16, 0, 0] := (by decide +kernel : ∀ t : Fin grid1.N, _)
theorem index9 : ∀ t : Fin cfg1.N, win1_9.index t = ![t.val / 16, 0, 0] := (by decide +kernel : ∀ t : Fin grid1.N, _)
theorem index10 : ∀ t : Fin cfg1.N, win1_10.index t = ![t.val / 16, 0, 0] := (by decide +kernel : ∀ t : Fin grid1.N, _)
theorem index11 : ∀ t : Fin cfg1.N, win1_11.index t = ![0, t.val / 16, chunkOf t, 0] := (by decide +kernel : ∀ t : Fin grid1.N, _)
theorem index12 : ∀ t : Fin cfg1.N, win1_12.index t = ![0, t.val / 16, chunkOf t, 0] := (by decide +kernel : ∀ t : Fin grid1.N, _)

theorem blk_x2 (t : Fin cfg1.N) (s : Fin 2) (p : Fin 256) (d : Fin 128) : (blkAt (V W) c t).x2 (ix3 s p d) = (args W c).xf s (rowAt t p) d := by
  show iblk (V W) c 0 t (ix3 s p d) = _
  blk_simp [iblk]
  rw [V_keeps W c main_v19_0 (by decide)]
  refine congrArg (W c (Proc.devRef .tc main_v19_0)) (?_ : _ = ix3 s (rowAt t p) d)
  blk_ext [index0, rowAt, kk, dirOf]
theorem blk_x3 (t : Fin cfg1.N) (s : Fin 2) (p : Fin 256) (d : Fin 128) : (blkAt (V W) c t).x3 (ix3 s p d) = (args W c).xt s (rowAt t p) d := by
  show iblk (V W) c 1 t (ix3 s p d) = _
  blk_simp [iblk]
  rw [V_keeps W c main_v19_1 (by decide)]
  refine congrArg (W c (Proc.devRef .tc main_v19_1)) (?_ : _ = ix3 s (rowAt t p) d)
  blk_ext [index1, rowAt, kk, dirOf]
theorem blk_x4 (t : Fin cfg1.N) (j : Fin 2) (q : Fin 36) (d : Fin 128) : (blkAt (V W) c t).x4 (ix3 j q d) = (args W c).w (kk (dirOf t) j) q d := by
  show iblk (V W) c 2 t (ix3 j q d) = _
  blk_simp [iblk]
  rw [V_keeps W c main_arg8 (by decide)]
  refine congrArg (W c (Proc.devRef .tc main_arg8)) (?_ : _ = ix3 (kk (dirOf t) j) q d)
  blk_ext [index2, rowAt, kk, dirOf]
theorem blk_x5 (t : Fin cfg1.N) (j : Fin 2) (d : Fin 128) (r : Fin 4) : (blkAt (V W) c t).x5 (ix3 j d r) = (args W c).tw0 (kk (dirOf t) j) d r := by
  show iblk (V W) c 3 t (ix3 j d r) = _
  blk_simp [iblk]
  rw [V_keeps W c main_arg10 (by decide)]
  refine congrArg (W c (Proc.devRef .tc main_arg10)) (?_ : _ = ix3 (kk (dirOf t) j) d r)
  blk_ext [index3, rowAt, kk, dirOf]
theorem blk_x6 (t : Fin cfg1.N) (j : Fin 2) (d : Fin 128) (r : Fin 4) : (blkAt (V W) c t).x6 (ix3 j d r) = (args W c).tw1 (kk (dirOf t) j) d r := by
  show iblk (V W) c 4 t (ix3 j d r) = _
  blk_simp [iblk]
  rw [V_keeps W c main_arg11 (by decide)]
  refine congrArg (W c (Proc.devRef .tc main_arg11)) (?_ : _ = ix3 (kk (dirOf t) j) d r)
  blk_ext [index4, rowAt, kk, dirOf]
theorem V_v0 (k : Fin 4) (d : Fin 128) : V W c main_v20 (ix3 k 0 d) = W c (Proc.devRef .tc main_arg12) (ix2 k d) := by
  entry_read; pointwise []
theorem blk_x7 (t : Fin cfg1.N) (j : Fin 2) (d : Fin 128) : (blkAt (V W) c t).x7 (ix3 j 0 d) = (args W c).tb0 (kk (dirOf t) j) d := by
  show iblk (V W) c 5 t (ix3 j 0 d) = _
  blk_simp [iblk]
  refine (congrArg (V W c main_v20) (?_ : _ = ix3 (kk (dirOf t) j) 0 d)).trans (V_v0 W c _ d)
  blk_ext [index5, kk, dirOf]
theorem V_v1 (k : Fin 4) (d : Fin 128) : V W c main_v21 (ix3 k 0 d) = W c (Proc.devRef .tc main_arg13) (ix2 k d) := by
  entry_read; pointwise []
theorem blk_x8 (t : Fin cfg1.N) (j : Fin 2) (d : Fin 128) : (blkAt (V W) c t).x8 (ix3 j 0 d) = (args W c).tb1 (kk (dirOf t) j) d := by
  show iblk (V W) c 6 t (ix3 j 0 d) = _
  blk_simp [iblk]
  refine (congrArg (V W c main_v21) (?_ : _ = ix3 (kk (dirOf t) j) 0 d)).trans (V_v1 W c _ d)
  blk_ext [index6, kk, dirOf]
theorem V_v5 (k : Fin 4) (n : Fin 16) (d : Fin 128) : V W c main_v25 (ix3 k n d) = W c (Proc.devRef .tc main_arg14) (ix2 (⟨k.val * 128 + d.val, by omega⟩ : Fin 512) n) := by
  entry_read; pointwise []
theorem blk_x9 (t : Fin cfg1.N) (j : Fin 2) (n : Fin 16) (d : Fin 128) : (blkAt (V W) c t).x9 (ix3 j n d) = (args W c).al0 ⟨(kk (dirOf t) j).val * 128 + d.val, by omega⟩ n := by
  show iblk (V W) c 7 t (ix3 j n d) = _
  blk_simp [iblk]
  refine (congrArg (V W c main_v25) (?_ : _ = ix3 (kk (dirOf t) j) n d)).trans (V_v5 W c _ n d)
  blk_ext [index7, kk, dirOf]
theorem V_v7 (k : Fin 4) (n : Fin 16) (d : Fin 128) : V W c main_v27 (ix3 k n d) = W c (Proc.devRef .tc main_arg15) (ix2 (⟨k.val * 128 + d.val, by omega⟩ : Fin 512) n) := by
  entry_read; pointwise []
theorem blk_x10 (t : Fin cfg1.N) (j : Fin 2) (n : Fin 16) (d : Fin 128) : (blkAt (V W) c t).x10 (ix3 j n d) = (args W c).al1 ⟨(kk (dirOf t) j).val * 128 + d.val, by omega⟩ n := by
  show iblk (V W) c 8 t (ix3 j n d) = _
  blk_simp [iblk]
  refine (congrArg (V W c main_v27) (?_ : _ = ix3 (kk (dirOf t) j) n d)).trans (V_v7 W c _ n d)
  blk_ext [index8, kk, dirOf]
theorem V_v2 (k : Fin 4) (d : Fin 128) : V W c main_v22 (ix3 k 0 d) = W c (Proc.devRef .tc main_arg16) (ix1 (⟨k.val * 128 + d.val, by omega⟩ : Fin 512)) := by
  entry_read; pointwise []
theorem blk_x11 (t : Fin cfg1.N) (j : Fin 2) (d : Fin 128) : (blkAt (V W) c t).x11 (ix3 j 0 d) = (args W c).dd0 ⟨(kk (dirOf t) j).val * 128 + d.val, by omega⟩ := by
  show iblk (V W) c 9 t (ix3 j 0 d) = _
  blk_simp [iblk]
  refine (congrArg (V W c main_v22) (?_ : _ = ix3 (kk (dirOf t) j) 0 d)).trans (V_v2 W c _ d)
  blk_ext [index9, kk, dirOf]
theorem V_v3 (k : Fin 4) (d : Fin 128) : V W c main_v23 (ix3 k 0 d) = W c (Proc.devRef .tc main_arg17) (ix1 (⟨k.val * 128 + d.val, by omega⟩ : Fin 512)) := by
  entry_read; pointwise []
theorem blk_x12 (t : Fin cfg1.N) (j : Fin 2) (d : Fin 128) : (blkAt (V W) c t).x12 (ix3 j 0 d) = (args W c).dd1 ⟨(kk (dirOf t) j).val * 128 + d.val, by omega⟩ := by
  show iblk (V W) c 10 t (ix3 j 0 d) = _
  blk_simp [iblk]
  refine (congrArg (V W c main_v23) (?_ : _ = ix3 (kk (dirOf t) j) 0 d)).trans (V_v3 W c _ d)
  blk_ext [index10, kk, dirOf]

end Cert.KernelIdeal.Scan
-- ==== Proof.ScanFinal.lean ====
module

public import proofs.«01_k».proof.Proof.ScanValue

@[expose] public section

set_option maxRecDepth 16384

noncomputable section

namespace Cert.KernelIdeal.Scan

open Cert.KernelIdeal Cert.KernelIdeal.Gen
open Idealize.ShloMosaic Idealize.ShloMosaic.TcCoe

variable (W : Dev nD → Valuation τ sig (Elt Ideal)) (c : Dev nD)

/-! ## A point's terms are the arrays' -/

section Terms
variable (t : Fin cfg1.N) (s j : Fin 2) (p : Fin 256) (n : Fin 16) (d : Fin 128)

theorem U_blk : (blkAt (V W) c t).U s j p d = (args W c).U s j (rowAt t p) d := by
  unfold Blk.U Ar.U; rw [blk_x2, blk_x3]
theorem PR_blk (q : Fin 36) : (blkAt (V W) c t).PR j p q = (args W c).PR (dirOf t) j (rowAt t p) q := by
  unfold Blk.PR Ar.PR; simp only [U_blk, blk_x4]
theorem TW_blk (r : Fin 4) : (blkAt (V W) c t).TW s j d r = (args W c).TW s (kk (dirOf t) j) d r := by
  unfold Blk.TW Ar.TW; rw [blk_x5, blk_x6]
theorem TB_blk : (blkAt (V W) c t).TB s j d = (args W c).TB s (kk (dirOf t) j) d := by
  unfold Blk.TB Ar.TB; rw [blk_x7, blk_x8]
theorem AL_blk : (blkAt (V W) c t).AL s j n d = (args W c).AL s (kk (dirOf t) j) n d := by
  unfold Blk.AL Ar.AL; rw [blk_x9, blk_x10]
theorem DD_blk : (blkAt (V W) c t).DD s j d = (args W c).DD s (kk (dirOf t) j) d := by
  unfold Blk.DD Ar.DD; rw [blk_x11, blk_x12]
theorem ST_blk : (blkAt (V W) c t).ST s j p d = (args W c).ST s (dirOf t) j (rowAt t p) d := by
  unfold Blk.ST Ar.ST; simp only [PR_blk, TW_blk, TB_blk]
theorem DA_blk : (blkAt (V W) c t).DA s j p n d = (args W c).DA s (dirOf t) j (rowAt t p) n d := by
  unfold Blk.DA Ar.DA; rw [ST_blk, AL_blk]
theorem DB_blk : (blkAt (V W) c t).DB s j p n d = (args W c).DB s (dirOf t) j (rowAt t p) n d := by
  unfold Blk.DB Ar.DB; rw [ST_blk, U_blk, PR_blk]

/-- The row a trip takes is the next in the direction's order. -/
theorem rowAt_rowOf (k : ℕ) (hk : k < 256) : rowAt t (rowOf (grid1.coords t 0).val k) = row (dirOf t).val (256 * (t.val % 16) + k) := by
  have ht : t.val < 32 := t.isLt
  apply Fin.ext
  rw [coords0]
  unfold rowAt rowOf row dirOf chunkOf
  dsimp only
  split <;> omega
/-- A row's place is its trip past the chunks before. -/
theorem place_rowAt : place (dirOf t).val (rowAt t p) = 256 * (t.val % 16) + tripAt (grid1.coords t 0).val p := by
  have ht : t.val < 32 := t.isLt
  rw [coords0]
  unfold rowAt place tripAt dirOf chunkOf
  dsimp only
  split <;> omega

/-- A chunk's steps from the state its direction has come to. -/
theorem HS_blk (k : ℕ) (hk : k ≤ 256) :
    (blkAt (V W) c t).HS (grid1.coords t 0).val ((args W c).HH s (dirOf t) j n d (256 * (t.val % 16))) s j n d k
      = (args W c).HH s (dirOf t) j n d (256 * (t.val % 16) + k) := by
  unfold Blk.HS Ar.HH
  rw [← hS_add]
  refine hS_congr _ k fun k' hk' => ?_
  rw [DA_blk, DB_blk, rowAt_rowOf t k' (by omega)]
  exact ⟨rfl, rfl⟩
end Terms

theorem pay3_at (n : Fin 16) (e : Fin 256) : k1_pay3 (F := Ideal) (ix2 n e) = 0 := by pointwise [k1_pay3]
theorem pay4_at (n : Fin 16) (e : Fin 256) : k1_pay4 (F := Ideal) (ix2 n e) = 0 := by pointwise [k1_pay4]

/-- The states a point is entered with. -/
theorem H0_eq (s j : Fin 2) (n : Fin 16) (d : Fin 128) : ∀ (q : ℕ) (t : Fin cfg1.N), t.val = q →
    Blk.H0 (grid1.coords t) (states (V W) c t.val).1 (states (V W) c t.val).2 s j n d = (args W c).HH s (dirOf t) j n d (256 * (t.val % 16)) := by
  intro q
  induction q with
  | zero =>
    intro t ht
    have h0 : starts (grid1.coords t) := (starts_iff t).2 (by omega)
    unfold Blk.H0 inA inB
    rw [if_pos h0, if_pos h0, pay3_at, pay4_at, ite_self, show 256 * (t.val % 16) = 0 by omega]
    rfl
  | succ q ih =>
    intro t ht
    by_cases hs : starts (grid1.coords t)
    · have h0 := (starts_iff t).1 hs
      unfold Blk.H0 inA inB
      rw [if_pos hs, if_pos hs, pay3_at, pay4_at, ite_self, show 256 * (t.val % 16) = 0 by omega]
      rfl
    · have h0 : ¬ t.val % 16 = 0 := fun h => hs ((starts_iff t).2 h)
      have hq : q < cfg1.N := by have := t.isLt; omega
      have ih' := ih ⟨q, hq⟩ rfl
      have hd : dirOf ⟨q, hq⟩ = dirOf t := by apply Fin.ext; show q / 16 = t.val / 16; omega
      have hst := states_succ (V W) c ⟨q, hq⟩
      have e1 := HS_blk W c ⟨q, hq⟩ s j n d 256 (le_refl _)
      rw [← ih'] at e1
      have e2 : (args W c).HH s (dirOf ⟨q, hq⟩) j n d (256 * (q % 16) + 256) = (args W c).HH s (dirOf t) j n d (256 * (t.val % 16)) := by
        rw [hd, show 256 * (q % 16) + 256 = 256 * (t.val % 16) by omega]
      refine Eq.trans ?_ (e1.trans e2)
      rw [ht]
      change states (V W) c (q + 1) = _ at hst
      rw [hst]
      unfold Blk.H0
      rw [show inA (grid1.coords t) = id from funext fun h => if_neg hs, show inB (grid1.coords t) = id from funext fun h => if_neg hs]
      obtain rfl | rfl : s = 0 ∨ s = 1 := by omega
      · rw [if_pos rfl, if_pos rfl]; exact Blk.outA_at _ _ _ n j d
      · rw [if_neg (by decide), if_neg (by decide)]; exact Blk.outB_at _ _ _ n j d

/-- A point's results are the scan's on its rows. -/
theorem Y_blk (t : Fin cfg1.N) (s j : Fin 2) (p : Fin 256) (d : Fin 128) :
    (blkAt (V W) c t).Y (grid1.coords t) (states (V W) c t.val).1 (states (V W) c t.val).2 s j p d = (args W c).Y s (dirOf t) j (rowAt t p) d := by
  unfold Blk.Y Ar.Y
  simp only [H0_eq W c s j _ d t.val t rfl]
  rw [U_blk, DD_blk, place_rowAt]
  refine congrArg (· + _) (Finset.sum_congr rfl fun n _ => ?_)
  rw [PR_blk, HS_blk W c t s j n d _ (tripAt_lt _ p)]
  rfl

/-- The array of result 0 after the run. -/
theorem final11 : (dat1 (V W) c).arrAt 11 cfg1.N = fun i : S2x2x4096x128.Idx => (args W c).Y (i 0) (i 1) 0 (i 2) (i 3) := by
  refine (dat1 (V W) c).arrAt_eq_of_covers 11 _ (by decide +kernel) fun t hf y => ?_
  blk_simp
  rw [after1_11]
  change S2x1x256x128.Idx at y
  obtain ⟨s, p, d, rfl⟩ : ∃ (s : Fin 2) (p : Fin 256) (d : Fin 128), y = ix4 s 0 p d :=
    ⟨y 0, y 2, y 3, by idx_ext⟩
  refine (Blk.out13_at _ _ _ _ s p d).trans ((Y_blk W c t s 0 p d).trans ?_)
  have e : (win1_11.blk t).view.emb (ix4 s 0 p d) = ix4 s (dirOf t) (rowAt t p) d := by
    blk_ext [index11, rowAt, dirOf]
  rw [e]
  rfl
/-- The array of result 1 after the run. -/
theorem final12 : (dat1 (V W) c).arrAt 12 cfg1.N = fun i : S2x2x4096x128.Idx => (args W c).Y (i 0) (i 1) 1 (i 2) (i 3) := by
  refine (dat1 (V W) c).arrAt_eq_of_covers 12 _ (by decide +kernel) fun t hf y => ?_
  blk_simp
  rw [after1_12]
  change S2x1x256x128.Idx at y
  obtain ⟨s, p, d, rfl⟩ : ∃ (s : Fin 2) (p : Fin 256) (d : Fin 128), y = ix4 s 0 p d :=
    ⟨y 0, y 2, y 3, by idx_ext⟩
  refine (Blk.out14_at _ _ _ _ s p d).trans ((Y_blk W c t s 1 p d).trans ?_)
  have e : (win1_12.blk t).view.emb (ix4 s 0 p d) = ix4 s (dirOf t) (rowAt t p) d := by
    blk_ext [index12, rowAt, dirOf]
  rw [e]
  rfl

end Cert.KernelIdeal.Scan
-- ==== Proof.Agree.lean ====
/- From agreeing arguments the kernel's three calls and the three thirds of the plain mathematics compute with the same arrays. -/
module

public import proofs.«01_k».proof.Proof.Whole
public import proofs.«01_k».proof.Proof.RefRun
public import proofs.«01_k».proof.Proof.ScanFinal

@[expose] public section

set_option maxRecDepth 16384

noncomputable section

namespace Cert.Proof

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## What the kernel's later calls find -/

section Kernel
open Cert.KernelIdeal Cert.KernelIdeal.Gen Cert.KernelIdeal.Whole

/-- The first call's gated sums by rows. -/
theorem W1_xf (s : Fin 2) (l : Fin 4096) (d : Fin 128) : (Scan.args (W1 m) c).xf s l d = (Conv.args (Whole.W0 m) c).act s (Conv.row l) (Conv.col l) d :=
  congrFun ((next0_arr (Whole.W0 m) c 4).trans (Conv.final4 (Whole.W0 m) c)) (ix3 s l d)
/-- And by columns. -/
theorem W1_xt (s : Fin 2) (l : Fin 4096) (d : Fin 128) : (Scan.args (W1 m) c).xt s l d = (Conv.args (Whole.W0 m) c).act s (Conv.col l) (Conv.row l) d :=
  congrFun ((next0_arr (Whole.W0 m) c 5).trans (Conv.final5 (Whole.W0 m) c)) (ix3 s l d)
/-- The second call's scans by rows. -/
theorem W2_yf (s e : Fin 2) (l : Fin 4096) (d : Fin 128) : (Norm.args (W2 m) c).yf s e l d = (Scan.args (W1 m) c).Y s e 0 l d :=
  congrFun ((next1_arr (W1 m) c 11).trans (Scan.final11 (W1 m) c)) (ix4 s e l d)
/-- And by columns. -/
theorem W2_yt (s e : Fin 2) (l : Fin 4096) (d : Fin 128) : (Norm.args (W2 m) c).yt s e l d = (Scan.args (W1 m) c).Y s e 1 l d :=
  congrFun ((next1_arr (W1 m) c 12).trans (Scan.final12 (W1 m) c)) (ix4 s e l d)
/-- The gate's input, which the second call keeps. -/
theorem W2_z (s : Fin 2) (l : Fin 4096) (d : Fin 128) : (Norm.args (W2 m) c).z s l d = (Conv.args (Whole.W0 m) c).z s (Conv.row l) (Conv.col l) d :=
  congrFun ((next1_of (W1 m) c main_v19_2 (by decide +kernel) (by decide +kernel)).trans
    ((next0_arr (Whole.W0 m) c 6).trans (Conv.final6 (Whole.W0 m) c))) (ix3 s l d)

/-- What the third call returns. -/
theorem W3_out (s : Fin 2) (l : Fin 4096) (o : Fin 64) : (W3 m c (Proc.devRef .tc main_v41) : FVec Ideal S2x4096x64 .f32) (ix3 s l o) = (Norm.args (W2 m) c).out s l o :=
  congrFun ((next2_arr (W2 m) c 6).trans (Norm.final6 (W2 m) c)) (ix3 s l o)

/-- The first branch's image, cut out of that. -/
def half0 (x : FVec Ideal S2x4096x64 .f32) : FVec Ideal S1x64x64x64 .f32 :=
  shapeCast _ (shapeCast S4096x64 (extractStridedSlice S1x4096x64 ![0, 0, 0] x slices_S2x4096x64_S1x4096x64_0_0_0) shapeCasts_S1x4096x64_S4096x64) shapeCasts_S4096x64_S1x64x64x64
/-- The second branch's. -/
def half1 (x : FVec Ideal S2x4096x64 .f32) : FVec Ideal S1x64x64x64 .f32 :=
  shapeCast _ (shapeCast S4096x64 (extractStridedSlice S1x4096x64 ![1, 0, 0] x slices_S2x4096x64_S1x4096x64_1_0_0) shapeCasts_S1x4096x64_S4096x64) shapeCasts_S4096x64_S1x64x64x64

theorem half0_at (x : FVec Ideal S2x4096x64 .f32) (h j o : Fin 64) : half0 x (ix4 0 h j o) = x (ix3 0 (Cert.ReferenceIdeal.Norm.spot h j) o) := by
  unfold half0 Cert.ReferenceIdeal.Norm.spot
  pointwise []
theorem half1_at (x : FVec Ideal S2x4096x64 .f32) (h j o : Fin 64) : half1 x (ix4 0 h j o) = x (ix3 1 (Cert.ReferenceIdeal.Norm.spot h j) o) := by
  unfold half1 Cert.ReferenceIdeal.Norm.spot
  pointwise []

theorem cut0 (V : Valuation τ sig (Elt Ideal)) : StableHlo.after hostOps3 V (Proc.devRef .tc main_v44) = half0 (V (Proc.devRef .tc main_v41)) := by
  after_results; rfl
theorem cut1 (V : Valuation τ sig (Elt Ideal)) : StableHlo.after hostOps3 V (Proc.devRef .tc main_v47) = half1 (V (Proc.devRef .tc main_v41)) := by
  after_results; rfl

/-- The first result. -/
theorem out0 : W4 m c (Proc.devRef .tc main_v44) = fun i : S1x64x64x64.Idx => (Norm.args (W2 m) c).out 0 (Cert.ReferenceIdeal.Norm.spot (i 1) (i 2)) (i 3) :=
  (cut0 (W3 m c)).trans (funext fun i => (congrArg (half0 (W3 m c (Proc.devRef .tc main_v41))) (Cert.ReferenceIdeal.Whole.eta4 i)).trans
    ((half0_at _ (i 1) (i 2) (i 3)).trans (W3_out m c 0 _ (i 3))))
/-- The second. -/
theorem out1 : W4 m c (Proc.devRef .tc main_v47) = fun i : S1x64x64x64.Idx => (Norm.args (W2 m) c).out 1 (Cert.ReferenceIdeal.Norm.spot (i 1) (i 2)) (i 3) :=
  (cut1 (W3 m c)).trans (funext fun i => (congrArg (half1 (W3 m c (Proc.devRef .tc main_v41))) (Cert.ReferenceIdeal.Whole.eta4 i)).trans
    ((half1_at _ (i 1) (i 2) (i 3)).trans (W3_out m c 1 _ (i 3))))

end Kernel

/-- The last call's arrays are equal when each is. -/
theorem norm_ext {a b : Cert.KernelIdeal.Norm.Ar} (h1 : a.yf = b.yf) (h2 : a.yt = b.yt) (h3 : a.z = b.z) (h4 : a.g0 = b.g0) (h5 : a.b0 = b.b0)
    (h6 : a.g1 = b.g1) (h7 : a.b1 = b.b1) (h8 : a.w0 = b.w0) (h9 : a.w1 = b.w1) : a = b := by
  cases a
  cases b
  simp_all

/-! ## The arrays of the two sides -/

/-- The first call's. -/
theorem conv_args (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Conv.args (StableHlo.launchContents m' c) = Cert.KernelIdeal.Conv.args (Cert.KernelIdeal.Whole.W0 m) c := by
  unfold Cert.ReferenceIdeal.Conv.args Cert.KernelIdeal.Conv.args
  congr 1
  · funext h j e; exact congrFun h0 (ix4 0 h j e)
  · funext h j e; exact congrFun h1 (ix4 0 h j e)
  · funext q e; exact congrFun h2 (ix2 q e)
  · funext q e; exact congrFun h3 (ix2 q e)
  · funext n d; exact congrFun h4 (ix4 d 0 _ _)
  · funext n d; exact congrFun h6 (ix4 d 0 _ _)
  · funext d; exact congrFun h5 (ix1 d)
  · funext d; exact congrFun h7 (ix1 d)

/-- The scans'. -/
theorem scan_args (hc : Cert.ReferenceIdeal.Conv.args (StableHlo.launchContents m' c) = Cert.KernelIdeal.Conv.args (Cert.KernelIdeal.Whole.W0 m) c)
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Scan.ar (Cert.ReferenceIdeal.Scan.start m' c) = Cert.KernelIdeal.Scan.args (Cert.KernelIdeal.Whole.W1 m) c := by
  unfold Cert.ReferenceIdeal.Scan.ar Cert.KernelIdeal.Scan.args
  congr 1
  · funext s p d
    exact (Cert.ReferenceIdeal.Whole.start81 m' c s p d).trans ((by rw [hc] : _ = _).trans (W1_xf m c s p d).symm)
  · funext s p d
    exact (Cert.ReferenceIdeal.Whole.start83 m' c s p d).trans ((by rw [hc] : _ = _).trans (W1_xt m c s p d).symm)
  · funext k q d
    exact (congrFun (Cert.ReferenceIdeal.Whole.start_args m' c Cert.ReferenceIdeal.main_arg8 (by decide)) (ix3 k q d)).trans
      ((congrFun h8 (ix3 k q d)).trans (congrFun (Cert.KernelIdeal.Whole.W1_args m c Cert.KernelIdeal.main_arg8 (by decide)) (ix3 k q d)).symm)
  · funext k d r
    exact (congrFun (Cert.ReferenceIdeal.Whole.start_args m' c Cert.ReferenceIdeal.main_arg10 (by decide)) (ix3 k d r)).trans
      ((congrFun h10 (ix3 k d r)).trans (congrFun (Cert.KernelIdeal.Whole.W1_args m c Cert.KernelIdeal.main_arg10 (by decide)) (ix3 k d r)).symm)
  · funext k d r
    exact (congrFun (Cert.ReferenceIdeal.Whole.start_args m' c Cert.ReferenceIdeal.main_arg11 (by decide)) (ix3 k d r)).trans
      ((congrFun h11 (ix3 k d r)).trans (congrFun (Cert.KernelIdeal.Whole.W1_args m c Cert.KernelIdeal.main_arg11 (by decide)) (ix3 k d r)).symm)
  · funext k d
    exact (congrFun (Cert.ReferenceIdeal.Whole.start_args m' c Cert.ReferenceIdeal.main_arg12 (by decide)) (ix2 k d)).trans
      ((congrFun h12 (ix2 k d)).trans (congrFun (Cert.KernelIdeal.Whole.W1_args m c Cert.KernelIdeal.main_arg12 (by decide)) (ix2 k d)).symm)
  · funext k d
    exact (congrFun (Cert.ReferenceIdeal.Whole.start_args m' c Cert.ReferenceIdeal.main_arg13 (by decide)) (ix2 k d)).trans
      ((congrFun h13 (ix2 k d)).trans (congrFun (Cert.KernelIdeal.Whole.W1_args m c Cert.KernelIdeal.main_arg13 (by decide)) (ix2 k d)).symm)
  · funext e n
    exact (congrFun (Cert.ReferenceIdeal.Whole.start_args m' c Cert.ReferenceIdeal.main_arg14 (by decide)) (ix2 e n)).trans
      ((congrFun h14 (ix2 e n)).trans (congrFun (Cert.KernelIdeal.Whole.W1_args m c Cert.KernelIdeal.main_arg14 (by decide)) (ix2 e n)).symm)
  · funext e n
    exact (congrFun (Cert.ReferenceIdeal.Whole.start_args m' c Cert.ReferenceIdeal.main_arg15 (by decide)) (ix2 e n)).trans
      ((congrFun h15 (ix2 e n)).trans (congrFun (Cert.KernelIdeal.Whole.W1_args m c Cert.KernelIdeal.main_arg15 (by decide)) (ix2 e n)).symm)
  · funext e
    exact (congrFun (Cert.ReferenceIdeal.Whole.start_args m' c Cert.ReferenceIdeal.main_arg16 (by decide)) (ix1 e)).trans
      ((congrFun h16 (ix1 e)).trans (congrFun (Cert.KernelIdeal.Whole.W1_args m c Cert.KernelIdeal.main_arg16 (by decide)) (ix1 e)).symm)
  · funext e
    exact (congrFun (Cert.ReferenceIdeal.Whole.start_args m' c Cert.ReferenceIdeal.main_arg17 (by decide)) (ix1 e)).trans
      ((congrFun h17 (ix1 e)).trans (congrFun (Cert.KernelIdeal.Whole.W1_args m c Cert.KernelIdeal.main_arg17 (by decide)) (ix1 e)).symm)

/-- The plain mathematics' scans by columns. -/
theorem ref_yt (V : Valuation Cert.ReferenceIdeal.τ Cert.ReferenceIdeal.sig (Elt Ideal)) (s e : Fin 2) (l : Fin 4096) (d : Fin 128) : (Cert.ReferenceIdeal.Norm.args V).yt s e l d
    = if e = 0 then Cert.ReferenceIdeal.Scan.ent Cert.ReferenceIdeal.S2x4096x128 (V (Proc.devRef .tc Cert.ReferenceIdeal.main_v153)) (ix3 s l d)
      else Cert.ReferenceIdeal.Scan.ent Cert.ReferenceIdeal.S2x4096x128 (V (Proc.devRef .tc Cert.ReferenceIdeal.main_v156)) (ix3 s l d) := rfl

/-- The last call's arrays are equal when what they are read of is. -/
theorem norm_of (V : Valuation Cert.ReferenceIdeal.τ Cert.ReferenceIdeal.sig (Elt Ideal)) (W : Dev Cert.KernelIdeal.nD → Valuation Cert.KernelIdeal.τ Cert.KernelIdeal.sig (Elt Ideal))
    (h1 : ∀ s e l d, Cert.ReferenceIdeal.Scan.ent Cert.ReferenceIdeal.S2x2x4096x128 (V (Proc.devRef .tc Cert.ReferenceIdeal.main_v151)) (ix4 s e l d) = (Cert.KernelIdeal.Norm.args W c).yf s e l d)
    (h2 : ∀ s l d, Cert.ReferenceIdeal.Scan.ent Cert.ReferenceIdeal.S2x4096x128 (V (Proc.devRef .tc Cert.ReferenceIdeal.main_v153)) (ix3 s l d) = (Cert.KernelIdeal.Norm.args W c).yt s 0 l d)
    (h3 : ∀ s l d, Cert.ReferenceIdeal.Scan.ent Cert.ReferenceIdeal.S2x4096x128 (V (Proc.devRef .tc Cert.ReferenceIdeal.main_v156)) (ix3 s l d) = (Cert.KernelIdeal.Norm.args W c).yt s 1 l d)
    (h4 : ∀ s l d, Cert.ReferenceIdeal.Scan.ent Cert.ReferenceIdeal.S2x4096x128 (V (Proc.devRef .tc Cert.ReferenceIdeal.main_v84)) (ix3 s l d) = (Cert.KernelIdeal.Norm.args W c).z s l d)
    (h18 : (V (Proc.devRef .tc Cert.ReferenceIdeal.main_arg18) : FVec Ideal Cert.KernelIdeal.S128 .f32) = W c (Proc.devRef .tc Cert.KernelIdeal.main_arg18)) (h19 : (V (Proc.devRef .tc Cert.ReferenceIdeal.main_arg19) : FVec Ideal Cert.KernelIdeal.S128 .f32) = W c (Proc.devRef .tc Cert.KernelIdeal.main_arg19)) (h20 : (V (Proc.devRef .tc Cert.ReferenceIdeal.main_arg20) : FVec Ideal Cert.KernelIdeal.S128 .f32) = W c (Proc.devRef .tc Cert.KernelIdeal.main_arg20)) (h21 : (V (Proc.devRef .tc Cert.ReferenceIdeal.main_arg21) : FVec Ideal Cert.KernelIdeal.S128 .f32) = W c (Proc.devRef .tc Cert.KernelIdeal.main_arg21)) (h22 : (V (Proc.devRef .tc Cert.ReferenceIdeal.main_arg22) : FVec Ideal Cert.KernelIdeal.S64x128 .f32) = W c (Proc.devRef .tc Cert.KernelIdeal.main_arg22)) (h23 : (V (Proc.devRef .tc Cert.ReferenceIdeal.main_arg23) : FVec Ideal Cert.KernelIdeal.S64x128 .f32) = W c (Proc.devRef .tc Cert.KernelIdeal.main_arg23)) :
    Cert.ReferenceIdeal.Norm.args V = Cert.KernelIdeal.Norm.args W c := by
  refine norm_ext ?_ ?_ ?_ ?_ ?_ ?_ ?_ ?_ ?_
  · funext s e l d; exact h1 s e l d
  · funext s e l d
    obtain rfl | rfl : e = 0 ∨ e = 1 := by omega
    · exact (ref_yt V s 0 l d).trans ((if_pos rfl).trans (h2 s l d))
    · exact (ref_yt V s 1 l d).trans ((if_neg one_ne_zero).trans (h3 s l d))
  · funext s l d; exact h4 s l d
  · funext d; exact congrFun h18 (ix1 d)
  · funext d; exact congrFun h19 (ix1 d)
  · funext d; exact congrFun h20 (ix1 d)
  · funext d; exact congrFun h21 (ix1 d)
  · funext o d; exact congrFun h22 (ix2 o d)
  · funext o d; exact congrFun h23 (ix2 o d)

/-- The last call's. -/
theorem norm_args (hc : Cert.ReferenceIdeal.Conv.args (StableHlo.launchContents m' c) = Cert.KernelIdeal.Conv.args (Cert.KernelIdeal.Whole.W0 m) c)
    (hs : Cert.ReferenceIdeal.Scan.ar (Cert.ReferenceIdeal.Scan.start m' c) = Cert.KernelIdeal.Scan.args (Cert.KernelIdeal.Whole.W1 m) c)
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Norm.args (Cert.ReferenceIdeal.Scan.mid m' c) = Cert.KernelIdeal.Norm.args (Cert.KernelIdeal.Whole.W2 m) c :=
  norm_of c _ _
    (fun s e l d => (Cert.ReferenceIdeal.Scan.mid151 m' c s e l d).trans ((by rw [hs] : _ = _).trans (W2_yf m c s e l d).symm))
    (fun s l d => (Cert.ReferenceIdeal.Scan.mid153 m' c s l d).trans ((by rw [hs] : _ = _).trans (W2_yt m c s 0 l d).symm))
    (fun s l d => (Cert.ReferenceIdeal.Scan.mid156 m' c s l d).trans ((by rw [hs] : _ = _).trans (W2_yt m c s 1 l d).symm))
    (fun s l d => (Cert.ReferenceIdeal.Whole.mid84 m' c s l d).trans ((by rw [hc] : _ = _).trans (W2_z m c s l d).symm))
    ((Cert.ReferenceIdeal.Whole.mid_args m' c Cert.ReferenceIdeal.main_arg18 (by decide)).trans (h18.trans (Cert.KernelIdeal.Whole.W2_args m c Cert.KernelIdeal.main_arg18 (by decide)).symm))
    ((Cert.ReferenceIdeal.Whole.mid_args m' c Cert.ReferenceIdeal.main_arg19 (by decide)).trans (h19.trans (Cert.KernelIdeal.Whole.W2_args m c Cert.KernelIdeal.main_arg19 (by decide)).symm))
    ((Cert.ReferenceIdeal.Whole.mid_args m' c Cert.ReferenceIdeal.main_arg20 (by decide)).trans (h20.trans (Cert.KernelIdeal.Whole.W2_args m c Cert.KernelIdeal.main_arg20 (by decide)).symm))
    ((Cert.ReferenceIdeal.Whole.mid_args m' c Cert.ReferenceIdeal.main_arg21 (by decide)).trans (h21.trans (Cert.KernelIdeal.Whole.W2_args m c Cert.KernelIdeal.main_arg21 (by decide)).symm))
    ((Cert.ReferenceIdeal.Whole.mid_args m' c Cert.ReferenceIdeal.main_arg22 (by decide)).trans (h22.trans (Cert.KernelIdeal.Whole.W2_args m c Cert.KernelIdeal.main_arg22 (by decide)).symm))
    ((Cert.ReferenceIdeal.Whole.mid_args m' c Cert.ReferenceIdeal.main_arg23 (by decide)).trans (h23.trans (Cert.KernelIdeal.Whole.W2_args m c Cert.KernelIdeal.main_arg23 (by decide)).symm))

end Cert.Proof

end
-- ==== Proof.PreValue.lean ====
/- The three arrays that the first call returns when it is a program of its own, from its arguments. -/
module

public import proofs.«01_k».proof.Proof.ConvValue
public import proofs.«01_k».proof.Proof.Gen.PreIdeal.Frame
public import Idealize.ShloMosaic.Lib.Claim

@[expose] public section

set_option maxRecDepth 16384

noncomputable section

namespace Cert.PreIdeal.Conv

open Cert.PreIdeal Cert.PreIdeal.Gen
open Idealize.ShloMosaic Idealize.ShloMosaic.TcCoe
open Cert.KernelIdeal.Conv (Ar shift tap conv gate proj lo hi row col row3 col3 img)

variable (m : (ℓ : Loc nD τ sig) → Buf (Elt Ideal) ℓ) (c : Dev nD)

/-- The arguments as launched. -/
def args : Ar where
  x0 h j e := m ((c : Thread nD τ).loc main_arg0) (ix4 0 h j e)
  x1 h j e := m ((c : Thread nD τ).loc main_arg1) (ix4 0 h j e)
  w0 q e := m ((c : Thread nD τ).loc main_arg2) (ix2 q e)
  w1 q e := m ((c : Thread nD τ).loc main_arg3) (ix2 q e)
  k0 n d := m ((c : Thread nD τ).loc main_arg4) (ix4 d 0 (row3 n) (col3 n))
  b0 d := m ((c : Thread nD τ).loc main_arg5) (ix1 d)
  k1 n d := m ((c : Thread nD τ).loc main_arg6) (ix4 d 0 (row3 n) (col3 n))
  b1 d := m ((c : Thread nD τ).loc main_arg7) (ix1 d)

/-! ## The points and their blocks -/

/-- A point's branch. -/
def sOf (t : Fin cfg0.N) : Fin 2 := ⟨t.val, t.isLt⟩

theorem index0 : ∀ t : Fin cfg0.N, win0_0.index t = ![t.val, 0, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

theorem V_v4 (s : Fin 2) (h j e : Fin 64) : V m c main_v4 (ix4 s h j e) = (args m c).x s h j e := by
  obtain rfl | rfl : s = 0 ∨ s = 1 := by omega
  all_goals (unfold Ar.x args; entry_read; pointwise []; try rfl)
theorem blk0 (t : Fin cfg0.N) (h j e : Fin 64) : iblk m c 0 t (ix4 0 h j e) = (args m c).x (sOf t) h j e := by
  blk_simp [iblk]
  refine (congrArg (V m c main_v4) (?_ : _ = ix4 (sOf t) h j e)).trans (V_v4 m c _ h j e)
  blk_ext [index0, sOf]
theorem V_v7 (s : Fin 2) (q : Fin 256) (e : Fin 64) : V m c main_v7 (ix3 s q e) = (args m c).w s q e := by
  obtain rfl | rfl : s = 0 ∨ s = 1 := by omega
  all_goals (unfold Ar.w args; entry_read; pointwise []; try rfl)
theorem blk1 (t : Fin cfg0.N) (q : Fin 256) (e : Fin 64) : iblk m c 1 t (ix3 0 q e) = (args m c).w (sOf t) q e := by
  blk_simp [iblk]
  refine (congrArg (V m c main_v7) (?_ : _ = ix3 (sOf t) q e)).trans (V_v7 m c _ q e)
  blk_ext [index1, sOf]
theorem V_v14 (s : Fin 2) (n : Fin 9) (d : Fin 128) : V m c main_v14 (ix3 s n d) = (args m c).k s n d := by
  obtain rfl | rfl : s = 0 ∨ s = 1 := by omega
  all_goals (unfold Ar.k args row3 col3; entry_read; pointwise []; try rfl)
theorem blk2 (t : Fin cfg0.N) (n : Fin 9) (d : Fin 128) : iblk m c 2 t (ix3 0 n d) = (args m c).k (sOf t) n d := by
  blk_simp [iblk]
  refine (congrArg (V m c main_v14) (?_ : _ = ix3 (sOf t) n d)).trans (V_v14 m c _ n d)
  blk_ext [index2, sOf]
theorem V_v18 (s : Fin 2) (d : Fin 128) : V m c main_v18 (ix3 s 0 d) = (args m c).b s d := by
  obtain rfl | rfl : s = 0 ∨ s = 1 := by omega
  all_goals (unfold Ar.b args; entry_read; pointwise []; try rfl)
theorem blk3 (t : Fin cfg0.N) (d : Fin 128) : iblk m c 3 t (ix3 0 0 d) = (args m c).b (sOf t) d := by
  blk_simp [iblk]
  refine (congrArg (V m c main_v18) (?_ : _ = ix3 (sOf t) 0 d)).trans (V_v18 m c _ d)
  blk_ext [index3, sOf]

/-! ## The results -/

section blocks
variable (x : Vec Ideal S1x64x64x64 .f32) (w : Vec Ideal S1x256x64 .f32) (k : Vec Ideal S1x9x128 .f32) (b : Vec Ideal S1x1x128 .f32)

/-- A block of each array, from the blocks it is computed of: the body is the whole program's. -/
theorem out4_at (l : Fin 4096) (d : Fin 128) :
    out0_4 (F := Ideal) x w k b (ix3 0 l d) = gate (conv (img x w d) (fun n => k (ix3 0 n d)) (b (ix3 0 0 d)) (row l) (col l)) :=
  Cert.KernelIdeal.Conv.out4_at x w k b l d
theorem out5_at (l : Fin 4096) (d : Fin 128) :
    out0_5 (F := Ideal) x w k b (ix3 0 l d) = gate (conv (img x w d) (fun n => k (ix3 0 n d)) (b (ix3 0 0 d)) (col l) (row l)) :=
  Cert.KernelIdeal.Conv.out5_at x w k b l d
theorem out6_at (l : Fin 4096) (d : Fin 128) :
    out0_6 (F := Ideal) x w k b (ix3 0 l d) = proj (fun h j e => x (ix4 0 h j e)) (fun q e => w (ix3 0 q e)) (hi d) (row l) (col l) :=
  Cert.KernelIdeal.Conv.out6_at x w k b l d
end blocks

theorem conv_blk (t : Fin cfg0.N) (d : Fin 128) (h j : Fin 64) :
    gate (conv (img (iblk m c 0 t) (iblk m c 1 t) d) (fun n => iblk m c 2 t (ix3 0 n d)) (iblk m c 3 t (ix3 0 0 d)) h j)
      = (args m c).act (sOf t) h j d := by
  unfold img Ar.act
  simp only [blk0, blk1, blk2, blk3]

/-- The first array after the run: the gated sums by rows. -/
theorem final4 : (dats m 0 c).arrAt 4 cfg0.N = fun i : S2x4096x128.Idx => (args m c).act (i 0) (row (i 1)) (col (i 1)) (i 2) := by
  refine (dats m 0 c).arrAt_eq_of_covers 4 _ (by decide +kernel) fun t hf y => ?_
  blk_simp
  rw [after0_4]
  change S1x4096x128.Idx at y
  obtain ⟨l, d, rfl⟩ : ∃ (l : Fin 4096) (d : Fin 128), y = ix3 0 l d := ⟨y 1, y 2, by idx_ext⟩
  have e : (win0_4.blk t).view.emb (ix3 0 l d) = ix3 (sOf t) l d := by blk_ext [index4, sOf]
  rw [e]
  exact (out4_at _ _ _ _ l d).trans (conv_blk m c t d _ _)
/-- The second: by columns. -/
theorem final5 : (dats m 0 c).arrAt 5 cfg0.N = fun i : S2x4096x128.Idx => (args m c).act (i 0) (col (i 1)) (row (i 1)) (i 2) := by
  refine (dats m 0 c).arrAt_eq_of_covers 5 _ (by decide +kernel) fun t hf y => ?_
  blk_simp
  rw [after0_5]
  change S1x4096x128.Idx at y
  obtain ⟨l, d, rfl⟩ : ∃ (l : Fin 4096) (d : Fin 128), y = ix3 0 l d := ⟨y 1, y 2, by idx_ext⟩
  have e : (win0_5.blk t).view.emb (ix3 0 l d) = ix3 (sOf t) l d := by blk_ext [index5, sOf]
  rw [e]
  exact (out5_at _ _ _ _ l d).trans (conv_blk m c t d _ _)
/-- The third: the projection's second half. -/
theorem final6 : (dats m 0 c).arrAt 6 cfg0.N = fun i : S2x4096x128.Idx => (args m c).z (i 0) (row (i 1)) (col (i 1)) (i 2) := by
  refine (dats m 0 c).arrAt_eq_of_covers 6 _ (by decide +kernel) fun t hf y => ?_
  blk_simp
  rw [after0_6]
  change S1x4096x128.Idx at y
  obtain ⟨l, d, rfl⟩ : ∃ (l : Fin 4096) (d : Fin 128), y = ix3 0 l d := ⟨y 1, y 2, by idx_ext⟩
  have e : (win0_6.blk t).view.emb (ix3 0 l d) = ix3 (sOf t) l d := by blk_ext [index6, sOf]
  rw [e]
  refine (out6_at _ _ _ _ l d).trans ?_
  show _ = proj ((args m c).x (sOf t)) ((args m c).w (sOf t)) (hi d) (row l) (col l)
  simp only [blk0, blk1]

end Cert.PreIdeal.Conv
-- ==== Proof.PostValue.lean ====
/- The array that the last call returns when it is a program of its own, from its arguments. -/
module

public import proofs.«01_k».proof.Proof.NormValue
public import proofs.«01_k».proof.Proof.Gen.PostIdeal.Frame
public import Idealize.ShloMosaic.Lib.Claim

@[expose] public section

set_option maxRecDepth 16384

noncomputable section

namespace Cert.PostIdeal.Norm

open Cert.PostIdeal Cert.PostIdeal.Gen
open Idealize.ShloMosaic Idealize.ShloMosaic.TcCoe
open Cert.KernelIdeal.Norm (Ar turn entry rowSum)

variable (m : (ℓ : Loc nD τ sig) → Buf (Elt Ideal) ℓ) (c : Dev nD)

/-- The arguments as launched. -/
def args : Ar where
  yf s e l d := m ((c : Thread nD τ).loc main_arg0) (ix4 s e l d)
  yt s e l d := m ((c : Thread nD τ).loc main_arg1) (ix4 s e l d)
  z s l d := m ((c : Thread nD τ).loc main_arg2) (ix3 s l d)
  g0 d := m ((c : Thread nD τ).loc main_arg3) (ix1 d)
  b0 d := m ((c : Thread nD τ).loc main_arg4) (ix1 d)
  g1 d := m ((c : Thread nD τ).loc main_arg5) (ix1 d)
  b1 d := m ((c : Thread nD τ).loc main_arg6) (ix1 d)
  w0 o d := m ((c : Thread nD τ).loc main_arg7) (ix2 o d)
  w1 o d := m ((c : Thread nD τ).loc main_arg8) (ix2 o d)

/-! ## The points and their blocks -/

/-- A point's branch. -/
def sOf (t : Fin cfg0.N) : Fin 2 := ⟨t.val / 4, by have : t.val < 8 := t.isLt; omega⟩
/-- A row of a point's blocks in the arrays. -/
def rowAt (t : Fin cfg0.N) (p : Fin 1024) : Fin 4096 := ⟨1024 * (t.val % 4) + p.val, by omega⟩

theorem index0 : ∀ t : Fin cfg0.N, win0_0.index t = ![t.val / 4, 0, t.val % 4, 0] := (by decide +kernel : ∀ t : Fin grid0.N, _)
theorem index1 : ∀ t : Fin cfg0.N, win0_1.index t = ![t.val / 4, 0, 0, t.val % 4, 0] := (by decide +kernel : ∀ t : Fin grid0.N, _)
theorem index2 : ∀ t : Fin cfg0.N, win0_2.index t = ![t.val / 4, t.val % 4, 0] := (by decide +kernel : ∀ t : Fin grid0.N, _)
theorem index3 : ∀ t : Fin cfg0.N, win0_3.index t = ![t.val / 4, 0, 0] := (by decide +kernel : ∀ t : Fin grid0.N, _)
theorem index4 : ∀ t : Fin cfg0.N, win0_4.index t = ![t.val / 4, 0, 0] := (by decide +kernel : ∀ t : Fin grid0.N, _)
theorem index5 : ∀ t : Fin cfg0.N, win0_5.index t = ![t.val / 4, 0, 0] := (by decide +kernel : ∀ t : Fin grid0.N, _)
theorem index6 : ∀ t : Fin cfg0.N, win0_6.index t = ![t.val / 4, t.val % 4, 0] := (by decide +kernel : ∀ t : Fin grid0.N, _)

theorem blk0 (t : Fin cfg0.N) (e : Fin 2) (p : Fin 1024) (d : Fin 128) : iblk m c 0 t (ix4 0 e p d) = (args m c).yf (sOf t) e (rowAt t p) d := by
  blk_simp [iblk]
  rw [V_main_arg0]
  refine congrArg (m ((c : Thread nD τ).loc main_arg0)) (?_ : _ = ix4 (sOf t) e (rowAt t p) d)
  blk_ext [index0, rowAt, sOf]
theorem V_v0 (s e : Fin 2) (q h : Fin 64) (d : Fin 128) :
    V m c main_v0 (ix5 s e q h d) = m ((c : Thread nD τ).loc main_arg1) (ix4 s e (⟨q.val * 64 + h.val, by omega⟩ : Fin 4096) d) := by
  entry_read; pointwise []
theorem blk1 (t : Fin cfg0.N) (e : Fin 2) (p : Fin 1024) (d : Fin 128) :
    iblk m c 1 t (ix5 0 e (⟨p.val % 64, by omega⟩ : Fin 64) (⟨p.val / 64, by omega⟩ : Fin 16) d) = (args m c).yt (sOf t) e (turn (rowAt t p)) d := by
  blk_simp [iblk]
  refine (congrArg (V m c main_v0) (?_ : _ = ix5 (sOf t) e (⟨p.val % 64, by omega⟩ : Fin 64) (⟨16 * (t.val % 4) + p.val / 64, by omega⟩ : Fin 64) d)).trans ?_
  · blk_ext [index1, sOf]
  · refine (V_v0 m c _ _ _ _ d).trans (congrArg (m ((c : Thread nD τ).loc main_arg1)) ?_)
    refine congrArg (fun l => ix4 (sOf t) e l d) (Fin.ext ?_)
    unfold turn rowAt
    dsimp only
    omega
theorem blk2 (t : Fin cfg0.N) (p : Fin 1024) (d : Fin 128) : iblk m c 2 t (ix3 0 p d) = (args m c).z (sOf t) (rowAt t p) d := by
  blk_simp [iblk]
  rw [V_main_arg2]
  refine congrArg (m ((c : Thread nD τ).loc main_arg2)) (?_ : _ = ix3 (sOf t) (rowAt t p) d)
  blk_ext [index2, rowAt, sOf]
theorem V_v4 (s : Fin 2) (d : Fin 128) : V m c main_v4 (ix3 s 0 d) = (args m c).g s d := by
  obtain rfl | rfl : s = 0 ∨ s = 1 := by omega
  all_goals (unfold Ar.g args; entry_read; pointwise []; try rfl)
theorem blk3 (t : Fin cfg0.N) (d : Fin 128) : iblk m c 3 t (ix3 0 0 d) = (args m c).g (sOf t) d := by
  blk_simp [iblk]
  refine (congrArg (V m c main_v4) (?_ : _ = ix3 (sOf t) 0 d)).trans (V_v4 m c _ d)
  blk_ext [index3, sOf]
theorem V_v8 (s : Fin 2) (d : Fin 128) : V m c main_v8 (ix3 s 0 d) = (args m c).b s d := by
  obtain rfl | rfl : s = 0 ∨ s = 1 := by omega
  all_goals (unfold Ar.b args; entry_read; pointwise []; try rfl)
theorem blk4 (t : Fin cfg0.N) (d : Fin 128) : iblk m c 4 t (ix3 0 0 d) = (args m c).b (sOf t) d := by
  blk_simp [iblk]
  refine (congrArg (V m c main_v8) (?_ : _ = ix3 (sOf t) 0 d)).trans (V_v8 m c _ d)
  blk_ext [index4, sOf]
theorem V_v11 (s : Fin 2) (o : Fin 64) (d : Fin 128) : V m c main_v11 (ix3 s o d) = (args m c).w s o d := by
  obtain rfl | rfl : s = 0 ∨ s = 1 := by omega
  all_goals (unfold Ar.w args; entry_read; pointwise []; try rfl)
theorem blk5 (t : Fin cfg0.N) (o : Fin 64) (d : Fin 128) : iblk m c 5 t (ix3 0 o d) = (args m c).w (sOf t) o d := by
  blk_simp [iblk]
  refine (congrArg (V m c main_v11) (?_ : _ = ix3 (sOf t) o d)).trans (V_v11 m c _ o d)
  blk_ext [index5, sOf]

/-! ## The result -/

/-- A block of the result, from the blocks it is computed of: the body is the whole program's. -/
theorem out6_at (x0 : Vec Ideal S1x2x1024x128 .f32) (x1 : Vec Ideal S1x2x64x16x128 .f32) (x2 : Vec Ideal S1x1024x128 .f32) (x3 x4 : Vec Ideal S1x1x128 .f32)
    (x5 : Vec Ideal S1x64x128 .f32) (p : Fin 1024) (o : Fin 64) :
    out0_6 (F := Ideal) x0 x1 x2 x3 x4 x5 (ix3 0 p o)
      = entry (rowSum x0 x1 p) (fun d => x3 (ix3 0 0 d)) (fun d => x4 (ix3 0 0 d)) (fun d => x2 (ix3 0 p d)) (fun d => x5 (ix3 0 o d)) :=
  Cert.KernelIdeal.Norm.out6_at x0 x1 x2 x3 x4 x5 p o

/-- The array after the run. -/
theorem final6 : (dats m 0 c).arrAt 6 cfg0.N = fun i : S2x4096x64.Idx => (args m c).out (i 0) (i 1) (i 2) := by
  refine (dats m 0 c).arrAt_eq_of_covers 6 _ (by decide +kernel) fun t hf y => ?_
  blk_simp
  rw [after0_6]
  change S1x1024x64.Idx at y
  obtain ⟨p, o, rfl⟩ : ∃ (p : Fin 1024) (o : Fin 64), y = ix3 0 p o := ⟨y 1, y 2, by idx_ext⟩
  refine (out6_at _ _ _ _ _ _ p o).trans ?_
  have e : (win0_6.blk t).view.emb (ix3 0 p o) = ix3 (sOf t) (rowAt t p) o := by
    blk_ext [index6, rowAt, sOf]
  rw [e]
  show entry _ _ _ _ _ = (args m c).out (sOf t) (rowAt t p) o
  unfold Ar.out
  congr 1
  · funext d; unfold rowSum Ar.row; simp only [blk0, blk1]
  · funext d; exact blk3 m c t d
  · funext d; exact blk4 m c t d
  · funext d; exact blk2 m c t p d
  · funext d; exact blk5 m c t o d

end Cert.PostIdeal.Norm
-- ==== Proof.PreRef.lean ====
/- The plain mathematics of the first call on its own, read at an index. -/
module

public import proofs.«01_k».proof.Proof.RefConv
public import proofs.«01_k».proof.Proof.Gen.PreReferenceIdeal.Run
public import Idealize.ShloMosaic.Lib.Quiescent

@[expose] public section

set_option maxRecDepth 16384

noncomputable section

namespace Cert.PreReferenceIdeal.Conv

open Cert.PreReferenceIdeal Cert.PreReferenceIdeal.Gen Cert.PreReferenceIdeal.Value
open Idealize.ShloMosaic Idealize.ShloMosaic.TcCoe Idealize.SL.Sem
open Cert.KernelIdeal.Conv (Ar proj lo hi row col)
open Cert.ReferenceIdeal.Conv (xz total entries xz_entries total_at)

variable (m : (ℓ : Loc nD τ sig) → Buf (Elt Ideal) ℓ) (c : Dev nD)

/-- The arguments as launched. -/
def args : Ar :=
  entries (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The projection of the arguments. -/
def us : FVec Ideal S2x64x64x256 .f32 :=
  xz (m ((c : Thread nD τ).loc main_arg0)) (m ((c : Thread nD τ).loc main_arg1)) (m ((c : Thread nD τ).loc main_arg2)) (m ((c : Thread nD τ).loc main_arg3))
/-- The gated sums of the arguments. -/
def acts : FVec Ideal S2x64x64x128 .f32 :=
  total (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem us_at (s : Fin 2) (h j : Fin 64) (q : Fin 256) : us m c (ix4 s h j q) = proj ((args m c).x s) ((args m c).w s) q h j :=
  xz_entries _ _ _ _ (m ((c : Thread nD τ).loc main_arg4)) (m ((c : Thread nD τ).loc main_arg5)) (m ((c : Thread nD τ).loc main_arg6)) (m ((c : Thread nD τ).loc main_arg7)) s h j q
theorem acts_at (s : Fin 2) (h j : Fin 64) (d : Fin 128) : acts m c (ix4 s h j d) = (args m c).act s h j d :=
  total_at _ _ _ _ _ _ _ _ s h j d

theorem res0_eq : res_out0 (F := Ideal) m c = shapeCast _ (acts m c) shapeCasts_S2x64x64x128_S2x4096x128 := rfl
theorem res1_eq : res_out1 (F := Ideal) m c = shapeCast _ (transpose S2x64x64x128 [0, 2, 1, 3] (acts m c) transposes_S2x64x64x128_S2x64x64x128_0_2_1_3) shapeCasts_S2x64x64x128_S2x4096x128 := rfl
/-- The third result. -/
def res_z : FVec Ideal S2x4096x128 .f32 :=
  shapeCast _ (extractStridedSlice S2x64x64x128 ![0, 0, 0, 128] (us m c) slices_S2x64x64x256_S2x64x64x128_0_0_0_128) shapeCasts_S2x64x64x128_S2x4096x128

/-- The results at an index. -/
theorem res0_at (s : Fin 2) (l : Fin 4096) (d : Fin 128) : res_out0 (F := Ideal) m c (ix3 s l d) = (args m c).act s (row l) (col l) d := by
  rw [res0_eq, ← acts_at]
  unfold row col
  pointwise []
theorem res1_at (s : Fin 2) (l : Fin 4096) (d : Fin 128) : res_out1 (F := Ideal) m c (ix3 s l d) = (args m c).act s (col l) (row l) d := by
  rw [res1_eq, ← acts_at]
  unfold row col
  pointwise []
theorem res2_at (s : Fin 2) (l : Fin 4096) (d : Fin 128) : res_z m c (ix3 s l d) = (args m c).z s (row l) (col l) d := by
  unfold Ar.z
  rw [← us_at]
  unfold res_z row col hi
  pointwise []

end Cert.PreReferenceIdeal.Conv
-- ==== Proof.PostRef.lean ====
/- The plain mathematics of the last call on its own, read at an index. -/
module

public import proofs.«01_k».proof.Proof.RefNorm
public import proofs.«01_k».proof.Proof.Gen.PostReferenceIdeal.Run
public import Idealize.ShloMosaic.Lib.Quiescent

@[expose] public section

set_option maxRecDepth 16384

noncomputable section

namespace Cert.PostReferenceIdeal.Norm

open Cert.PostReferenceIdeal Cert.PostReferenceIdeal.Gen Cert.PostReferenceIdeal.Value
open Idealize.ShloMosaic Idealize.ShloMosaic.TcCoe Idealize.SL.Sem
open Cert.KernelIdeal.Norm (Ar)
open Cert.ReferenceIdeal.Norm (turned rows means varis normed gates outs turned_at rows_at means_at varis_at normed_at gates_at outs_at)

variable (m : (ℓ : Loc nD τ sig) → Buf (Elt Ideal) ℓ) (c : Dev nD)

/-- The arguments as launched. -/
def args : Ar where
  yf s e l d := m ((c : Thread nD τ).loc main_arg0) (ix4 s e l d)
  yt s e l d := m ((c : Thread nD τ).loc main_arg1) (ix4 s e l d)
  z s l d := m ((c : Thread nD τ).loc main_arg2) (ix3 s l d)
  g0 d := m ((c : Thread nD τ).loc main_arg3) (ix1 d)
  b0 d := m ((c : Thread nD τ).loc main_arg4) (ix1 d)
  g1 d := m ((c : Thread nD τ).loc main_arg5) (ix1 d)
  b1 d := m ((c : Thread nD τ).loc main_arg6) (ix1 d)
  w0 o d := m ((c : Thread nD τ).loc main_arg7) (ix2 o d)
  w1 o d := m ((c : Thread nD τ).loc main_arg8) (ix2 o d)

/-- The result's rows. -/
def xs : FVec Ideal S2x4096x128 .f32 :=
  rows (m ((c : Thread nD τ).loc main_arg0)) (turned (m ((c : Thread nD τ).loc main_arg1)))

theorem xs_at (s : Fin 2) (l : Fin 4096) (d : Fin 128) : xs m c (ix3 s l d) = (args m c).row s l d := by
  unfold xs
  rw [rows_at]
  simp only [turned_at]
  rfl

theorem res_eq : res_out0 (F := Ideal) m c = outs (m ((c : Thread nD τ).loc main_arg7)) (m ((c : Thread nD τ).loc main_arg8))
    (normed (m ((c : Thread nD τ).loc main_arg3)) (m ((c : Thread nD τ).loc main_arg4)) (m ((c : Thread nD τ).loc main_arg5)) (m ((c : Thread nD τ).loc main_arg6)) (xs m c) (means (xs m c)) (varis (xs m c) (means (xs m c))))
    (gates (m ((c : Thread nD τ).loc main_arg2))) := rfl

/-- The result at an index. -/
theorem res_at (s : Fin 2) (l : Fin 4096) (o : Fin 64) : res_out0 (F := Ideal) m c (ix3 s l o) = (args m c).out s l o := by
  rw [res_eq, outs_at]
  simp only [normed_at, gates_at]
  rw [varis_at, means_at]
  simp only [xs_at]
  rfl

end Cert.PostReferenceIdeal.Norm
-- ==== Proof.lean ====
/- The proof of every claim about the whole kernel, and about its first and its last call on their own: each program and its
   reference run without fault and leave their arguments and every counter as they were, the idealized program is the program's
   own text, and over the extended reals its results are its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KWhole
public import proofs.«01_k».proof.Proof.Agree
public import proofs.«01_k».proof.Proof.PreValue
public import proofs.«01_k».proof.Proof.PostValue
public import proofs.«01_k».proof.Proof.PreRef
public import proofs.«01_k».proof.Proof.PostRef
public import proofs.«01_k».proof.Proof.Gen.Pre.Frame
public import proofs.«01_k».proof.Proof.Gen.Post.Frame
public import Idealize.ShloMosaic.Lib.Claim
public import Idealize.ShloMosaic.Lib.Pipeline.Quiescent

@[expose] public section

noncomputable section

set_option maxRecDepth 16384

namespace Cert.Proof

open Idealize.ShloMosaic Idealize.SL.Sem Cert.Kernel

/-- What holds of every member of a list, one by one. -/
theorem each {α : Type*} {l : List α} {p : α → Prop} (h : ∀ a ∈ l, p a) : l.Forall p := List.forall_iff_forall_mem.mpr h

/-- The kernel runs, keeps its arguments and ends with every counter at zero. -/
theorem frameP : Cert.quiescent_Kernel := fun m ρ _ => by
  refine (θ_run _ _ _).mono (fun _ h => ?_) (Cert.Kernel.Whole.run_main m ρ)
  exact ⟨fun c => (each (h.1 c).2.2 :), h.2⟩

/-- So does its idealization. -/
theorem framePI : Cert.quiescent_KernelIdeal := fun m ρ _ => by
  refine (θ_run _ _ _).mono (fun _ h => ?_) (Cert.KernelIdeal.Whole.run_main m ρ)
  exact ⟨fun c => (each (h.1 c).2.2 :), h.2⟩

/-- So does the reference. -/
theorem frameRI : Cert.quiescent_ReferenceIdeal := fun m ρ _ => by
  refine (θ_run _ _ _).mono (fun _ h => ?_) (Cert.ReferenceIdeal.Whole.run_ref m ρ)
  exact ⟨fun c => (each (h.1 c).2.2 :), h.2⟩

/-- Over the extended reals the kernel's results are the reference's. -/
theorem algebraic : Cert.algebraic_KernelIdeal_ReferenceIdeal := by
  intro m g m' g' _ hagree
  refine ⟨fun c => Cert.KernelIdeal.Whole.W4 m c (Proc.devRef .tc Cert.KernelIdeal.main_v44),
    fun c => Cert.KernelIdeal.Whole.W4 m c (Proc.devRef .tc Cert.KernelIdeal.main_v47), ?_, ?_⟩
  · refine (θ_run _ _ _).mono (fun _ h c => ?_) (Cert.KernelIdeal.Whole.run_main m g)
    exact ⟨(h.1 c).1, (h.1 c).2.1, (each (h.1 c).2.2 :)⟩
  · refine (θ_run _ _ _).mono (fun _ h c => ?_) (Cert.ReferenceIdeal.Whole.run_ref m' g')
    obtain ⟨h0, h1, h2, h3, h4, h5, h6, h7, h8, -, h10, h11, h12, h13, h14, h15, h16, h17, h18, h19, h20, h21, h22, h23⟩ := hagree c
    have hc := conv_args m m' c h0 h1 h2 h3 h4 h5 h6 h7
    have hs := scan_args m m' c hc h8 h10 h11 h12 h13 h14 h15 h16 h17
    have hn := norm_args m m' c hc hs h18 h19 h20 h21 h22 h23
    obtain ⟨hr, hr', hk⟩ := h.1 c
    rw [hn] at hr hr'
    exact ⟨hr.trans (out0 m c).symm, hr'.trans (out1 m c).symm, (each hk :)⟩

/-- Two arrays of rank three agree when their entries do. -/
theorem by_rows {a b n : ℕ} {v w : Shape.Idx ⟨3, ![a, b, n]⟩ → EReal} (h : ∀ s l d, v (ix3 s l d) = w (ix3 s l d)) : v = w := by
  funext i
  obtain ⟨s, l, d, rfl⟩ : ∃ s l d, i = ix3 s l d := ⟨i 0, i 1, i 2, by idx_ext⟩
  exact h s l d

/-! ## The first call -/

/-- The first call runs, keeps its arguments and ends with every counter at zero. -/
theorem framePre : Cert.quiescent_Pre := fun m ρ _ => Cert.Pre.Gen.frame m ρ

/-- So does its idealization. -/
theorem framePreIdeal : Cert.quiescent_PreIdeal := fun m ρ _ => Cert.PreIdeal.Gen.frame m ρ

/-- So does the reference. -/
theorem framePreReferenceIdeal : Cert.quiescent_PreReferenceIdeal := fun m ρ _ =>
  (θ_run _ _ _).mono (fun r h => ⟨fun c => (h c).2.2.2, sem_eq_zero_of_no_sems rfl r.2⟩) (Cert.PreReferenceIdeal.Value.run (F := Ideal) m ρ)

/-- Over the extended reals the first call's three results are its reference's. -/
theorem algebraicPre : Cert.algebraic_PreIdeal_PreReferenceIdeal := by
  pair_intro
  · run_from Cert.PreIdeal.Gen.run_main m g
  · refine (θ_run _ _ _).mono (fun r h c => ?_) (Cert.PreReferenceIdeal.Value.run (F := Ideal) m' g')
    have e : Cert.PreReferenceIdeal.Conv.args m' c = Cert.PreIdeal.Conv.args m c := by
      obtain ⟨h0, h1, h2, h3, h4, h5, h6, h7⟩ := hagree c
      unfold Cert.PreReferenceIdeal.Conv.args Cert.PreIdeal.Conv.args Cert.ReferenceIdeal.Conv.entries
      congr 1
      · funext h j e; exact congrFun h0 (ix4 0 h j e)
      · funext h j e; exact congrFun h1 (ix4 0 h j e)
      · funext q e; exact congrFun h2 (ix2 q e)
      · funext q e; exact congrFun h3 (ix2 q e)
      · funext n d; exact congrFun h4 (ix4 d 0 _ _)
      · funext n d; exact congrFun h6 (ix4 d 0 _ _)
      · funext d; exact congrFun h5 (ix1 d)
      · funext d; exact congrFun h7 (ix1 d)
    obtain ⟨h0, h1, h2, hk⟩ := h c
    refine ⟨h0.trans ?_, h1.trans ?_, h2.trans ?_, hk⟩
    · rw [Cert.PreIdeal.Conv.final4 m c, ← e]
      exact by_rows fun s l d => Cert.PreReferenceIdeal.Conv.res0_at m' c s l d
    · rw [Cert.PreIdeal.Conv.final5 m c, ← e]
      exact by_rows fun s l d => Cert.PreReferenceIdeal.Conv.res1_at m' c s l d
    · rw [Cert.PreIdeal.Conv.final6 m c, ← e]
      exact by_rows fun s l d => Cert.PreReferenceIdeal.Conv.res2_at m' c s l d

/-! ## The last call -/

/-- The last call runs, keeps its arguments and ends with every counter at zero. -/
theorem framePost : Cert.quiescent_Post := fun m ρ _ => Cert.Post.Gen.frame m ρ

/-- So does its idealization. -/
theorem framePostIdeal : Cert.quiescent_PostIdeal := fun m ρ _ => Cert.PostIdeal.Gen.frame m ρ

/-- So does the reference. -/
theorem framePostReferenceIdeal : Cert.quiescent_PostReferenceIdeal := fun m ρ _ =>
  (θ_run _ _ _).mono (fun r h => ⟨fun c => (h c).2, sem_eq_zero_of_no_sems rfl r.2⟩) (Cert.PostReferenceIdeal.Value.run (F := Ideal) m ρ)

/-- Over the extended reals the last call's result is its reference's. -/
theorem algebraicPost : Cert.algebraic_PostIdeal_PostReferenceIdeal := by
  pair_intro
  · run_from Cert.PostIdeal.Gen.run_main m g
  · refine (θ_run _ _ _).mono (fun r h c => ?_) (Cert.PostReferenceIdeal.Value.run (F := Ideal) m' g')
    have e : Cert.PostReferenceIdeal.Norm.args m' c = Cert.PostIdeal.Norm.args m c := by
      obtain ⟨h0, h1, h2, h3, h4, h5, h6, h7, h8⟩ := hagree c
      unfold Cert.PostReferenceIdeal.Norm.args Cert.PostIdeal.Norm.args
      congr 1
      · funext s e l d; exact congrFun h0 (ix4 s e l d)
      · funext s e l d; exact congrFun h1 (ix4 s e l d)
      · funext s l d; exact congrFun h2 (ix3 s l d)
      · funext d; exact congrFun h3 (ix1 d)
      · funext d; exact congrFun h4 (ix1 d)
      · funext d; exact congrFun h5 (ix1 d)
      · funext d; exact congrFun h6 (ix1 d)
      · funext o d; exact congrFun h7 (ix2 o d)
      · funext o d; exact congrFun h8 (ix2 o d)
    obtain ⟨h0, hk⟩ := h c
    refine ⟨h0.trans ?_, hk⟩
    rw [Cert.PostIdeal.Norm.final6 m c, ← e]
    exact by_rows fun s l o => Cert.PostReferenceIdeal.Norm.res_at m' c s l o

/-- Every claim. -/
theorem claim : Cert.Claim := ⟨Cert.Kernel.Gen.facts, Cert.KernelIdeal.Gen.facts, Cert.ReferenceIdeal.Gen.facts,
  Cert.Pre.Gen.facts, Cert.PreIdeal.Gen.facts, Cert.PreReferenceIdeal.Gen.facts,
  Cert.Post.Gen.facts, Cert.PostIdeal.Gen.facts, Cert.PostReferenceIdeal.Gen.facts,
  frameP, framePI, frameRI, framePre, framePreIdeal, framePreReferenceIdeal, framePost, framePostIdeal, framePostReferenceIdeal,
  trivial, algebraic, trivial, algebraicPre, trivial, algebraicPost⟩

end Cert.Proof

end
